-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S128x2048 : Shape := ⟨2, ![128, 2048]⟩
abbrev S128x8 : Shape := ⟨2, ![128, 8]⟩
abbrev S512x137216 : Shape := ⟨2, ![512, 137216]⟩
abbrev S2048x4 : Shape := ⟨2, ![2048, 4]⟩
abbrev S8 : Shape := ⟨1, ![8]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S128x2048 .f32) (main_arg1 : FVec F S128x8 .f32) (main_arg2 : FVec F S128x8 .f32) (main_arg3 : FVec F S512x137216 .f32) (main_arg4 : FVec F S2048x4 .f32) (main_arg5 : FVec F S8 .f32) (main_arg6 : FVec F S8 .f32) (main_arg7 : IVec S128 32) : IVec S_ 1 :=
  let main_c : IVec S_ 32 := constantI S_ 32 0#32
  let main_v0 : IVec S128 32 := broadcastInDim S128 ![] bcast_S_S128 main_c
  let main_v1 : IVec S128 1 := cmpi .sge main_arg7 main_v0
  let main_c_0 : IVec S_ 32 := constantI S_ 32 512#32
  let main_v2 : IVec S128 32 := broadcastInDim S128 ![] bcast_S_S128 main_c_0
  let main_v3 : IVec S128 1 := cmpi .slt main_arg7 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  main_v5
-- ==== Pre_in_range_finite.lean ====
abbrev S128x2048 : Shape := ⟨2, ![128, 2048]⟩
abbrev S128x8 : Shape := ⟨2, ![128, 8]⟩
abbrev S512x137216 : Shape := ⟨2, ![512, 137216]⟩
abbrev S2048x4 : Shape := ⟨2, ![2048, 4]⟩
abbrev S8 : Shape := ⟨1, ![8]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S512x137216 : S_.BroadcastsInDim S512x137216 (![] : Fin 0 → Fin S512x137216.rank)
  reducesTo_S512x137216_S_d0_1 : S512x137216.ReducesTo [0, 1] S_
  bcast_S_S2048x4 : S_.BroadcastsInDim S2048x4 (![] : Fin 0 → Fin S2048x4.rank)
  reducesTo_S2048x4_S_d0_1 : S2048x4.ReducesTo [0, 1] S_

variable [Facts]

def fn_part1 {F : FTy → Type} [FloatOps F] (main_v5 : IVec S_ 1) (main_v9 : IVec S_ 1) (main_v13 : IVec S_ 1) (main_v14 : FVec F S2048x4 .f32) (main_v15 : FVec F S2048x4 .f32) : IVec S_ 1 :=
  let main_v16 : IVec S2048x4 1 := cmpf .olt main_v14 main_v15
  let main_c_6 : IVec S_ 1 := constantI S_ 1 1#1
  let main_v17 : IVec S_ 1 := (fun x v => Host.reduce IntOp.andi x v reducesTo_S2048x4_S_d0_1 h_S_) main_v16 main_c_6
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S128x2048 .f32) (main_arg1 : FVec F S128x8 .f32) (main_arg2 : FVec F S128x8 .f32) (main_arg3 : FVec F S512x137216 .f32) (main_arg4 : FVec F S2048x4 .f32) (main_arg5 : FVec F S8 .f32) (main_arg6 : FVec F S8 .f32) (main_arg7 : IVec S128 32) : IVec S_ 1 :=
  let main_c : IVec S_ 32 := constantI S_ 32 0#32
  let main_v0 : IVec S128 32 := broadcastInDim S128 ![] bcast_S_S128 main_c
  let main_v1 : IVec S128 1 := cmpi .sge main_arg7 main_v0
  let main_c_0 : IVec S_ 32 := constantI S_ 32 512#32
  let main_v2 : IVec S128 32 := broadcastInDim S128 ![] bcast_S_S128 main_c_0
  let main_v3 : IVec S128 1 := cmpi .slt main_arg7 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  let main_v6 : FVec F S128x2048 .f32 := Host.absf main_arg0
  let main_cst : FVec F S_ .f32 := constant S_ .f32 0x7F800000#32
  let main_v7 : FVec F S128x2048 .f32 := broadcastInDim S128x2048 ![] bcast_S_S128x2048 main_cst
  let main_v8 : IVec S128x2048 1 := cmpf .olt main_v6 main_v7
  let main_c_2 : IVec S_ 1 := constantI S_ 1 1#1
  let main_v9 : IVec S_ 1 := (fun x v => Host.reduce IntOp.andi x v reducesTo_S128x2048_S_d0_1 h_S_) main_v8 main_c_2
  let main_v10 : FVec F S512x137216 .f32 := Host.absf main_arg3
  let main_cst_3 : FVec F S_ .f32 := constant S_ .f32 0x7F800000#32
  let main_v11 : FVec F S512x137216 .f32 := broadcastInDim S512x137216 ![] bcast_S_S512x137216 main_cst_3
  let main_v12 : IVec S512x137216 1 := cmpf .olt main_v10 main_v11
  let main_c_4 : IVec S_ 1 := constantI S_ 1 1#1
  let main_v13 : IVec S_ 1 := (fun x v => Host.reduce IntOp.andi x v reducesTo_S512x137216_S_d0_1 h_S_) main_v12 main_c_4
  let main_v14 : FVec F S2048x4 .f32 := Host.absf main_arg4
  let main_cst_5 : FVec F S_ .f32 := constant S_ .f32 0x7F800000#32
  let main_v15 : FVec F S2048x4 .f32 := broadcastInDim S2048x4 ![] bcast_S_S2048x4 main_cst_5
  fn_part1 (F := F) main_v5 main_v9 main_v13 main_v14 main_v15
-- ==== Kernel.lean ====
abbrev S128x2048 : Shape := ⟨2, ![128, 2048]⟩
abbrev S128x8 : Shape := ⟨2, ![128, 8]⟩
abbrev S512x137216 : Shape := ⟨2, ![512, 137216]⟩
abbrev S2048x4 : Shape := ⟨2, ![2048, 4]⟩
abbrev S8 : Shape := ⟨1, ![8]⟩
abbrev S128 : Shape := ⟨1, ![128]⟩
abbrev S4x2048 : Shape := ⟨2, ![4, 2048]⟩
abbrev S1x8 : Shape := ⟨2, ![1, 8]⟩
abbrev S_ : Shape := ⟨0, ![]⟩
abbrev S512 : Shape := ⟨1, ![512]⟩
abbrev S128x1 : Shape := ⟨2, ![128, 1]⟩
abbrev S8x137216 : Shape := ⟨2, ![8, 137216]⟩
abbrev S1 : Shape := ⟨1, ![1]⟩
abbrev S1x2048 : Shape := ⟨2, ![1, 2048]⟩
abbrev S1x1 : Shape := ⟨2, ![1, 1]⟩
abbrev S8x2048 : Shape := ⟨2, ![8, 2048]⟩
abbrev S8x1 : Shape := ⟨2, ![8, 1]⟩
abbrev S8x8 : Shape := ⟨2, ![8, 8]⟩
abbrev S32x4096 : Shape := ⟨2, ![32, 4096]⟩
abbrev S8x128 : Shape := ⟨2, ![8, 128]⟩
abbrev S8x4096 : Shape := ⟨2, ![8, 4096]⟩
abbrev S8x32 : Shape := ⟨2, ![8, 32]⟩
abbrev S128x1024 : Shape := ⟨2, ![128, 1024]⟩
abbrev S8x1024 : Shape := ⟨2, ![8, 1024]⟩
abbrev S1x137216 : Shape := ⟨2, ![1, 137216]⟩
abbrev S128x8x128 : Shape := ⟨3, ![128, 8, 128]⟩

abbrev nBuf : Space → Nat
  | .hbm => 24
  | .vmem => 23
  | .smem => 2
  | _ => 0

abbrev bufTy : (tb : Table) → Fin (tcTables nBuf tb) → BufTy
  | .hbm, ⟨0, _⟩ => ⟨S128x2048, .f32⟩
  | .hbm, ⟨1, _⟩ => ⟨S128x8, .f32⟩
  | .hbm, ⟨2, _⟩ => ⟨S128x8, .f32⟩
  | .hbm, ⟨3, _⟩ => ⟨S512x137216, .f32⟩
  | .hbm, ⟨4, _⟩ => ⟨S2048x4, .f32⟩
  | .hbm, ⟨5, _⟩ => ⟨S8, .f32⟩
  | .hbm, ⟨6, _⟩ => ⟨S8, .f32⟩
  | .hbm, ⟨7, _⟩ => ⟨S4x2048, .f32⟩
  | .hbm, ⟨8, _⟩ => ⟨S1x8, .f32⟩
  | .hbm, ⟨9, _⟩ => ⟨S1x8, .f32⟩
  | .hbm, ⟨10, _⟩ => ⟨S_, .i32⟩
  | .hbm, ⟨11, _⟩ => ⟨S512, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S512x137216, .f32⟩
  | .hbm, ⟨22, _⟩ => ⟨S128x1024, .f32⟩
  | .hbm, ⟨23, _⟩ => ⟨S128x8x128, .f32⟩
  | .local _ .vmem, ⟨0, _⟩ => ⟨S8x137216, .f32⟩
  | .local _ .vmem, ⟨1, _⟩ => ⟨S8x137216, .f32⟩
  | .local _ .vmem, ⟨2, _⟩ => ⟨S128x2048, .f32⟩
  | .local _ .vmem, ⟨3, _⟩ => ⟨S128x8, .f32⟩
  | .local _ .vmem, ⟨4, _⟩ => ⟨S128x8, .f32⟩
  | .local _ .vmem, ⟨5, _⟩ => ⟨S1x8, .f32⟩
  | .local _ .vmem, ⟨6, _⟩ => ⟨S1x8, .f32⟩
  | .local _ .vmem, ⟨7, _⟩ => ⟨S4x2048, .f32⟩
  | .local _ .vmem, ⟨8, _⟩ => ⟨S8x137216, .f32⟩
  | .local _ .vmem, ⟨9, _⟩ => ⟨S8x137216, .f32⟩
  | .local _ .vmem, ⟨10, _⟩ => ⟨S8x2048, .f32⟩
  | .local _ .vmem, ⟨11, _⟩ => ⟨S8x2048, .f32⟩
  | .local _ .vmem, ⟨12, _⟩ => ⟨S8x8, .f32⟩
  | .local _ .vmem, ⟨13, _⟩ => ⟨S8x8, .f32⟩
  | .local _ .vmem, ⟨14, _⟩ => ⟨S8x8, .f32⟩
  | .local _ .vmem, ⟨15, _⟩ => ⟨S8x8, .f32⟩
  | .local _ .vmem, ⟨16, _⟩ => ⟨S1x8, .f32⟩
  | .local _ .vmem, ⟨17, _⟩ => ⟨S1x8, .f32⟩
  | .local _ .vmem, ⟨18, _⟩ => ⟨S4x2048, .f32⟩
  | .local _ .vmem, ⟨19, _⟩ => ⟨S8x1024, .f32⟩
  | .local _ .vmem, ⟨20, _⟩ => ⟨S8x1024, .f32⟩
  | .local _ .vmem, ⟨21, _⟩ => ⟨S8x137216, .f32⟩
  | .local _ .vmem, ⟨22, _⟩ => ⟨S8x137216, .f32⟩
  | .local _ .smem, ⟨0, _⟩ => ⟨S512, .i32⟩
  | .local _ .smem, ⟨1, _⟩ => ⟨S128, .i32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v11 : Ref sig .tc := ⟨.smem, 0, rfl⟩
abbrev main_arg7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c8_i32 : BitVec 32 := 8#32
  let arg0 : BitVec 32 := BitVec.ofNat 32 (i 0).val
  let v0 : BitVec 32 := Scalar.muli c8_i32 arg0
  let v1 : BitVec 32 := Scalar.addi v0 c0_i32
  let v2 : Index := Scalar.indexCast v1
  ![v2.toNat]
def k0_off2 (v3 : BitVec 32) : Fin 2 → Nat :=
  let c0_i32_20 : BitVec 32 := 0#32
  let v62 : BitVec 32 := Scalar.maxsi v3 c0_i32_20
  let v63 : Index := Scalar.indexCast v62
  let c0 : Index := 0#32
  ![v63.toNat, 0]
def k0_cond2 (v3 : BitVec 32) (v7 : BitVec 32) (v11 : BitVec 32) (v15 : BitVec 32) (v19 : BitVec 32) (v23 : BitVec 32) (v27 : BitVec 32) (v31 : BitVec 32) : BitVec 1 :=
  let c0_i32_15 : BitVec 32 := 0#32
  let c0_i32_7 : BitVec 32 := 0#32
  let v32 : BitVec 1 := Scalar.cmpi .sge v3 c0_i32_7
  let v33 : BitVec 32 := Scalar.extui v32
  let v48 : BitVec 32 := Scalar.addi c0_i32_15 v33
  let c0_i32_8 : BitVec 32 := 0#32
  let v34 : BitVec 1 := Scalar.cmpi .sge v7 c0_i32_8
  let v35 : BitVec 32 := Scalar.extui v34
  let v49 : BitVec 32 := Scalar.addi v48 v35
  let c0_i32_9 : BitVec 32 := 0#32
  let v36 : BitVec 1 := Scalar.cmpi .sge v11 c0_i32_9
  let v37 : BitVec 32 := Scalar.extui v36
  let v50 : BitVec 32 := Scalar.addi v49 v37
  let c0_i32_10 : BitVec 32 := 0#32
  let v38 : BitVec 1 := Scalar.cmpi .sge v15 c0_i32_10
  let v39 : BitVec 32 := Scalar.extui v38
  let v51 : BitVec 32 := Scalar.addi v50 v39
  let c0_i32_11 : BitVec 32 := 0#32
  let v40 : BitVec 1 := Scalar.cmpi .sge v19 c0_i32_11
  let v41 : BitVec 32 := Scalar.extui v40
  let v52 : BitVec 32 := Scalar.addi v51 v41
  let c0_i32_12 : BitVec 32 := 0#32
  let v42 : BitVec 1 := Scalar.cmpi .sge v23 c0_i32_12
  let v43 : BitVec 32 := Scalar.extui v42
  let v53 : BitVec 32 := Scalar.addi v52 v43
  let c0_i32_13 : BitVec 32 := 0#32
  let v44 : BitVec 1 := Scalar.cmpi .sge v27 c0_i32_13
  let v45 : BitVec 32 := Scalar.extui v44
  let v54 : BitVec 32 := Scalar.addi v53 v45
  let c0_i32_14 : BitVec 32 := 0#32
  let v46 : BitVec 1 := Scalar.cmpi .sge v31 c0_i32_14
  let v47 : BitVec 32 := Scalar.extui v46
  let v55 : BitVec 32 := Scalar.addi v54 v47
  let c0_i32_18 : BitVec 32 := 0#32
  let v59 : BitVec 1 := Scalar.cmpi .sgt v55 c0_i32_18
  let v60 : BitVec 32 := Scalar.extui v59
  let c0_i32_19 : BitVec 32 := 0#32
  let v61 : BitVec 1 := Scalar.cmpi .ne v60 c0_i32_19
  v61

def k0_off3 (v3 : BitVec 32) : Fin 2 → Nat :=
  let c0_i32_20 : BitVec 32 := 0#32
  let v62 : BitVec 32 := Scalar.maxsi v3 c0_i32_20
  let v65 : Index := Scalar.indexCast v62
  let c0_21 : Index := 0#32
  ![v65.toNat, 0]
def k0_off4 (v7 : BitVec 32) : Fin 2 → Nat :=
  let c0_i32_24 : BitVec 32 := 0#32
  let v73 : BitVec 32 := Scalar.maxsi v7 c0_i32_24
  let v74 : Index := Scalar.indexCast v73
  let c0_25 : Index := 0#32
  ![v74.toNat, 0]
def k0_off5 (v7 : BitVec 32) : Fin 2 → Nat :=
  let c0_i32_24 : BitVec 32 := 0#32
  let v73 : BitVec 32 := Scalar.maxsi v7 c0_i32_24
  let v76 : Index := Scalar.indexCast v73
  let c0_26 : Index := 0#32
  ![v76.toNat, 0]
def k0_off6 (v11 : BitVec 32) : Fin 2 → Nat :=
  let c0_i32_29 : BitVec 32 := 0#32
  let v84 : BitVec 32 := Scalar.maxsi v11 c0_i32_29
  let v85 : Index := Scalar.indexCast v84
  let c0_30 : Index := 0#32
  ![v85.toNat, 0]
def k0_off7 (v11 : BitVec 32) : Fin 2 → Nat :=
  let c0_i32_29 : BitVec 32 := 0#32
  let v84 : BitVec 32 := Scalar.maxsi v11 c0_i32_29
  let v87 : Index := Scalar.indexCast v84
  let c0_31 : Index := 0#32
  ![v87.toNat, 0]
def k0_off8 (v15 : BitVec 32) : Fin 2 → Nat :=
  let c0_i32_34 : BitVec 32 := 0#32
  let v95 : BitVec 32 := Scalar.maxsi v15 c0_i32_34
  let v96 : Index := Scalar.indexCast v95
  let c0_35 : Index := 0#32
  ![v96.toNat, 0]
def k0_off9 (v15 : BitVec 32) : Fin 2 → Nat :=
  let c0_i32_34 : BitVec 32 := 0#32
  let v95 : BitVec 32 := Scalar.maxsi v15 c0_i32_34
  let v98 : Index := Scalar.indexCast v95
  let c0_36 : Index := 0#32
  ![v98.toNat, 0]
def k0_off10 (v19 : BitVec 32) : Fin 2 → Nat :=
  let c0_i32_39 : BitVec 32 := 0#32
  let v106 : BitVec 32 := Scalar.maxsi v19 c0_i32_39
  let v107 : Index := Scalar.indexCast v106
  let c0_40 : Index := 0#32
  ![v107.toNat, 0]
def k0_off11 (v19 : BitVec 32) : Fin 2 → Nat :=
  let c0_i32_39 : BitVec 32 := 0#32
  let v106 : BitVec 32 := Scalar.maxsi v19 c0_i32_39
  let v109 : Index := Scalar.indexCast v106
  let c0_41 : Index := 0#32
  ![v109.toNat, 0]
def k0_off12 (v23 : BitVec 32) : Fin 2 → Nat :=
  let c0_i32_44 : BitVec 32 := 0#32
  let v117 : BitVec 32 := Scalar.maxsi v23 c0_i32_44
  let v118 : Index := Scalar.indexCast v117
  let c0_45 : Index := 0#32
  ![v118.toNat, 0]
def k0_off13 (v23 : BitVec 32) : Fin 2 → Nat :=
  let c0_i32_44 : BitVec 32 := 0#32
  let v117 : BitVec 32 := Scalar.maxsi v23 c0_i32_44
  let v120 : Index := Scalar.indexCast v117
  let c0_46 : Index := 0#32
  ![v120.toNat, 0]
def k0_off14 (v27 : BitVec 32) : Fin 2 → Nat :=
  let c0_i32_49 : BitVec 32 := 0#32
  let v128 : BitVec 32 := Scalar.maxsi v27 c0_i32_49
  let v129 : Index := Scalar.indexCast v128
  let c0_50 : Index := 0#32
  ![v129.toNat, 0]
def k0_off15 (v27 : BitVec 32) : Fin 2 → Nat :=
  let c0_i32_49 : BitVec 32 := 0#32
  let v128 : BitVec 32 := Scalar.maxsi v27 c0_i32_49
  let v131 : Index := Scalar.indexCast v128
  let c0_51 : Index := 0#32
  ![v131.toNat, 0]
def k0_off16 (v31 : BitVec 32) : Fin 2 → Nat :=
  let c0_i32_54 : BitVec 32 := 0#32
  let v139 : BitVec 32 := Scalar.maxsi v31 c0_i32_54
  let v140 : Index := Scalar.indexCast v139
  let c0_55 : Index := 0#32
  ![v140.toNat, 0]
def k0_off17 (v31 : BitVec 32) : Fin 2 → Nat :=
  let c0_i32_54 : BitVec 32 := 0#32
  let v139 : BitVec 32 := Scalar.maxsi v31 c0_i32_54
  let v142 : Index := Scalar.indexCast v139
  let c0_56 : Index := 0#32
  ![v142.toNat, 0]

def k0_chk1 (v3 : BitVec 32) (v7 : BitVec 32) (v11 : BitVec 32) (v15 : BitVec 32) (v19 : BitVec 32) (v23 : BitVec 32) (v27 : BitVec 32) (v31 : BitVec 32) : Prop :=
  (∀ (k0_h2 : k0_cond2 v3 v7 v11 v15 v19 v23 v27 v31 = 1#1), ∀ a, (k0_off2 v3) a + S1x2048.size a ≤ S128x2048.size a) ∧
  (∀ (k0_h2 : k0_cond2 v3 v7 v11 v15 v19 v23 v27 v31 = 1#1), ∀ a, (k0_off3 v3) a + S1x8.size a ≤ S128x8.size a) ∧
  (∀ (k0_h2 : k0_cond2 v3 v7 v11 v15 v19 v23 v27 v31 = 1#1), ∀ a, (k0_off4 v7) a + S1x2048.size a ≤ S128x2048.size a) ∧
  (∀ (k0_h2 : k0_cond2 v3 v7 v11 v15 v19 v23 v27 v31 = 1#1), ∀ a, (k0_off5 v7) a + S1x8.size a ≤ S128x8.size a) ∧
  (∀ (k0_h2 : k0_cond2 v3 v7 v11 v15 v19 v23 v27 v31 = 1#1), ∀ a, (k0_off6 v11) a + S1x2048.size a ≤ S128x2048.size a) ∧
  (∀ (k0_h2 : k0_cond2 v3 v7 v11 v15 v19 v23 v27 v31 = 1#1), ∀ a, (k0_off7 v11) a + S1x8.size a ≤ S128x8.size a) ∧
  (∀ (k0_h2 : k0_cond2 v3 v7 v11 v15 v19 v23 v27 v31 = 1#1), ∀ a, (k0_off8 v15) a + S1x2048.size a ≤ S128x2048.size a) ∧
  (∀ (k0_h2 : k0_cond2 v3 v7 v11 v15 v19 v23 v27 v31 = 1#1), ∀ a, (k0_off9 v15) a + S1x8.size a ≤ S128x8.size a) ∧
  (∀ (k0_h2 : k0_cond2 v3 v7 v11 v15 v19 v23 v27 v31 = 1#1), ∀ a, (k0_off10 v19) a + S1x2048.size a ≤ S128x2048.size a) ∧
  (∀ (k0_h2 : k0_cond2 v3 v7 v11 v15 v19 v23 v27 v31 = 1#1), ∀ a, (k0_off11 v19) a + S1x8.size a ≤ S128x8.size a) ∧
  (∀ (k0_h2 : k0_cond2 v3 v7 v11 v15 v19 v23 v27 v31 = 1#1), ∀ a, (k0_off12 v23) a + S1x2048.size a ≤ S128x2048.size a) ∧
  (∀ (k0_h2 : k0_cond2 v3 v7 v11 v15 v19 v23 v27 v31 = 1#1), ∀ a, (k0_off13 v23) a + S1x8.size a ≤ S128x8.size a) ∧
  (∀ (k0_h2 : k0_cond2 v3 v7 v11 v15 v19 v23 v27 v31 = 1#1), ∀ a, (k0_off14 v27) a + S1x2048.size a ≤ S128x2048.size a) ∧
  (∀ (k0_h2 : k0_cond2 v3 v7 v11 v15 v19 v23 v27 v31 = 1#1), ∀ a, (k0_off15 v27) a + S1x8.size a ≤ S128x8.size a) ∧
  (∀ (k0_h2 : k0_cond2 v3 v7 v11 v15 v19 v23 v27 v31 = 1#1), ∀ a, (k0_off16 v31) a + S1x2048.size a ≤ S128x2048.size a) ∧
  (∀ (k0_h2 : k0_cond2 v3 v7 v11 v15 v19 v23 v27 v31 = 1#1), ∀ a, (k0_off17 v31) a + S1x8.size a ≤ S128x8.size a)
theorem k0_off2_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off2 v3) a + S1x2048.size a ≤ S128x2048.size a := fun v3 v7 v11 v15 v19 v23 v27 v31 k0_hw1 k0_h2 => k0_hw1.1 k0_h2
theorem k0_off3_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off3 v3) a + S1x8.size a ≤ S128x8.size a := fun v3 v7 v11 v15 v19 v23 v27 v31 k0_hw1 k0_h2 => k0_hw1.2.1 k0_h2
theorem k0_off4_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off4 v7) a + S1x2048.size a ≤ S128x2048.size a := fun v3 v7 v11 v15 v19 v23 v27 v31 k0_hw1 k0_h2 => k0_hw1.2.2.1 k0_h2
theorem k0_off5_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off5 v7) a + S1x8.size a ≤ S128x8.size a := fun v3 v7 v11 v15 v19 v23 v27 v31 k0_hw1 k0_h2 => k0_hw1.2.2.2.1 k0_h2
theorem k0_off6_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off6 v11) a + S1x2048.size a ≤ S128x2048.size a := fun v3 v7 v11 v15 v19 v23 v27 v31 k0_hw1 k0_h2 => k0_hw1.2.2.2.2.1 k0_h2
theorem k0_off7_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off7 v11) a + S1x8.size a ≤ S128x8.size a := fun v3 v7 v11 v15 v19 v23 v27 v31 k0_hw1 k0_h2 => k0_hw1.2.2.2.2.2.1 k0_h2
theorem k0_off8_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off8 v15) a + S1x2048.size a ≤ S128x2048.size a := fun v3 v7 v11 v15 v19 v23 v27 v31 k0_hw1 k0_h2 => k0_hw1.2.2.2.2.2.2.1 k0_h2
theorem k0_off9_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off9 v15) a + S1x8.size a ≤ S128x8.size a := fun v3 v7 v11 v15 v19 v23 v27 v31 k0_hw1 k0_h2 => k0_hw1.2.2.2.2.2.2.2.1 k0_h2
theorem k0_off10_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off10 v19) a + S1x2048.size a ≤ S128x2048.size a := fun v3 v7 v11 v15 v19 v23 v27 v31 k0_hw1 k0_h2 => k0_hw1.2.2.2.2.2.2.2.2.1 k0_h2
theorem k0_off11_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off11 v19) a + S1x8.size a ≤ S128x8.size a := fun v3 v7 v11 v15 v19 v23 v27 v31 k0_hw1 k0_h2 => k0_hw1.2.2.2.2.2.2.2.2.2.1 k0_h2
theorem k0_off12_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off12 v23) a + S1x2048.size a ≤ S128x2048.size a := fun v3 v7 v11 v15 v19 v23 v27 v31 k0_hw1 k0_h2 => k0_hw1.2.2.2.2.2.2.2.2.2.2.1 k0_h2
theorem k0_off13_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off13 v23) a + S1x8.size a ≤ S128x8.size a := fun v3 v7 v11 v15 v19 v23 v27 v31 k0_hw1 k0_h2 => k0_hw1.2.2.2.2.2.2.2.2.2.2.2.1 k0_h2
theorem k0_off14_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off14 v27) a + S1x2048.size a ≤ S128x2048.size a := fun v3 v7 v11 v15 v19 v23 v27 v31 k0_hw1 k0_h2 => k0_hw1.2.2.2.2.2.2.2.2.2.2.2.2.1 k0_h2
theorem k0_off15_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off15 v27) a + S1x8.size a ≤ S128x8.size a := fun v3 v7 v11 v15 v19 v23 v27 v31 k0_hw1 k0_h2 => k0_hw1.2.2.2.2.2.2.2.2.2.2.2.2.2.1 k0_h2
theorem k0_off16_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off16 v31) a + S1x2048.size a ≤ S128x2048.size a := fun v3 v7 v11 v15 v19 v23 v27 v31 k0_hw1 k0_h2 => k0_hw1.2.2.2.2.2.2.2.2.2.2.2.2.2.2.1 k0_h2
theorem k0_off17_inb : ∀ (v3 : BitVec 32) (v7 : BitVec 32) (v11 : BitVec 32) (v15 : BitVec 32) (v19 : BitVec 32) (v23 : BitVec 32) (v27 : BitVec 32) (v31 : BitVec 32) (k0_hw1 : k0_chk1 v3 v7 v11 v15 v19 v23 v27 v31), ∀ (k0_h2 : k0_cond2 v3 v7 v11 v15 v19 v23 v27 v31 = 1#1), ∀ a, (k0_off17 v31) a + S1x8.size a ≤ S128x8.size a := fun v3 v7 v11 v15 v19 v23 v27 v31 k0_hw1 k0_h2 => k0_hw1.2.2.2.2.2.2.2.2.2.2.2.2.2.2.2 k0_h2

def k0_cond1 (v3 : BitVec 32) (v7 : BitVec 32) (v11 : BitVec 32) (v15 : BitVec 32) (v19 : BitVec 32) (v23 : BitVec 32) (v27 : BitVec 32) (v31 : BitVec 32) : BitVec 1 :=
  let c0_i32_15 : BitVec 32 := 0#32
  let c0_i32_7 : BitVec 32 := 0#32
  let v32 : BitVec 1 := Scalar.cmpi .sge v3 c0_i32_7
  let v33 : BitVec 32 := Scalar.extui v32
  let v48 : BitVec 32 := Scalar.addi c0_i32_15 v33
  let c0_i32_8 : BitVec 32 := 0#32
  let v34 : BitVec 1 := Scalar.cmpi .sge v7 c0_i32_8
  let v35 : BitVec 32 := Scalar.extui v34
  let v49 : BitVec 32 := Scalar.addi v48 v35
  let c0_i32_9 : BitVec 32 := 0#32
  let v36 : BitVec 1 := Scalar.cmpi .sge v11 c0_i32_9
  let v37 : BitVec 32 := Scalar.extui v36
  let v50 : BitVec 32 := Scalar.addi v49 v37
  let c0_i32_10 : BitVec 32 := 0#32
  let v38 : BitVec 1 := Scalar.cmpi .sge v15 c0_i32_10
  let v39 : BitVec 32 := Scalar.extui v38
  let v51 : BitVec 32 := Scalar.addi v50 v39
  let c0_i32_11 : BitVec 32 := 0#32
  let v40 : BitVec 1 := Scalar.cmpi .sge v19 c0_i32_11
  let v41 : BitVec 32 := Scalar.extui v40
  let v52 : BitVec 32 := Scalar.addi v51 v41
  let c0_i32_12 : BitVec 32 := 0#32
  let v42 : BitVec 1 := Scalar.cmpi .sge v23 c0_i32_12
  let v43 : BitVec 32 := Scalar.extui v42
  let v53 : BitVec 32 := Scalar.addi v52 v43
  let c0_i32_13 : BitVec 32 := 0#32
  let v44 : BitVec 1 := Scalar.cmpi .sge v27 c0_i32_13
  let v45 : BitVec 32 := Scalar.extui v44
  let v54 : BitVec 32 := Scalar.addi v53 v45
  let c0_i32_14 : BitVec 32 := 0#32
  let v46 : BitVec 1 := Scalar.cmpi .sge v31 c0_i32_14
  let v47 : BitVec 32 := Scalar.extui v46
  let v55 : BitVec 32 := Scalar.addi v54 v47
  let c0_i32_16 : BitVec 32 := 0#32
  let v56 : BitVec 1 := Scalar.cmpi .eq v55 c0_i32_16
  let v57 : BitVec 32 := Scalar.extui v56
  let c0_i32_17 : BitVec 32 := 0#32
  let v58 : BitVec 1 := Scalar.cmpi .ne v57 c0_i32_17
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x137216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x137216 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

abbrev pre1 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (v10 : BitVec 32) : Fin 2 → Nat :=
  let c0_i32_7 : BitVec 32 := 0#32
  ![v10.toNat, 0]

def k1_chk1 (i : grid1.Coords) (v10 : BitVec 32) : Prop :=
  (∀ (k1_h1 : k1_cond1 i = 1#1), ∀ a, (k1_off1 v10) a + S1x137216.size a ≤ S512x137216.size a)
theorem k1_off1_inb : ∀ (i : grid1.Coords) (v10 : BitVec 32) (k1_hw1 : k1_chk1 i v10), ∀ (k1_h1 : k1_cond1 i = 1#1), ∀ a, (k1_off1 v10) a + S1x137216.size a ≤ S512x137216.size a := fun i v10 k1_hw1 k1_h1 => k1_hw1 k1_h1

def k1_off2 (v11 : BitVec 32) : Fin 2 → Nat :=
  let c0_i32_11 : BitVec 32 := 0#32
  ![v11.toNat, 0]

def k1_chk2 (i : grid1.Coords) (v11 : BitVec 32) : Prop :=
  (∀ (k1_h1 : k1_cond1 i = 1#1), ∀ a, (k1_off2 v11) a + S1x137216.size a ≤ S512x137216.size a)
theorem k1_off2_inb : ∀ (i : grid1.Coords) (v11 : BitVec 32) (k1_hw2 : k1_chk2 i v11), ∀ (k1_h1 : k1_cond1 i = 1#1), ∀ a, (k1_off2 v11) a + S1x137216.size a ≤ S512x137216.size a := fun i v11 k1_hw2 k1_h1 => k1_hw2 k1_h1

def k1_off3 (v12 : BitVec 32) : Fin 2 → Nat :=
  let c0_i32_15 : BitVec 32 := 0#32
  ![v12.toNat, 0]

def k1_chk3 (i : grid1.Coords) (v12 : BitVec 32) : Prop :=
  (∀ (k1_h1 : k1_cond1 i = 1#1), ∀ a, (k1_off3 v12) a + S1x137216.size a ≤ S512x137216.size a)
theorem k1_off3_inb : ∀ (i : grid1.Coords) (v12 : BitVec 32) (k1_hw3 : k1_chk3 i v12), ∀ (k1_h1 : k1_cond1 i = 1#1), ∀ a, (k1_off3 v12) a + S1x137216.size a ≤ S512x137216.size a := fun i v12 k1_hw3 k1_h1 => k1_hw3 k1_h1

def k1_off4 (v13 : BitVec 32) : Fin 2 → Nat :=
  let c0_i32_18 : BitVec 32 := 0#32
  ![v13.toNat, 0]

def k1_chk4 (i : grid1.Coords) (v13 : BitVec 32) : Prop :=
  (∀ (k1_h1 : k1_cond1 i = 1#1), ∀ a, (k1_off4 v13) a + S1x137216.size a ≤ S512x137216.size a)
theorem k1_off4_inb : ∀ (i : grid1.Coords) (v13 : BitVec 32) (k1_hw4 : k1_chk4 i v13), ∀ (k1_h1 : k1_cond1 i = 1#1), ∀ a, (k1_off4 v13) a + S1x137216.size a ≤ S512x137216.size a := fun i v13 k1_hw4 k1_h1 => k1_hw4 k1_h1

def k1_off5 (v14 : BitVec 32) : Fin 2 → Nat :=
  let c0_i32_21 : BitVec 32 := 0#32
  ![v14.toNat, 0]

def k1_chk5 (i : grid1.Coords) (v14 : BitVec 32) : Prop :=
  (∀ (k1_h1 : k1_cond1 i = 1#1), ∀ a, (k1_off5 v14) a + S1x137216.size a ≤ S512x137216.size a)
theorem k1_off5_inb : ∀ (i : grid1.Coords) (v14 : BitVec 32) (k1_hw5 : k1_chk5 i v14), ∀ (k1_h1 : k1_cond1 i = 1#1), ∀ a, (k1_off5 v14) a + S1x137216.size a ≤ S512x137216.size a := fun i v14 k1_hw5 k1_h1 => k1_hw5 k1_h1

def k1_off6 (v15 : BitVec 32) : Fin 2 → Nat :=
  let c0_i32_24 : BitVec 32 := 0#32
  ![v15.toNat, 0]

def k1_chk6 (i : grid1.Coords) (v15 : BitVec 32) : Prop :=
  (∀ (k1_h1 : k1_cond1 i = 1#1), ∀ a, (k1_off6 v15) a + S1x137216.size a ≤ S512x137216.size a)
theorem k1_off6_inb : ∀ (i : grid1.Coords) (v15 : BitVec 32) (k1_hw6 : k1_chk6 i v15), ∀ (k1_h1 : k1_cond1 i = 1#1), ∀ a, (k1_off6 v15) a + S1x137216.size a ≤ S512x137216.size a := fun i v15 k1_hw6 k1_h1 => k1_hw6 k1_h1

def k1_off7 (v16 : BitVec 32) : Fin 2 → Nat :=
  let c0_i32_27 : BitVec 32 := 0#32
  ![v16.toNat, 0]

def k1_chk7 (i : grid1.Coords) (v16 : BitVec 32) : Prop :=
  (∀ (k1_h1 : k1_cond1 i = 1#1), ∀ a, (k1_off7 v16) a + S1x137216.size a ≤ S512x137216.size a)
theorem k1_off7_inb : ∀ (i : grid1.Coords) (v16 : BitVec 32) (k1_hw7 : k1_chk7 i v16), ∀ (k1_h1 : k1_cond1 i = 1#1), ∀ a, (k1_off7 v16) a + S1x137216.size a ≤ S512x137216.size a := fun i v16 k1_hw7 k1_h1 => k1_hw7 k1_h1

def k1_off8 (v17 : BitVec 32) : Fin 2 → Nat :=
  let c0_i32_30 : BitVec 32 := 0#32
  ![v17.toNat, 0]

def k1_chk8 (i : grid1.Coords) (v17 : BitVec 32) : Prop :=
  (∀ (k1_h1 : k1_cond1 i = 1#1), ∀ a, (k1_off8 v17) a + S1x137216.size a ≤ S512x137216.size a)
theorem k1_off8_inb : ∀ (i : grid1.Coords) (v17 : BitVec 32) (k1_hw8 : k1_chk8 i v17), ∀ (k1_h1 : k1_cond1 i = 1#1), ∀ a, (k1_off8 v17) a + S1x137216.size a ≤ S512x137216.size a := fun i v17 k1_hw8 k1_h1 => k1_hw8 k1_h1

def k1_cond2 (i : grid1.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k1_cond3 (i : grid1.Coords) : BitVec 1 :=
  let arg0 : BitVec 32 := BitVec.ofNat 32 (i 0).val
  let c1_i32_4 : BitVec 32 := 1#32
  let v10 : BitVec 32 := Scalar.addi arg0 c1_i32_4
  let c16_i32 : BitVec 32 := 16#32
  let v11 : BitVec 1 := Scalar.cmpi .slt v10 c16_i32
  let v12 : BitVec 32 := Scalar.extui v11
  let c0_i32_5 : BitVec 32 := 0#32
  let v13 : BitVec 1 := Scalar.cmpi .ne v12 c0_i32_5
  v13

def k1_off9 (i : grid1.Coords) (c0_i32_236 : BitVec 32) : Fin 1 → Nat :=
  let c8_i32_235 : BitVec 32 := 8#32
  let arg0 : BitVec 32 := BitVec.ofNat 32 (i 0).val
  let c1_i32_234 : BitVec 32 := 1#32
  let v696 : BitVec 32 := Scalar.addi arg0 c1_i32_234
  let v697 : BitVec 32 := Scalar.muli c8_i32_235 v696
  let v698 : BitVec 32 := Scalar.addi v697 c0_i32_236
  let v699 : Index := Scalar.indexCast v698
  ![v699.toNat]
def k1_off10 (v700 : BitVec 32) : Fin 2 → Nat :=
  let c0_i32_254 : BitVec 32 := 0#32
  ![v700.toNat, 0]

def k1_chk9 (i : grid1.Coords) (v700 : BitVec 32) : Prop :=
  (∀ (k1_h2 : k1_cond2 i = 1#1), ∀ (k1_h3 : k1_cond3 i = 1#1), ∀ a, (k1_off10 v700) a + S1x137216.size a ≤ S512x137216.size a)
theorem k1_off10_inb : ∀ (i : grid1.Coords) (v700 : BitVec 32) (k1_hw9 : k1_chk9 i v700), ∀ (k1_h2 : k1_cond2 i = 1#1), ∀ (k1_h3 : k1_cond3 i = 1#1), ∀ a, (k1_off10 v700) a + S1x137216.size a ≤ S512x137216.size a := fun i v700 k1_hw9 k1_h2 k1_h3 => k1_hw9 k1_h2 k1_h3

def k1_off11 (v704 : BitVec 32) : Fin 2 → Nat :=
  let c0_i32_258 : BitVec 32 := 0#32
  ![v704.toNat, 0]

def k1_chk10 (i : grid1.Coords) (v704 : BitVec 32) : Prop :=
  (∀ (k1_h2 : k1_cond2 i = 1#1), ∀ (k1_h3 : k1_cond3 i = 1#1), ∀ a, (k1_off11 v704) a + S1x137216.size a ≤ S512x137216.size a)
theorem k1_off11_inb : ∀ (i : grid1.Coords) (v704 : BitVec 32) (k1_hw10 : k1_chk10 i v704), ∀ (k1_h2 : k1_cond2 i = 1#1), ∀ (k1_h3 : k1_cond3 i = 1#1), ∀ a, (k1_off11 v704) a + S1x137216.size a ≤ S512x137216.size a := fun i v704 k1_hw10 k1_h2 k1_h3 => k1_hw10 k1_h2 k1_h3

def k1_off12 (v708 : BitVec 32) : Fin 2 → Nat :=
  let c0_i32_262 : BitVec 32 := 0#32
  ![v708.toNat, 0]

def k1_chk11 (i : grid1.Coords) (v708 : BitVec 32) : Prop :=
  (∀ (k1_h2 : k1_cond2 i = 1#1), ∀ (k1_h3 : k1_cond3 i = 1#1), ∀ a, (k1_off12 v708) a + S1x137216.size a ≤ S512x137216.size a)
theorem k1_off12_inb : ∀ (i : grid1.Coords) (v708 : BitVec 32) (k1_hw11 : k1_chk11 i v708), ∀ (k1_h2 : k1_cond2 i = 1#1), ∀ (k1_h3 : k1_cond3 i = 1#1), ∀ a, (k1_off12 v708) a + S1x137216.size a ≤ S512x137216.size a := fun i v708 k1_hw11 k1_h2 k1_h3 => k1_hw11 k1_h2 k1_h3

def k1_off13 (v712 : BitVec 32) : Fin 2 → Nat :=
  let c0_i32_266 : BitVec 32 := 0#32
  ![v712.toNat, 0]

def k1_chk12 (i : grid1.Coords) (v712 : BitVec 32) : Prop :=
  (∀ (k1_h2 : k1_cond2 i = 1#1), ∀ (k1_h3 : k1_cond3 i = 1#1), ∀ a, (k1_off13 v712) a + S1x137216.size a ≤ S512x137216.size a)
theorem k1_off13_inb : ∀ (i : grid1.Coords) (v712 : BitVec 32) (k1_hw12 : k1_chk12 i v712), ∀ (k1_h2 : k1_cond2 i = 1#1), ∀ (k1_h3 : k1_cond3 i = 1#1), ∀ a, (k1_off13 v712) a + S1x137216.size a ≤ S512x137216.size a := fun i v712 k1_hw12 k1_h2 k1_h3 => k1_hw12 k1_h2 k1_h3

def k1_off14 (v716 : BitVec 32) : Fin 2 → Nat :=
  let c0_i32_270 : BitVec 32 := 0#32
  ![v716.toNat, 0]

def k1_chk13 (i : grid1.Coords) (v716 : BitVec 32) : Prop :=
  (∀ (k1_h2 : k1_cond2 i = 1#1), ∀ (k1_h3 : k1_cond3 i = 1#1), ∀ a, (k1_off14 v716) a + S1x137216.size a ≤ S512x137216.size a)
theorem k1_off14_inb : ∀ (i : grid1.Coords) (v716 : BitVec 32) (k1_hw13 : k1_chk13 i v716), ∀ (k1_h2 : k1_cond2 i = 1#1), ∀ (k1_h3 : k1_cond3 i = 1#1), ∀ a, (k1_off14 v716) a + S1x137216.size a ≤ S512x137216.size a := fun i v716 k1_hw13 k1_h2 k1_h3 => k1_hw13 k1_h2 k1_h3

def k1_off15 (v720 : BitVec 32) : Fin 2 → Nat :=
  let c0_i32_274 : BitVec 32 := 0#32
  ![v720.toNat, 0]

def k1_chk14 (i : grid1.Coords) (v720 : BitVec 32) : Prop :=
  (∀ (k1_h2 : k1_cond2 i = 1#1), ∀ (k1_h3 : k1_cond3 i = 1#1), ∀ a, (k1_off15 v720) a + S1x137216.size a ≤ S512x137216.size a)
theorem k1_off15_inb : ∀ (i : grid1.Coords) (v720 : BitVec 32) (k1_hw14 : k1_chk14 i v720), ∀ (k1_h2 : k1_cond2 i = 1#1), ∀ (k1_h3 : k1_cond3 i = 1#1), ∀ a, (k1_off15 v720) a + S1x137216.size a ≤ S512x137216.size a := fun i v720 k1_hw14 k1_h2 k1_h3 => k1_hw14 k1_h2 k1_h3

def k1_off16 (v724 : BitVec 32) : Fin 2 → Nat :=
  let c0_i32_278 : BitVec 32 := 0#32
  ![v724.toNat, 0]

def k1_chk15 (i : grid1.Coords) (v724 : BitVec 32) : Prop :=
  (∀ (k1_h2 : k1_cond2 i = 1#1), ∀ (k1_h3 : k1_cond3 i = 1#1), ∀ a, (k1_off16 v724) a + S1x137216.size a ≤ S512x137216.size a)
theorem k1_off16_inb : ∀ (i : grid1.Coords) (v724 : BitVec 32) (k1_hw15 : k1_chk15 i v724), ∀ (k1_h2 : k1_cond2 i = 1#1), ∀ (k1_h3 : k1_cond3 i = 1#1), ∀ a, (k1_off16 v724) a + S1x137216.size a ≤ S512x137216.size a := fun i v724 k1_hw15 k1_h2 k1_h3 => k1_hw15 k1_h2 k1_h3

def k1_off17 (v728 : BitVec 32) : Fin 2 → Nat :=
  let c0_i32_282 : BitVec 32 := 0#32
  ![v728.toNat, 0]

def k1_chk16 (i : grid1.Coords) (v728 : BitVec 32) : Prop :=
  (∀ (k1_h2 : k1_cond2 i = 1#1), ∀ (k1_h3 : k1_cond3 i = 1#1), ∀ a, (k1_off17 v728) a + S1x137216.size a ≤ S512x137216.size a)
theorem k1_off17_inb : ∀ (i : grid1.Coords) (v728 : BitVec 32) (k1_hw16 : k1_chk16 i v728), ∀ (k1_h2 : k1_cond2 i = 1#1), ∀ (k1_h3 : k1_cond3 i = 1#1), ∀ a, (k1_off17 v728) a + S1x137216.size a ≤ S512x137216.size a := fun i v728 k1_hw16 k1_h2 k1_h3 => k1_hw16 k1_h2 k1_h3

def k1_off18 (i : grid1.Coords) (c0_i32_6 : BitVec 32) : Fin 1 → Nat :=
  let c8_i32 : BitVec 32 := 8#32
  let arg0 : BitVec 32 := BitVec.ofNat 32 (i 0).val
  let v14 : BitVec 32 := Scalar.muli c8_i32 arg0
  let v15 : BitVec 32 := Scalar.addi v14 c0_i32_6
  let v16 : Index := Scalar.indexCast v15
  ![v16.toNat]
def k1_off19 (v17 : BitVec 32) : Fin 2 → Nat :=
  let c0_i32_19 : BitVec 32 := 0#32
  ![v17.toNat, 0]

def k1_chk17 (i : grid1.Coords) (v17 : BitVec 32) : Prop :=
  (∀ (k1_h2 : k1_cond2 i = 1#1), ∀ a, (k1_off19 v17) a + S1x137216.size a ≤ S512x137216.size a)
theorem k1_off19_inb : ∀ (i : grid1.Coords) (v17 : BitVec 32) (k1_hw17 : k1_chk17 i v17), ∀ (k1_h2 : k1_cond2 i = 1#1), ∀ a, (k1_off19 v17) a + S1x137216.size a ≤ S512x137216.size a := fun i v17 k1_hw17 k1_h2 => k1_hw17 k1_h2

def k1_off20 (v21 : BitVec 32) : Fin 2 → Nat :=
  let c0_i32_23 : BitVec 32 := 0#32
  ![v21.toNat, 0]

def k1_chk18 (i : grid1.Coords) (v21 : BitVec 32) : Prop :=
  (∀ (k1_h2 : k1_cond2 i = 1#1), ∀ a, (k1_off20 v21) a + S1x137216.size a ≤ S512x137216.size a)
theorem k1_off20_inb : ∀ (i : grid1.Coords) (v21 : BitVec 32) (k1_hw18 : k1_chk18 i v21), ∀ (k1_h2 : k1_cond2 i = 1#1), ∀ a, (k1_off20 v21) a + S1x137216.size a ≤ S512x137216.size a := fun i v21 k1_hw18 k1_h2 => k1_hw18 k1_h2

def k1_off21 (v25 : BitVec 32) : Fin 2 → Nat :=
  let c0_i32_27 : BitVec 32 := 0#32
  ![v25.toNat, 0]

def k1_chk19 (i : grid1.Coords) (v25 : BitVec 32) : Prop :=
  (∀ (k1_h2 : k1_cond2 i = 1#1), ∀ a, (k1_off21 v25) a + S1x137216.size a ≤ S512x137216.size a)
theorem k1_off21_inb : ∀ (i : grid1.Coords) (v25 : BitVec 32) (k1_hw19 : k1_chk19 i v25), ∀ (k1_h2 : k1_cond2 i = 1#1), ∀ a, (k1_off21 v25) a + S1x137216.size a ≤ S512x137216.size a := fun i v25 k1_hw19 k1_h2 => k1_hw19 k1_h2

def k1_off22 (v29 : BitVec 32) : Fin 2 → Nat :=
  let c0_i32_31 : BitVec 32 := 0#32
  ![v29.toNat, 0]

def k1_chk20 (i : grid1.Coords) (v29 : BitVec 32) : Prop :=
  (∀ (k1_h2 : k1_cond2 i = 1#1), ∀ a, (k1_off22 v29) a + S1x137216.size a ≤ S512x137216.size a)
theorem k1_off22_inb : ∀ (i : grid1.Coords) (v29 : BitVec 32) (k1_hw20 : k1_chk20 i v29), ∀ (k1_h2 : k1_cond2 i = 1#1), ∀ a, (k1_off22 v29) a + S1x137216.size a ≤ S512x137216.size a := fun i v29 k1_hw20 k1_h2 => k1_hw20 k1_h2

def k1_off23 (v33 : BitVec 32) : Fin 2 → Nat :=
  let c0_i32_35 : BitVec 32 := 0#32
  ![v33.toNat, 0]

def k1_chk21 (i : grid1.Coords) (v33 : BitVec 32) : Prop :=
  (∀ (k1_h2 : k1_cond2 i = 1#1), ∀ a, (k1_off23 v33) a + S1x137216.size a ≤ S512x137216.size a)
theorem k1_off23_inb : ∀ (i : grid1.Coords) (v33 : BitVec 32) (k1_hw21 : k1_chk21 i v33), ∀ (k1_h2 : k1_cond2 i = 1#1), ∀ a, (k1_off23 v33) a + S1x137216.size a ≤ S512x137216.size a := fun i v33 k1_hw21 k1_h2 => k1_hw21 k1_h2

def k1_off24 (v37 : BitVec 32) : Fin 2 → Nat :=
  let c0_i32_39 : BitVec 32 := 0#32
  ![v37.toNat, 0]

def k1_chk22 (i : grid1.Coords) (v37 : BitVec 32) : Prop :=
  (∀ (k1_h2 : k1_cond2 i = 1#1), ∀ a, (k1_off24 v37) a + S1x137216.size a ≤ S512x137216.size a)
theorem k1_off24_inb : ∀ (i : grid1.Coords) (v37 : BitVec 32) (k1_hw22 : k1_chk22 i v37), ∀ (k1_h2 : k1_cond2 i = 1#1), ∀ a, (k1_off24 v37) a + S1x137216.size a ≤ S512x137216.size a := fun i v37 k1_hw22 k1_h2 => k1_hw22 k1_h2

def k1_off25 (v41 : BitVec 32) : Fin 2 → Nat :=
  let c0_i32_43 : BitVec 32 := 0#32
  ![v41.toNat, 0]

def k1_chk23 (i : grid1.Coords) (v41 : BitVec 32) : Prop :=
  (∀ (k1_h2 : k1_cond2 i = 1#1), ∀ a, (k1_off25 v41) a + S1x137216.size a ≤ S512x137216.size a)
theorem k1_off25_inb : ∀ (i : grid1.Coords) (v41 : BitVec 32) (k1_hw23 : k1_chk23 i v41), ∀ (k1_h2 : k1_cond2 i = 1#1), ∀ a, (k1_off25 v41) a + S1x137216.size a ≤ S512x137216.size a := fun i v41 k1_hw23 k1_h2 => k1_hw23 k1_h2

def k1_off26 (v45 : BitVec 32) : Fin 2 → Nat :=
  let c0_i32_47 : BitVec 32 := 0#32
  ![v45.toNat, 0]

def k1_chk24 (i : grid1.Coords) (v45 : BitVec 32) : Prop :=
  (∀ (k1_h2 : k1_cond2 i = 1#1), ∀ a, (k1_off26 v45) a + S1x137216.size a ≤ S512x137216.size a)
theorem k1_off26_inb : ∀ (i : grid1.Coords) (v45 : BitVec 32) (k1_hw24 : k1_chk24 i v45), ∀ (k1_h2 : k1_cond2 i = 1#1), ∀ a, (k1_off26 v45) a + S1x137216.size a ≤ S512x137216.size a := fun i v45 k1_hw24 k1_h2 => k1_hw24 k1_h2

def k1_cond4 (i : grid1.Coords) : BitVec 1 :=
  let arg0 : BitVec 32 := BitVec.ofNat 32 (i 0).val
  let c2_i32 : BitVec 32 := 2#32
  let v3 : BitVec 32 := Scalar.remsi arg0 c2_i32
  let c1_i32 : BitVec 32 := 1#32
  let v7 : BitVec 1 := Scalar.cmpi .eq v3 c1_i32
  let v8 : BitVec 32 := Scalar.extui v7
  let c0_i32_3 : BitVec 32 := 0#32
  let v9 : BitVec 1 := Scalar.cmpi .ne v8 c0_i32_3
  v9

def k1_cond5 (i : grid1.Coords) : BitVec 1 :=
  let arg0 : BitVec 32 := BitVec.ofNat 32 (i 0).val
  let c1_i32_4 : BitVec 32 := 1#32
  let v10 : BitVec 32 := Scalar.addi arg0 c1_i32_4
  let c16_i32 : BitVec 32 := 16#32
  let v11 : BitVec 1 := Scalar.cmpi .slt v10 c16_i32
  let v12 : BitVec 32 := Scalar.extui v11
  let c0_i32_5 : BitVec 32 := 0#32
  let v13 : BitVec 1 := Scalar.cmpi .ne v12 c0_i32_5
  v13

def k1_off27 (i : grid1.Coords) (c0_i32_236 : BitVec 32) : Fin 1 → Nat :=
  let c8_i32_235 : BitVec 32 := 8#32
  let arg0 : BitVec 32 := BitVec.ofNat 32 (i 0).val
  let c1_i32_234 : BitVec 32 := 1#32
  let v696 : BitVec 32 := Scalar.addi arg0 c1_i32_234
  let v697 : BitVec 32 := Scalar.muli c8_i32_235 v696
  let v698 : BitVec 32 := Scalar.addi v697 c0_i32_236
  let v699 : Index := Scalar.indexCast v698
  ![v699.toNat]
def k1_off28 (v700 : BitVec 32) : Fin 2 → Nat :=
  let c0_i32_254 : BitVec 32 := 0#32
  ![v700.toNat, 0]

def k1_chk25 (i : grid1.Coords) (v700 : BitVec 32) : Prop :=
  (∀ (k1_h4 : k1_cond4 i = 1#1), ∀ (k1_h5 : k1_cond5 i = 1#1), ∀ a, (k1_off28 v700) a + S1x137216.size a ≤ S512x137216.size a)
theorem k1_off28_inb : ∀ (i : grid1.Coords) (v700 : BitVec 32) (k1_hw25 : k1_chk25 i v700), ∀ (k1_h4 : k1_cond4 i = 1#1), ∀ (k1_h5 : k1_cond5 i = 1#1), ∀ a, (k1_off28 v700) a + S1x137216.size a ≤ S512x137216.size a := fun i v700 k1_hw25 k1_h4 k1_h5 => k1_hw25 k1_h4 k1_h5

def k1_off29 (v704 : BitVec 32) : Fin 2 → Nat :=
  let c0_i32_258 : BitVec 32 := 0#32
  ![v704.toNat, 0]

def k1_chk26 (i : grid1.Coords) (v704 : BitVec 32) : Prop :=
  (∀ (k1_h4 : k1_cond4 i = 1#1), ∀ (k1_h5 : k1_cond5 i = 1#1), ∀ a, (k1_off29 v704) a + S1x137216.size a ≤ S512x137216.size a)
theorem k1_off29_inb : ∀ (i : grid1.Coords) (v704 : BitVec 32) (k1_hw26 : k1_chk26 i v704), ∀ (k1_h4 : k1_cond4 i = 1#1), ∀ (k1_h5 : k1_cond5 i = 1#1), ∀ a, (k1_off29 v704) a + S1x137216.size a ≤ S512x137216.size a := fun i v704 k1_hw26 k1_h4 k1_h5 => k1_hw26 k1_h4 k1_h5

def k1_off30 (v708 : BitVec 32) : Fin 2 → Nat :=
  let c0_i32_262 : BitVec 32 := 0#32
  ![v708.toNat, 0]

def k1_chk27 (i : grid1.Coords) (v708 : BitVec 32) : Prop :=
  (∀ (k1_h4 : k1_cond4 i = 1#1), ∀ (k1_h5 : k1_cond5 i = 1#1), ∀ a, (k1_off30 v708) a + S1x137216.size a ≤ S512x137216.size a)
theorem k1_off30_inb : ∀ (i : grid1.Coords) (v708 : BitVec 32) (k1_hw27 : k1_chk27 i v708), ∀ (k1_h4 : k1_cond4 i = 1#1), ∀ (k1_h5 : k1_cond5 i = 1#1), ∀ a, (k1_off30 v708) a + S1x137216.size a ≤ S512x137216.size a := fun i v708 k1_hw27 k1_h4 k1_h5 => k1_hw27 k1_h4 k1_h5

def k1_off31 (v712 : BitVec 32) : Fin 2 → Nat :=
  let c0_i32_266 : BitVec 32 := 0#32
  ![v712.toNat, 0]

def k1_chk28 (i : grid1.Coords) (v712 : BitVec 32) : Prop :=
  (∀ (k1_h4 : k1_cond4 i = 1#1), ∀ (k1_h5 : k1_cond5 i = 1#1), ∀ a, (k1_off31 v712) a + S1x137216.size a ≤ S512x137216.size a)
theorem k1_off31_inb : ∀ (i : grid1.Coords) (v712 : BitVec 32) (k1_hw28 : k1_chk28 i v712), ∀ (k1_h4 : k1_cond4 i = 1#1), ∀ (k1_h5 : k1_cond5 i = 1#1), ∀ a, (k1_off31 v712) a + S1x137216.size a ≤ S512x137216.size a := fun i v712 k1_hw28 k1_h4 k1_h5 => k1_hw28 k1_h4 k1_h5

def k1_off32 (v716 : BitVec 32) : Fin 2 → Nat :=
  let c0_i32_270 : BitVec 32 := 0#32
  ![v716.toNat, 0]

def k1_chk29 (i : grid1.Coords) (v716 : BitVec 32) : Prop :=
  (∀ (k1_h4 : k1_cond4 i = 1#1), ∀ (k1_h5 : k1_cond5 i = 1#1), ∀ a, (k1_off32 v716) a + S1x137216.size a ≤ S512x137216.size a)
theorem k1_off32_inb : ∀ (i : grid1.Coords) (v716 : BitVec 32) (k1_hw29 : k1_chk29 i v716), ∀ (k1_h4 : k1_cond4 i = 1#1), ∀ (k1_h5 : k1_cond5 i = 1#1), ∀ a, (k1_off32 v716) a + S1x137216.size a ≤ S512x137216.size a := fun i v716 k1_hw29 k1_h4 k1_h5 => k1_hw29 k1_h4 k1_h5

def k1_off33 (v720 : BitVec 32) : Fin 2 → Nat :=
  let c0_i32_274 : BitVec 32 := 0#32
  ![v720.toNat, 0]

def k1_chk30 (i : grid1.Coords) (v720 : BitVec 32) : Prop :=
  (∀ (k1_h4 : k1_cond4 i = 1#1), ∀ (k1_h5 : k1_cond5 i = 1#1), ∀ a, (k1_off33 v720) a + S1x137216.size a ≤ S512x137216.size a)
theorem k1_off33_inb : ∀ (i : grid1.Coords) (v720 : BitVec 32) (k1_hw30 : k1_chk30 i v720), ∀ (k1_h4 : k1_cond4 i = 1#1), ∀ (k1_h5 : k1_cond5 i = 1#1), ∀ a, (k1_off33 v720) a + S1x137216.size a ≤ S512x137216.size a := fun i v720 k1_hw30 k1_h4 k1_h5 => k1_hw30 k1_h4 k1_h5

def k1_off34 (v724 : BitVec 32) : Fin 2 → Nat :=
  let c0_i32_278 : BitVec 32 := 0#32
  ![v724.toNat, 0]

def k1_chk31 (i : grid1.Coords) (v724 : BitVec 32) : Prop :=
  (∀ (k1_h4 : k1_cond4 i = 1#1), ∀ (k1_h5 : k1_cond5 i = 1#1), ∀ a, (k1_off34 v724) a + S1x137216.size a ≤ S512x137216.size a)
theorem k1_off34_inb : ∀ (i : grid1.Coords) (v724 : BitVec 32) (k1_hw31 : k1_chk31 i v724), ∀ (k1_h4 : k1_cond4 i = 1#1), ∀ (k1_h5 : k1_cond5 i = 1#1), ∀ a, (k1_off34 v724) a + S1x137216.size a ≤ S512x137216.size a := fun i v724 k1_hw31 k1_h4 k1_h5 => k1_hw31 k1_h4 k1_h5

def k1_off35 (v728 : BitVec 32) : Fin 2 → Nat :=
  let c0_i32_282 : BitVec 32 := 0#32
  ![v728.toNat, 0]

def k1_chk32 (i : grid1.Coords) (v728 : BitVec 32) : Prop :=
  (∀ (k1_h4 : k1_cond4 i = 1#1), ∀ (k1_h5 : k1_cond5 i = 1#1), ∀ a, (k1_off35 v728) a + S1x137216.size a ≤ S512x137216.size a)
theorem k1_off35_inb : ∀ (i : grid1.Coords) (v728 : BitVec 32) (k1_hw32 : k1_chk32 i v728), ∀ (k1_h4 : k1_cond4 i = 1#1), ∀ (k1_h5 : k1_cond5 i = 1#1), ∀ a, (k1_off35 v728) a + S1x137216.size a ≤ S512x137216.size a := fun i v728 k1_hw32 k1_h4 k1_h5 => k1_hw32 k1_h4 k1_h5

def k1_off36 (i : grid1.Coords) (c0_i32_6 : BitVec 32) : Fin 1 → Nat :=
  let c8_i32 : BitVec 32 := 8#32
  let arg0 : BitVec 32 := BitVec.ofNat 32 (i 0).val
  let v14 : BitVec 32 := Scalar.muli c8_i32 arg0
  let v15 : BitVec 32 := Scalar.addi v14 c0_i32_6
  let v16 : Index := Scalar.indexCast v15
  ![v16.toNat]
def k1_off37 (v17 : BitVec 32) : Fin 2 → Nat :=
  let c0_i32_19 : BitVec 32 := 0#32
  ![v17.toNat, 0]

def k1_chk33 (i : grid1.Coords) (v17 : BitVec 32) : Prop :=
  (∀ (k1_h4 : k1_cond4 i = 1#1), ∀ a, (k1_off37 v17) a + S1x137216.size a ≤ S512x137216.size a)
theorem k1_off37_inb : ∀ (i : grid1.Coords) (v17 : BitVec 32) (k1_hw33 : k1_chk33 i v17), ∀ (k1_h4 : k1_cond4 i = 1#1), ∀ a, (k1_off37 v17) a + S1x137216.size a ≤ S512x137216.size a := fun i v17 k1_hw33 k1_h4 => k1_hw33 k1_h4

def k1_off38 (v21 : BitVec 32) : Fin 2 → Nat :=
  let c0_i32_23 : BitVec 32 := 0#32
  ![v21.toNat, 0]

def k1_chk34 (i : grid1.Coords) (v21 : BitVec 32) : Prop :=
  (∀ (k1_h4 : k1_cond4 i = 1#1), ∀ a, (k1_off38 v21) a + S1x137216.size a ≤ S512x137216.size a)
theorem k1_off38_inb : ∀ (i : grid1.Coords) (v21 : BitVec 32) (k1_hw34 : k1_chk34 i v21), ∀ (k1_h4 : k1_cond4 i = 1#1), ∀ a, (k1_off38 v21) a + S1x137216.size a ≤ S512x137216.size a := fun i v21 k1_hw34 k1_h4 => k1_hw34 k1_h4

def k1_off39 (v25 : BitVec 32) : Fin 2 → Nat :=
  let c0_i32_27 : BitVec 32 := 0#32
  ![v25.toNat, 0]

def k1_chk35 (i : grid1.Coords) (v25 : BitVec 32) : Prop :=
  (∀ (k1_h4 : k1_cond4 i = 1#1), ∀ a, (k1_off39 v25) a + S1x137216.size a ≤ S512x137216.size a)
theorem k1_off39_inb : ∀ (i : grid1.Coords) (v25 : BitVec 32) (k1_hw35 : k1_chk35 i v25), ∀ (k1_h4 : k1_cond4 i = 1#1), ∀ a, (k1_off39 v25) a + S1x137216.size a ≤ S512x137216.size a := fun i v25 k1_hw35 k1_h4 => k1_hw35 k1_h4

def k1_off40 (v29 : BitVec 32) : Fin 2 → Nat :=
  let c0_i32_31 : BitVec 32 := 0#32
  ![v29.toNat, 0]

def k1_chk36 (i : grid1.Coords) (v29 : BitVec 32) : Prop :=
  (∀ (k1_h4 : k1_cond4 i = 1#1), ∀ a, (k1_off40 v29) a + S1x137216.size a ≤ S512x137216.size a)
theorem k1_off40_inb : ∀ (i : grid1.Coords) (v29 : BitVec 32) (k1_hw36 : k1_chk36 i v29), ∀ (k1_h4 : k1_cond4 i = 1#1), ∀ a, (k1_off40 v29) a + S1x137216.size a ≤ S512x137216.size a := fun i v29 k1_hw36 k1_h4 => k1_hw36 k1_h4

def k1_off41 (v33 : BitVec 32) : Fin 2 → Nat :=
  let c0_i32_35 : BitVec 32 := 0#32
  ![v33.toNat, 0]

def k1_chk37 (i : grid1.Coords) (v33 : BitVec 32) : Prop :=
  (∀ (k1_h4 : k1_cond4 i = 1#1), ∀ a, (k1_off41 v33) a + S1x137216.size a ≤ S512x137216.size a)
theorem k1_off41_inb : ∀ (i : grid1.Coords) (v33 : BitVec 32) (k1_hw37 : k1_chk37 i v33), ∀ (k1_h4 : k1_cond4 i = 1#1), ∀ a, (k1_off41 v33) a + S1x137216.size a ≤ S512x137216.size a := fun i v33 k1_hw37 k1_h4 => k1_hw37 k1_h4

def k1_off42 (v37 : BitVec 32) : Fin 2 → Nat :=
  let c0_i32_39 : BitVec 32 := 0#32
  ![v37.toNat, 0]

def k1_chk38 (i : grid1.Coords) (v37 : BitVec 32) : Prop :=
  (∀ (k1_h4 : k1_cond4 i = 1#1), ∀ a, (k1_off42 v37) a + S1x137216.size a ≤ S512x137216.size a)
theorem k1_off42_inb : ∀ (i : grid1.Coords) (v37 : BitVec 32) (k1_hw38 : k1_chk38 i v37), ∀ (k1_h4 : k1_cond4 i = 1#1), ∀ a, (k1_off42 v37) a + S1x137216.size a ≤ S512x137216.size a := fun i v37 k1_hw38 k1_h4 => k1_hw38 k1_h4

def k1_off43 (v41 : BitVec 32) : Fin 2 → Nat :=
  let c0_i32_43 : BitVec 32 := 0#32
  ![v41.toNat, 0]

def k1_chk39 (i : grid1.Coords) (v41 : BitVec 32) : Prop :=
  (∀ (k1_h4 : k1_cond4 i = 1#1), ∀ a, (k1_off43 v41) a + S1x137216.size a ≤ S512x137216.size a)
theorem k1_off43_inb : ∀ (i : grid1.Coords) (v41 : BitVec 32) (k1_hw39 : k1_chk39 i v41), ∀ (k1_h4 : k1_cond4 i = 1#1), ∀ a, (k1_off43 v41) a + S1x137216.size a ≤ S512x137216.size a := fun i v41 k1_hw39 k1_h4 => k1_hw39 k1_h4

def k1_off44 (v45 : BitVec 32) : Fin 2 → Nat :=
  let c0_i32_47 : BitVec 32 := 0#32
  ![v45.toNat, 0]

def k1_chk40 (i : grid1.Coords) (v45 : BitVec 32) : Prop :=
  (∀ (k1_h4 : k1_cond4 i = 1#1), ∀ a, (k1_off44 v45) a + S1x137216.size a ≤ S512x137216.size a)
theorem k1_off44_inb : ∀ (i : grid1.Coords) (v45 : BitVec 32) (k1_hw40 : k1_chk40 i v45), ∀ (k1_h4 : k1_cond4 i = 1#1), ∀ a, (k1_off44 v45) a + S1x137216.size a ≤ S512x137216.size a := fun i v45 k1_hw40 k1_h4 => k1_hw40 k1_h4

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S128x2048 : Shape := ⟨2, ![128, 2048]⟩
abbrev S128x8 : Shape := ⟨2, ![128, 8]⟩
abbrev S512x137216 : Shape := ⟨2, ![512, 137216]⟩
abbrev S2048x4 : Shape := ⟨2, ![2048, 4]⟩
abbrev S8 : Shape := ⟨1, ![8]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x137216 : Shape := ⟨2, ![128, 137216]⟩
abbrev S128x131072 : Shape := ⟨2, ![128, 131072]⟩
abbrev S128x8x128x128 : Shape := ⟨4, ![128, 8, 128, 128]⟩
abbrev S128x6144 : Shape := ⟨2, ![128, 6144]⟩
abbrev S128x3x2048 : Shape := ⟨3, ![128, 3, 2048]⟩
abbrev S128x1x2048 : Shape := ⟨3, ![128, 1, 2048]⟩
abbrev S128x4x2048 : Shape := ⟨3, ![128, 4, 2048]⟩
abbrev S2048x128 : Shape := ⟨2, ![2048, 128]⟩
abbrev S128x16x128 : Shape := ⟨3, ![128, 16, 128]⟩
abbrev S128x4x128 : Shape := ⟨3, ![128, 4, 128]⟩
abbrev S128x8x128 : Shape := ⟨3, ![128, 8, 128]⟩
abbrev S1x8 : Shape := ⟨2, ![1, 8]⟩
abbrev S128x4x2x128 : Shape := ⟨4, ![128, 4, 2, 128]⟩
abbrev S128x8x1 : Shape := ⟨3, ![128, 8, 1]⟩
abbrev S128x8x1x1 : Shape := ⟨4, ![128, 8, 1, 1]⟩
abbrev S128x8x128x1 : Shape := ⟨4, ![128, 8, 128, 1]⟩
abbrev S128x8x1x128 : Shape := ⟨4, ![128, 8, 1, 128]⟩

abbrev nBuf : Space → Nat
  | .hbm => 138
  | .vmem => 0
  | .smem => 0
  | _ => 0

abbrev hbmTy0_0 (i : Nat) : BufTy := match i % 128 with
  | 0 => ⟨S128x2048, .f32⟩
  | 1 => ⟨S128x8, .f32⟩
  | 2 => ⟨S128x8, .f32⟩
  | 3 => ⟨S512x137216, .f32⟩
  | 4 => ⟨S2048x4, .f32⟩
  | 5 => ⟨S8, .f32⟩
  | 6 => ⟨S8, .f32⟩
  | 7 => ⟨S128, .i32⟩
  | 8 => ⟨S_, .i32⟩
  | 9 => ⟨S128, .i32⟩
  | 10 => ⟨S128, .i1⟩
  | 11 => ⟨S_, .i32⟩
  | 12 => ⟨S128, .i32⟩
  | 13 => ⟨S128, .i32⟩
  | 14 => ⟨S128, .i32⟩
  | 15 => ⟨S128x1, .i32⟩
  | 16 => ⟨S1, .i32⟩
  | 17 => ⟨S_, .i32⟩
  | 18 => ⟨S128x1, .i32⟩
  | 19 => ⟨S128x1, .i1⟩
  | 20 => ⟨S1x1, .i32⟩
  | 21 => ⟨S128x1, .i32⟩
  | 22 => ⟨S128x1, .i1⟩
  | 23 => ⟨S128x1, .i1⟩
  | 24 => ⟨S_, .i1⟩
  | 25 => ⟨S128, .i1⟩
  | 26 => ⟨S128x137216, .f32⟩
  | 27 => ⟨S128x137216, .i1⟩
  | 28 => ⟨S_, .f32⟩
  | 29 => ⟨S128x137216, .f32⟩
  | 30 => ⟨S128x137216, .f32⟩
  | 31 => ⟨S128x131072, .f32⟩
  | 32 => ⟨S128x8x128x128, .f32⟩
  | 33 => ⟨S128x6144, .f32⟩
  | 34 => ⟨S128x3x2048, .f32⟩
  | 35 => ⟨S128x1x2048, .f32⟩
  | 36 => ⟨S128x4x2048, .f32⟩
  | 37 => ⟨S2048x128, .f32⟩
  | 38 => ⟨S128x2048, .f32⟩
  | 39 => ⟨S128x2048, .f32⟩
  | 40 => ⟨S128x2048, .f32⟩
  | 41 => ⟨S_, .f32⟩
  | 42 => ⟨S128x2048, .f32⟩
  | 43 => ⟨S128x2048, .f32⟩
  | 44 => ⟨S_, .f32⟩
  | 45 => ⟨S128x2048, .f32⟩
  | 46 => ⟨S128x2048, .f32⟩
  | 47 => ⟨S128x2048, .f32⟩
  | 48 => ⟨S128x3x2048, .f32⟩
  | 49 => ⟨S128x16x128, .f32⟩
  | 50 => ⟨S128x4x128, .f32⟩
  | 51 => ⟨S128x4x128, .f32⟩
  | 52 => ⟨S128x8x128, .f32⟩
  | 53 => ⟨S8, .f32⟩
  | 54 => ⟨S1x8, .f32⟩
  | 55 => ⟨S1x8, .f32⟩
  | 56 => ⟨S1x8, .f32⟩
  | 57 => ⟨S128x8, .f32⟩
  | 58 => ⟨S128x8, .f32⟩
  | 59 => ⟨S_, .f32⟩
  | 60 => ⟨S128x8, .f32⟩
  | 61 => ⟨S128x8, .f32⟩
  | 62 => ⟨S128x8, .f32⟩
  | 63 => ⟨S128x8, .f32⟩
  | 64 => ⟨S128x8, .i1⟩
  | 65 => ⟨S128x8, .f32⟩
  | 66 => ⟨S128x8, .f32⟩
  | 67 => ⟨S128x8, .f32⟩
  | 68 => ⟨S128x8, .f32⟩
  | 69 => ⟨S128x8, .f32⟩
  | 70 => ⟨S128x8, .f32⟩
  | 71 => ⟨S128x8, .f32⟩
  | 72 => ⟨S128x8, .f32⟩
  | 73 => ⟨S128x8, .f32⟩
  | 74 => ⟨S128x8, .f32⟩
  | 75 => ⟨S128x8, .f32⟩
  | 76 => ⟨S128x8, .f32⟩
  | 77 => ⟨S_, .f32⟩
  | 78 => ⟨S128x8, .f32⟩
  | 79 => ⟨S128x8, .f32⟩
  | 80 => ⟨S_, .f32⟩
  | 81 => ⟨S128x8, .f32⟩
  | 82 => ⟨S128x8, .f32⟩
  | 83 => ⟨S128x4x2x128, .f32⟩
  | 84 => ⟨S128x8x128, .f32⟩
  | 85 => ⟨S128x4x2x128, .f32⟩
  | 86 => ⟨S128x8x128, .f32⟩
  | 87 => ⟨S128x8x128, .f32⟩
  | 88 => ⟨S_, .f32⟩
  | 89 => ⟨S128x8, .f32⟩
  | 90 => ⟨S128x8x1, .f32⟩
  | 91 => ⟨S_, .f32⟩
  | 92 => ⟨S128x8x1, .f32⟩
  | 93 => ⟨S128x8x1, .f32⟩
  | 94 => ⟨S128x8x1, .f32⟩
  | 95 => ⟨S128x8x128, .f32⟩
  | 96 => ⟨S128x8x128, .f32⟩
  | 97 => ⟨S_, .f32⟩
  | 98 => ⟨S128x8x128, .f32⟩
  | 99 => ⟨S128x8x128, .f32⟩
  | 100 => ⟨S128x8x128, .f32⟩
  | 101 => ⟨S_, .f32⟩
  | 102 => ⟨S128x8, .f32⟩
  | 103 => ⟨S128x8x1, .f32⟩
  | 104 => ⟨S_, .f32⟩
  | 105 => ⟨S128x8x1, .f32⟩
  | 106 => ⟨S128x8x1, .f32⟩
  | 107 => ⟨S128x8x1, .f32⟩
  | 108 => ⟨S128x8x128, .f32⟩
  | 109 => ⟨S128x8x128, .f32⟩
  | 110 => ⟨S128x8, .f32⟩
  | 111 => ⟨S128x8x1x1, .f32⟩
  | 112 => ⟨S128x8x128x128, .f32⟩
  | 113 => ⟨S128x8x128x128, .f32⟩
  | 114 => ⟨S128x8x128, .f32⟩
  | 115 => ⟨S128x8x128, .f32⟩
  | 116 => ⟨S128x8x1, .f32⟩
  | 117 => ⟨S128x8x128, .f32⟩
  | 118 => ⟨S128x8x128, .f32⟩
  | 119 => ⟨S128x8x128x1, .f32⟩
  | 120 => ⟨S128x8x1x128, .f32⟩
  | 121 => ⟨S128x8x128x128, .f32⟩
  | 122 => ⟨S128x8x128x128, .f32⟩
  | 123 => ⟨S128x8x128x128, .f32⟩
  | 124 => ⟨S128x8x128x128, .f32⟩
  | 125 => ⟨S128x8x128, .f32⟩
  | 126 => ⟨S128x131072, .f32⟩
  | 127 => ⟨S128x6144, .f32⟩
  | _ => ⟨S128x2048, .f32⟩

abbrev hbmTy0_1 (i : Nat) : BufTy := match i % 128 with
  | 0 => ⟨S128x137216, .f32⟩
  | 1 => ⟨S_, .i32⟩
  | 2 => ⟨S128, .i32⟩
  | 3 => ⟨S128, .i1⟩
  | 4 => ⟨S_, .i32⟩
  | 5 => ⟨S128, .i32⟩
  | 6 => ⟨S128, .i32⟩
  | 7 => ⟨S128, .i32⟩
  | 8 => ⟨S128x1, .i32⟩
  | 9 => ⟨S512x137216, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_1 : Ref sig .tc := ⟨.hbm, 77, rfl⟩
abbrev main_v32 : Ref sig .tc := ⟨.hbm, 78, rfl⟩
abbrev main_v33 : Ref sig .tc := ⟨.hbm, 79, rfl⟩
abbrev main_cst_2 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_3 : Ref sig .tc := ⟨.hbm, 88, rfl⟩
abbrev main_v41 : Ref sig .tc := ⟨.hbm, 89, rfl⟩
abbrev main_v42 : Ref sig .tc := ⟨.hbm, 90, rfl⟩
abbrev main_cst_4 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_5 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_6 : Ref sig .tc := ⟨.hbm, 101, rfl⟩
abbrev main_v51 : Ref sig .tc := ⟨.hbm, 102, rfl⟩
abbrev main_v52 : Ref sig .tc := ⟨.hbm, 103, rfl⟩
abbrev main_cst_7 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c : Ref sig .tc := ⟨.hbm, 129, rfl⟩
abbrev main_v77 : Ref sig .tc := ⟨.hbm, 130, rfl⟩
abbrev main_v78 : Ref sig .tc := ⟨.hbm, 131, rfl⟩
abbrev main_c_8 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩

abbrev nD : Nat := 1
abbrev τ : Topo := Topo.v7x

variable {F : FTy → Type} [FloatOps F]
-- ==== Proof.Pre.lean ====
/- What the range precondition says of the arguments. -/
module

public import proofs.«01_k».proof.Pre_in_range
public import Idealize.ShloMosaic.PureOps.Ideal
public import Idealize.ShloMosaic.Lib.ReduceAll
public import Idealize.ShloMosaic.Lib.WordCmp
public import Idealize.ShloMosaic.Lib.Affine

@[expose] public section

noncomputable section

namespace Cert.Pre

open Idealize.ShloMosaic

instance facts_in_range : Cert.Pre_in_range.Facts where
  bcast_S_S128 := by decide
  reducesTo_S128_S_d0 := by decide
  h_S_ := by decide

instance : Subsingleton (⟨0, ![]⟩ : Shape).Idx := ⟨fun a b => funext fun i => i.elim0⟩

/-- The range check passes on a word only below 512. -/
theorem word_lt {v : BitVec 32} (h : IntOp.andi (IntOp.cmpi .sge v 0#32) (IntOp.cmpi .slt v 512#32) = 1#1) : v.toNat < 512 := by
  revert h
  have e : IntOp.andi (IntOp.cmpi .sge v 0#32) (IntOp.cmpi .slt v 512#32) = 1#1 ↔ v.toNat < 512 := by word_cmp
  exact e.1

/-- The range check over all block indices. -/
theorem range {F : FTy → Type} [FloatOps F] {a0 a1 a2 a3 a4 a5 a6 a7} (h : Cert.Pre_in_range.fn (F := F) a0 a1 a2 a3 a4 a5 a6 a7 = fun _ => 1#1) (j) :
    (a7 j).toNat < 512 := by
  have e := congrFun h (fun i => i.elim0)
  exact word_lt (Host.reduce_andi_all _ _ _ _ _ e j)

end Cert.Pre

end
-- ==== Proof.PreFinite.lean ====
/- What the finiteness precondition says of the arguments. -/
module

public import proofs.«01_k».proof.Pre_in_range_finite
public import Idealize.ShloMosaic.PureOps.Ideal
public import Idealize.ShloMosaic.Lib.ReduceAll
public import Idealize.ShloMosaic.Lib.KernelVsHost
public import proofs.«01_k».proof.Proof.Pre
public import Idealize.ShloMosaic.Lib.Affine

@[expose] public section

noncomputable section

namespace Cert.Pre

open Idealize.ShloMosaic

instance facts_in_range_finite : Cert.Pre_in_range_finite.Facts where
  bcast_S_S128 := by decide
  reducesTo_S128_S_d0 := by decide
  h_S_ := by decide
  bcast_S_S128x2048 := by decide
  reducesTo_S128x2048_S_d0_1 := by decide
  bcast_S_S512x137216 := by decide
  reducesTo_S512x137216_S_d0_1 := by decide
  bcast_S_S2048x4 := by decide
  reducesTo_S2048x4_S_d0_1 := by decide

/-- The finiteness check passes on a number only. -/
theorem real_of_lt {x : EReal} (h : FloatOps.cmpf (F := Ideal) (φ := .f32) .olt (FloatOps.hostAbsf (F := Ideal) (φ := .f32) x) (FloatOps.ofBits (F := Ideal) .f32 0x7F800000#32) = 1#1) :
    ∃ r : ℝ, x = r := by
  rw [← Ideal.xori_weird_eq_hostAbsf_olt_inf] at h
  by_cases hx : x = ⊤ ∨ x = ⊥
  · have w : FloatOps.weird (F := Ideal) x = 1#1 := by
      show BitVec.ofBool (decide (x = ⊤ ∨ x = ⊥)) = 1#1
      rw [decide_eq_true hx]
      rfl
    rw [w] at h
    exact absurd h (by decide)
  · push Not at hx
    exact ⟨x.toReal, (EReal.coe_toReal hx.1 hx.2).symm⟩

/-- The second precondition. -/
theorem range_finite {a0 a1 a2 a3 a4 a5 a6 a7} (h : Cert.Pre_in_range_finite.fn (F := Ideal) a0 a1 a2 a3 a4 a5 a6 a7 = fun _ => 1#1) :
    (∀ j, (a7 j).toNat < 512) ∧ (∀ i, ∃ r : ℝ, a0 i = (r : EReal)) ∧ (∀ i, ∃ r : ℝ, a3 i = (r : EReal)) ∧ (∀ i, ∃ r : ℝ, a4 i = (r : EReal)) := by
  have e := congrFun h (fun i => i.elim0)
  obtain ⟨e, e4⟩ := IntOp.andi_eq_one.1 e
  obtain ⟨e, e3⟩ := IntOp.andi_eq_one.1 e
  obtain ⟨e, e2⟩ := IntOp.andi_eq_one.1 e
  refine ⟨fun j => word_lt (Host.reduce_andi_all _ _ _ _ _ e j), fun i => ?_, fun i => ?_, fun i => ?_⟩
  · exact real_of_lt (Host.reduce_andi_all _ _ _ _ _ e2 i)
  · exact real_of_lt (Host.reduce_andi_all _ _ _ _ _ e3 i)
  · exact real_of_lt (Host.reduce_andi_all _ _ _ _ _ e4 i)

end Cert.Pre

end
-- ==== Proof.MemRun.lean ====
/- The first call's body, run once per control path.

   The body reads eight words of its table — the token that lands on each of its eight rows, or −1 — and takes one of
   two paths: no row has a token (the block is copied), or some row has one (the block is updated).  Each path is
   executed symbolically; what it leaves in the output block is a list of pieces. -/
module

public import proofs.«01_k».proof.Proof.Gen.KernelIdeal.Skeleton
public import proofs.«01_k».proof.Proof.Gen.KernelIdeal.Launch
public import Idealize.ShloMosaic.Lib.Writes
public import Idealize.ShloMosaic.Lib.Ring
public import Idealize.ShloMosaic.Lib.Exec
public import Idealize.ShloMosaic.Lib.Tactic
public import Idealize.ShloMosaic.Lib.Transfers

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-- The first call's table. -/
abbrev tokM : Memref sig .tc .smem S512 .i32 := Memref.whole main_v11

/-- The token word of row `r` of the block at grid coordinates `i`, read off the table's contents. -/
abbrev tokAt (T : S512.Idx → Elt F .i32) (i : grid0.Coords) (r : Fin 8) : BitVec 32 :=
  View.readAt (Elt F) tokM.view (Rect.unit (s := S512) (k0_off1 i (BitVec.ofNat 32 r.val)) S1.size (k0_off1_inb i r)).toLoadRect T
    (Shape.Idx.first (numel1_S1.symm ▸ Nat.one_pos))

/-- Every run-time offset of the body at `i` is inside its array. -/
abbrev MemOk (T : S512.Idx → Elt F .i32) (i : grid0.Coords) : Prop :=
  k0_chk1 (tokAt T i 0) (tokAt T i 1) (tokAt T i 2) (tokAt T i 3) (tokAt T i 4) (tokAt T i 5) (tokAt T i 6) (tokAt T i 7)

/-- No row of the block has a token. -/
abbrev MemIdle (T : S512.Idx → Elt F .i32) (i : grid0.Coords) : Prop :=
  k0_cond1 (tokAt T i 0) (tokAt T i 1) (tokAt T i 2) (tokAt T i 3) (tokAt T i 4) (tokAt T i 5) (tokAt T i 6) (tokAt T i 7) = 1#1

/-- Some row of the block has a token. -/
abbrev MemBusy (T : S512.Idx → Elt F .i32) (i : grid0.Coords) : Prop :=
  k0_cond2 (tokAt T i 0) (tokAt T i 1) (tokAt T i 2) (tokAt T i 3) (tokAt T i 4) (tokAt T i 5) (tokAt T i 6) (tokAt T i 7) = 1#1

variable (c : Dev nD) (i : grid0.Coords)
  (arg2 : Memref sig .tc .vmem S8x137216 .f32) (harg2 : arg2.IsWhole) (arg3 : Memref sig .tc .vmem S128x2048 .f32) (harg3 : arg3.IsWhole)
  (arg4 : Memref sig .tc .vmem S128x8 .f32) (harg4 : arg4.IsWhole) (arg5 : Memref sig .tc .vmem S128x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x137216 .f32) (harg9 : arg9.IsWhole)
  (T : S512.Idx → Elt F .i32) (x0 : S8x137216.Idx → Elt F .f32) (x1 : S128x2048.Idx → Elt F .f32) (x2 : S128x8.Idx → Elt F .f32)
  (x3 : S128x8.Idx → Elt F .f32) (x4 : S1x8.Idx → Elt F .f32) (x5 : S1x8.Idx → Elt F .f32) (x6 : S4x2048.Idx → Elt F .f32)

/-- What the body holds and gives back besides its output: the seven input blocks and its share of the table. -/
abbrev memIn : sProp 𝕄 :=
  iprop((arg2.view.loc (c : Thread nD τ) ↦[arg2.view.set]{fullShare} arg2.view.rep x0)
    ∗ (arg3.view.loc (c : Thread nD τ) ↦[arg3.view.set]{fullShare} arg3.view.rep x1)
    ∗ (arg4.view.loc (c : Thread nD τ) ↦[arg4.view.set]{fullShare} arg4.view.rep x2)
    ∗ (arg5.view.loc (c : Thread nD τ) ↦[arg5.view.set]{fullShare} arg5.view.rep x3)
    ∗ (arg6.view.loc (c : Thread nD τ) ↦[arg6.view.set]{fullShare} arg6.view.rep x4)
    ∗ (arg7.view.loc (c : Thread nD τ) ↦[arg7.view.set]{fullShare} arg7.view.rep x5)
    ∗ (arg8.view.loc (c : Thread nD τ) ↦[arg8.view.set]{fullShare} arg8.view.rep x6)
    ∗ (tokM.view.loc (c : Thread nD τ) ↦{fullShare.right} T))

set_option maxHeartbeats 8000000 in
/-- The copying path. -/
def memRunIdle (hok : MemOk T i) (h1 : MemIdle T i) (h2 : ¬ MemBusy T i) :
    { L : List (View.Piece (Elt F) S8x137216 .f32) //
      ∀ (K : PUnit → sProp 𝕄),
        iprop(memIn c arg2 arg3 arg4 arg5 arg6 arg7 arg8 T x0 x1 x2 x3 x4 x5 x6
          ∗ (∃ d, owns (c : Thread nD τ) arg9 fullShare d)
          ∗ (iprop(memIn c arg2 arg3 arg4 arg5 arg6 arg7 arg8 T x0 x1 x2 x3 x4 x5 x6
              ∗ (∃ f, arg9.view.loc (c : Thread nD τ) ↦[arg9.view.set]{fullShare} arg9.view.writes (Elt F) f L)) -∗ K ⟨⟩))
          ⊢ wp frame (wpE (defs₀ (F := F)) Variants.none c none) Set.univ (cc0__mem_kernel i tokM (Memref.isWhole_whole _) arg2 harg2 arg3 harg3 arg4 harg4 arg5 harg5 arg6 harg6 arg7 harg7 arg8 harg8 arg9 harg9) K } :=
  by
    refine ⟨?_, fun K => ?run⟩
    case run =>
      unfold owns
      rw [cc0__mem_kernel_eq_skeleton]; unfold cc0__mem_kernel_skel
      iintro ⟨⟨H0, H1, H2, H3, H4, H5, H6, HT0⟩, ⟨%d7, %f7, -, HO7⟩, Hk⟩
      have hT0 : tokM.IsWhole := Memref.isWhole_whole _
      sl_exec! (disch := first | (guard_target = k0_chk1 _ _ _ _ _ _ _ _; exact hok) | (guard_target = ¬(k0_cond2 _ _ _ _ _ _ _ _ = _); exact h2) | (guard_target = k0_cond1 _ _ _ _ _ _ _ _ = _; exact h1))
      sl_step
      iapply Hk
      isplitr [HO7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact HT0
      · iexists _; iexact HO7

set_option maxHeartbeats 8000000 in
/-- The updating path. -/
def memRunBusy (hok : MemOk T i) (h1 : ¬ MemIdle T i) (h2 : MemBusy T i) :
    { L : List (View.Piece (Elt F) S8x137216 .f32) //
      ∀ (K : PUnit → sProp 𝕄),
        iprop(memIn c arg2 arg3 arg4 arg5 arg6 arg7 arg8 T x0 x1 x2 x3 x4 x5 x6
          ∗ (∃ d, owns (c : Thread nD τ) arg9 fullShare d)
          ∗ (iprop(memIn c arg2 arg3 arg4 arg5 arg6 arg7 arg8 T x0 x1 x2 x3 x4 x5 x6
              ∗ (∃ f, arg9.view.loc (c : Thread nD τ) ↦[arg9.view.set]{fullShare} arg9.view.writes (Elt F) f L)) -∗ K ⟨⟩))
          ⊢ wp frame (wpE (defs₀ (F := F)) Variants.none c none) Set.univ (cc0__mem_kernel i tokM (Memref.isWhole_whole _) arg2 harg2 arg3 harg3 arg4 harg4 arg5 harg5 arg6 harg6 arg7 harg7 arg8 harg8 arg9 harg9) K } :=
  by
    refine ⟨?_, fun K => ?run⟩
    case run =>
      unfold owns
      rw [cc0__mem_kernel_eq_skeleton]; unfold cc0__mem_kernel_skel
      iintro ⟨⟨H0, H1, H2, H3, H4, H5, H6, HT0⟩, ⟨%d7, %f7, -, HO7⟩, Hk⟩
      have hT0 : tokM.IsWhole := Memref.isWhole_whole _
      sl_exec! (disch := first | (guard_target = k0_chk1 _ _ _ _ _ _ _ _; exact hok) | (guard_target = ¬(k0_cond1 _ _ _ _ _ _ _ _ = _); exact h1) | (guard_target = k0_cond2 _ _ _ _ _ _ _ _ = _; exact h2))
      sl_step
      iapply Hk
      isplitr [HO7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact HT0
      · iexists _; iexact HO7

end Cert.KernelIdeal.Gen

end
-- ==== Proof.MemCover.lean ====
/- The first call's body writes every element of its output block, on either path. -/
module

public import proofs.«01_k».proof.Proof.MemRun
public import Idealize.ShloMosaic.Lib.Pipeline.FrameBody

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI

variable {F : FTy → Type} [FloatOps F]

variable (c : Dev nD) (i : grid0.Coords)
  (arg2 : Memref sig .tc .vmem S8x137216 .f32) (harg2 : arg2.IsWhole) (arg3 : Memref sig .tc .vmem S128x2048 .f32) (harg3 : arg3.IsWhole)
  (arg4 : Memref sig .tc .vmem S128x8 .f32) (harg4 : arg4.IsWhole) (arg5 : Memref sig .tc .vmem S128x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x137216 .f32) (harg9 : arg9.IsWhole)
  (T : S512.Idx → Elt F .i32) (x0 : S8x137216.Idx → Elt F .f32) (x1 : S128x2048.Idx → Elt F .f32) (x2 : S128x8.Idx → Elt F .f32)
  (x3 : S128x8.Idx → Elt F .f32) (x4 : S1x8.Idx → Elt F .f32) (x5 : S1x8.Idx → Elt F .f32) (x6 : S4x2048.Idx → Elt F .f32)

theorem memIdle_cover (hok : MemOk T i) (h1 : MemIdle T i) (h2 : ¬ MemBusy T i) :
    ∀ y, ∃ p ∈ (memRunIdle c i arg2 harg2 arg3 harg3 arg4 harg4 arg5 harg5 arg6 harg6 arg7 harg7 arg8 harg8 arg9 harg9 T x0 x1 x2 x3 x4 x5 x6 hok h1 h2).1, y ∈ p.1.set :=
  View.cover_of_tiledBy _ ![8, 2048] (by sl_kernel_rfl)

theorem memBusy_cover (hok : MemOk T i) (h1 : ¬ MemIdle T i) (h2 : MemBusy T i) :
    ∀ y, ∃ p ∈ (memRunBusy c i arg2 harg2 arg3 harg3 arg4 harg4 arg5 harg5 arg6 harg6 arg7 harg7 arg8 harg8 arg9 harg9 T x0 x1 x2 x3 x4 x5 x6 hok h1 h2).1, y ∈ p.1.set :=
  View.cover_of_tiledBy _ ![8, 2048] (by sl_kernel_rfl)

end Cert.KernelIdeal.Gen

end
-- ==== Proof.Head.lean ====
/- One head of the first call, written once for any head: the normalised key, the sums over
   segments, the correction and the new span.  The run's pieces are these functions. -/
module

public import proofs.«01_k».proof.Proof.MemCover

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- Row `i` marks the 128 columns of segment `i`. -/
def segM : FVec F S32x4096 .f32 :=
  k0_pay20 (iota .tc S32x4096 32 [0] iota_S32x4096_d0_w32) (iota .tc S32x4096 32 [1] iota_S32x4096_d1_w32) 128#32
    k0_pay17 k0_pay18 k0_pay19

/-- A block of 128 columns scaled by the inverse root of its sum of squares. -/
def normed (k : FVec F S8x128 .f32) : FVec F S8x128 .f32 :=
  mulf k (broadcastTo S8x128
    (rsqrt (addf (shapeCast S8x1 (multiReduction .add [1] S8 (mulf k k) 0x00000000#32 reduces_S8x128_S8 (.inl rfl) rfl)
      shapeCasts_S8_S8x1) (broadcast S8x1 (Scalar.ofBits .f32 0x358637BD#32)))) broadcasts_S8x1_S8x128)

/-- The block repeated once per segment. -/
def tiled (k : FVec F S8x128 .f32) : FVec F S8x4096 .f32 :=
  concatenate S8x4096 1 (List.ofFn fun _ : Fin 32 => ⟨S8x128, k⟩)
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x4096_d1

/-- The sum over each segment. -/
def segSum (t : FVec F S8x4096 .f32) : FVec F S8x32 .f32 :=
  matmul dot_S8x4096_S32x4096_S8x32_1_1_0_0_n_n none t segM (constant S8x32 .f32 0x00000000#32)

/-- The value of each segment spread over its columns. -/
def spread (d : FVec F S8x32 .f32) : FVec F S8x4096 .f32 :=
  matmul dot_S8x32_S32x4096_S8x4096_1_0_0_1_n_n none d segM (constant S8x4096 .f32 0x00000000#32)

/-- The segment sums of four spans side by side. -/
def fourSums (t : Fin 4 → FVec F S8x4096 .f32) : FVec F S8x128 .f32 :=
  concatenate S8x128 1 (List.ofFn fun i : Fin 4 => ⟨S8x32, segSum (t i)⟩) concatenates_S8x32_S8x32_S8x32_S8x32_S8x128_d1

theorem blockSlice (o : ℕ) (h : o ≤ 1920) : S8x2048.Slices ![0, o] S8x128 :=
  ⟨by decide, by intro a; match a with | 0 => exact (by decide : (0:ℕ) + 8 ≤ 8) | 1 => exact (by show o + 128 ≤ 2048; omega)⟩
theorem colSlice (o : ℕ) (h : o ≤ 7) : S8x8.Slices ![0, o] S8x1 :=
  ⟨by decide, by intro a; match a with | 0 => exact (by decide : (0:ℕ) + 8 ≤ 8) | 1 => exact (by show o + 1 ≤ 8; omega)⟩
theorem segSlice (o : ℕ) (h : o ≤ 96) : S8x128.Slices ![0, o] S8x32 :=
  ⟨by decide, by intro a; match a with | 0 => exact (by decide : (0:ℕ) + 8 ≤ 8) | 1 => exact (by show o + 32 ≤ 128; omega)⟩
theorem spanIn (o : ℕ) (h : o + 4096 ≤ 137216) : ∀ a, (![0, o] : Fin 2 → Nat) a + S8x4096.size a ≤ S8x137216.size a := by
  intro a; match a with | 0 => exact (by decide : (0:ℕ) + 8 ≤ 8) | 1 => exact h

/-- Columns `o` to `o + 127`. -/
def blockAt (x : FVec F S8x2048 .f32) (o : ℕ) (h : o ≤ 1920) : FVec F S8x128 .f32 :=
  extractStridedSlice S8x128 ![0, o] x (blockSlice o h)
/-- Column `o`. -/
def colAt (x : FVec F S8x8 .f32) (o : ℕ) (h : o ≤ 7) : FVec F S8x1 .f32 :=
  extractStridedSlice S8x1 ![0, o] x (colSlice o h)

/-- The keys of head `hh`. -/
def headKey (x : FVec F S8x2048 .f32) (hh : Fin 8) : FVec F S8x128 .f32 :=
  normed (blockAt x (512 + 128 * (hh.val / 2)) (by omega))
/-- The values of head `hh`. -/
def headVal (x : FVec F S8x2048 .f32) (hh : Fin 8) : FVec F S8x128 .f32 := blockAt x (1024 + 128 * hh.val) (by omega)

/-- The correction of head `hh`: value minus decayed prediction, times the step. -/
def memDelta (x : FVec F S8x2048 .f32) (eg bt : FVec F S8x8 .f32) (W : Fin 4 → FVec F S8x4096 .f32) (hh : Fin 8) : FVec F S8x128 .f32 :=
  mulf (subf (headVal x hh)
    (mulf (fourSums fun i => mulf (W i) (tiled (headKey x hh))) (broadcastTo S8x128 (colAt eg hh.val (by omega)) broadcasts_S8x1_S8x128)))
    (broadcastTo S8x128 (colAt bt hh.val (by omega)) broadcasts_S8x1_S8x128)

/-- The new span `i` of head `hh`: decayed state plus correction times key. -/
def memSpan (x : FVec F S8x2048 .f32) (eg bt : FVec F S8x8 .f32) (W : Fin 4 → FVec F S8x4096 .f32) (hh : Fin 8) (i : Fin 4) : FVec F S8x4096 .f32 :=
  addf (mulf (W i) (broadcastTo S8x4096 (colAt eg hh.val (by omega)) broadcasts_S8x1_S8x4096))
    (mulf (spread (extractStridedSlice S8x32 ![0, 32 * i.val] (memDelta x eg bt W hh) (segSlice _ (by omega)))) (tiled (headKey x hh)))

/-- Span `i` of head `hh` as the kernel loads it. -/
def loadSpan (arg2 : Memref sig .tc .vmem S8x137216 .f32) (x0 : S8x137216.Idx → Elt F .f32) (hh : Fin 8) (i : Fin 4) : FVec F S8x4096 .f32 :=
  View.readAt (Elt F) arg2.view (Rect.unit (s := S8x137216) ![0, 16384 * hh.val + 4096 * i.val] S8x4096.size (spanIn _ (by omega))).toLoadRect (arg2.view.rep x0)

variable (c : Dev nD) (i : grid0.Coords)
  (arg2 : Memref sig .tc .vmem S8x137216 .f32) (harg2 : arg2.IsWhole) (arg3 : Memref sig .tc .vmem S128x2048 .f32) (harg3 : arg3.IsWhole)
  (arg4 : Memref sig .tc .vmem S128x8 .f32) (harg4 : arg4.IsWhole) (arg5 : Memref sig .tc .vmem S128x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x137216 .f32) (harg9 : arg9.IsWhole)
  (T : S512.Idx → Elt F .i32) (x0 : S8x137216.Idx → Elt F .f32) (x1 : S128x2048.Idx → Elt F .f32) (x2 : S128x8.Idx → Elt F .f32)
  (x3 : S128x8.Idx → Elt F .f32) (x4 : S1x8.Idx → Elt F .f32) (x5 : S1x8.Idx → Elt F .f32) (x6 : S4x2048.Idx → Elt F .f32)

/-- The run's pieces: the two conv pieces, then the spans from the last to the first. -/
def memPieces (x : FVec F S8x2048 .f32) (eg bt : FVec F S8x8 .f32) (W : Fin 8 → Fin 4 → FVec F S8x4096 .f32)
    (p2 : FVec F S8x2048 .f32) (p1 : FVec F S8x4096 .f32) : List (View.Piece (Elt F) S8x137216 .f32) :=
  ⟨Rect.unit (s := S8x137216) ![0, 135168] S8x2048.size inb_S8x137216_S8x2048_0_135168, p2⟩ ::
  ⟨Rect.unit (s := S8x137216) ![0, 131072] S8x4096.size inb_S8x137216_S8x4096_0_131072, p1⟩ ::
  List.ofFn fun k : Fin 32 =>
    ⟨Rect.unit (s := S8x137216) ![0, 16384 * ((31 - k.val) / 4) + 4096 * ((31 - k.val) % 4)] S8x4096.size (spanIn _ (by omega)),
      memSpan x eg bt (W ⟨(31 - k.val) / 4, by omega⟩) ⟨(31 - k.val) / 4, by omega⟩ ⟨(31 - k.val) % 4, by omega⟩⟩

theorem memBusy_pieces (hok : MemOk T i) (h1 : ¬ MemIdle T i) (h2 : MemBusy T i) :
    (memRunBusy c i arg2 harg2 arg3 harg3 arg4 harg4 arg5 harg5 arg6 harg6 arg7 harg7 arg8 harg8 arg9 harg9 T x0 x1 x2 x3 x4 x5 x6 hok h1 h2).1
      = memPieces (memRunBusy.sl.r_17 i arg2 arg3 arg8 T x0 x1 x6 hok h2) (memRunBusy.sl.r_20 i arg5 arg6 arg7 T x3 x4 x5 hok h2)
          (memRunBusy.sl.r_21 i arg4 T x2 hok h2) (loadSpan arg2 x0)
          (k0_pay2 (memRunBusy.sl.r_15 i arg3 T x1 hok h2) (memRunBusy.sl.r_16 i T)
            (View.readAt (Elt F) arg2.view (Rect.unit (s := S8x137216) ![0, 135168] S8x2048.size inb_S8x137216_S8x2048_0_135168).toLoadRect (arg2.view.rep x0)))
          (k0_pay1 (memRunBusy.sl.r_16 i T) (memRunBusy.sl.r_72 arg2 x0) (memRunBusy.sl.r_73 i arg2 T x0)) := by
  sl_kernel_rfl

end Cert.KernelIdeal.Gen

end
-- ==== Proof.ORows.lean ====
/- The rows the second call copies.

   The second call keeps two scratch buffers of eight rows.  While it works on one, eight copies fill the other, one per
   token, each out of the row of the array that the token's block names.  This module names the pieces — a row, its
   transfer cell, a copy in flight — and says how a buffer splits into its rows and joins again.
-/
module

public import proofs.«01_k».proof.Proof.Gen.KernelIdeal.Skeleton
public import proofs.«01_k».proof.Proof.Gen.KernelIdeal.Launch
public import Idealize.ShloMosaic.Lib.Writes
public import Idealize.ShloMosaic.Lib.Ring
public import Idealize.ShloMosaic.Lib.Exec
public import Idealize.ShloMosaic.Lib.Tactic
public import Idealize.ShloMosaic.Lib.Transfers
public import Idealize.ShloMosaic.Lib.Pointwise.Index

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-- The second call's table: the block of every token. -/
abbrev idxM : Memref sig .tc .smem S128 .i32 := Memref.whole main_arg7
/-- The array the second call's own copies read. -/
abbrev kvM : Memref sig .tc .hbm S512x137216 .f32 := Memref.whole main_arg3
/-- The two scratch buffers its copies fill, in turn. -/
abbrev scA : Memref sig .tc .vmem S8x137216 .f32 := Memref.whole cc1_scratch0
abbrev scB : Memref sig .tc .vmem S8x137216 .f32 := Memref.whole cc1_scratch1

theorem inbRow (r : Fin 8) : ∀ a, (![r.val, 0] : Fin 2 → ℕ) a + S1x137216.size a ≤ S8x137216.size a := by revert r; decide
theorem inbSem (r : Fin 8) : ∀ a, (![r.val] : Fin 1 → ℕ) a + S1.size a ≤ S8.size a := by revert r; decide

/-- Row `r` of a scratch buffer. -/
abbrev rowM (M : Memref sig .tc .vmem S8x137216 .f32) (r : Fin 8) : Memref sig .tc .vmem S1x137216 .f32 :=
  M.slice (Rect.unit (s := S8x137216) ![r.val, 0] S1x137216.size (inbRow r)) (fun _ => rfl)

/-- The transfer cell of row `r` in an array of eight. -/
abbrev semR (A : DmaSems sig S8) (r : Fin 8) : DmaSem sig :=
  ((A.slice (Rect.unit (s := S8) ![r.val] S1.size (inbSem r))).squeeze S_ squeezes_S1_S_).sem

/-- A word below 512 names a row of the array. -/
theorem row_inb {v : BitVec 32} (h : v.toNat < 512) :
    ∀ a, (![v.toNat, 0] : Fin 2 → ℕ) a + S1x137216.size a ≤ S512x137216.size a := by
  intro a; fin_cases a
  · show v.toNat + 1 ≤ 512; omega
  · exact le_refl _

/-- The block of token `8 b + r`, read off the table's contents. -/
def blkAt (T : S128.Idx → BitVec 32) (b : ℕ) (r : Fin 8) : BitVec 32 := T (Idealize.ShloMosaic.ix1 (n0 := 128) ⟨(8 * b + r.val) % 128, Nat.mod_lt _ (by decide)⟩)

/-- The eight rows of `KV` that the tokens of block `b` select. -/
def gathered (T : S128.Idx → BitVec 32) (KV : S512x137216.Idx → Elt F .f32) (b : ℕ) : S8x137216.Idx → Elt F .f32 :=
  fun x => KV (Idealize.ShloMosaic.ix2 (n0 := 512) (n1 := 137216) ⟨(blkAt T b (x 0)).toNat % 512, Nat.mod_lt _ (by decide)⟩ (x 1))

variable (c : Dev nD)

/-- Row `r` of the scratch `M`, held at the contents `f`. -/
abbrev scRow (M : Memref sig .tc .vmem S8x137216 .f32) (r : Fin 8) (f : Buf (Elt F) ((rowM M r).view.loc (c : Thread nD τ))) : sProp 𝕄 :=
  iprop(((rowM M r).view.loc (c : Thread nD τ)) ↦[(rowM M r).view.set]{fullShare} f)

/-- The cell of row `r`, with nothing in flight on it. -/
abbrev cellIdle (A : DmaSems sig S8) (r : Fin 8) : sProp 𝕄 := semVal ((c : Thread nD τ), SemLoc.dma (semR A r)) 0

/-- A read share of the array the copies read. -/
abbrev kvTok (q : PosShare TreeShare) (KV : S512x137216.Idx → Elt F .f32) : sProp 𝕄 :=
  iprop(kvM.view.loc (c : Thread nD τ) ↦{q} KV)

/-- A copy in flight into row `r` of `M`: it will deliver the row at the contents `G` and the part `I` of the read share it borrowed. -/
abbrev rowFlight (M : Memref sig .tc .vmem S8x137216 .f32) (A : DmaSems sig S8) (r : Fin 8) (q : PosShare TreeShare)
    (I : Finset (Idx (kvM.view.loc (c : Thread nD τ)))) (G : Buf (Elt F) ((rowM M r).view.loc (c : Thread nD τ)))
    (KV : S512x137216.Idx → Elt F .f32) : sProp 𝕄 :=
  Transfers.Flight countersEmb (c : Thread nD τ) (SemLoc.dma (semR A r)) default 17152
    iprop(scRow c M r G ∗ (kvM.view.loc (c : Thread nD τ) ↦[I]{q} KV))

/-- What stays behind of the read share while the copy is in flight. -/
abbrev kvRest (q : PosShare TreeShare) (I : Finset (Idx (kvM.view.loc (c : Thread nD τ)))) (KV : S512x137216.Idx → Elt F .f32) : sProp 𝕄 :=
  iprop(kvM.view.loc (c : Thread nD τ) ↦[Finset.univ \ I]{q} KV)

/-- The two together, the part lent being whatever the copy's row is. -/
abbrev rowFly (M : Memref sig .tc .vmem S8x137216 .f32) (A : DmaSems sig S8) (r : Fin 8) (q : PosShare TreeShare)
    (G : Buf (Elt F) ((rowM M r).view.loc (c : Thread nD τ))) (KV : S512x137216.Idx → Elt F .f32) : sProp 𝕄 :=
  iprop(∃ I, rowFlight c M A r q I G KV ∗ kvRest c q I KV)

/-- A written row is the row at any contents agreeing with what was written. -/
theorem row_lands {M : Memref sig .tc .vmem S8x137216 .f32} {r : Fin 8} {g G : Buf (Elt F) ((rowM M r).view.loc (c : Thread nD τ))}
    {pay : S1x137216.Idx → Elt F .f32} (h : ∀ y, pay y = (rowM M r).view.read (Elt F) G y) :
    scRow c M r ((rowM M r).view.writes (Elt F) g [⟨Rect.whole S1x137216, pay⟩]) = scRow c M r G := by
  refine pointsTo_congr fun i hi => ?_
  obtain ⟨y, -, rfl⟩ := Finset.mem_map.mp hi
  have e := congrFun (View.read_writes_whole (rowM M r).view g pay) y
  have e' := e.trans (h y)
  rw [View.read_apply, View.read_apply] at e'
  exact cast_inj _ |>.mp e'

/-- A flight's delivery restated by `row_lands`. -/
theorem fly_intro {M : Memref sig .tc .vmem S8x137216 .f32} {A : DmaSems sig S8} {r : Fin 8} {q : PosShare TreeShare}
    {I : Finset (Idx (kvM.view.loc (c : Thread nD τ)))} {g G : Buf (Elt F) ((rowM M r).view.loc (c : Thread nD τ))}
    {KV : S512x137216.Idx → Elt F .f32} {pay : S1x137216.Idx → Elt F .f32} (h : ∀ y, pay y = (rowM M r).view.read (Elt F) G y) :
    iprop(Transfers.Flight countersEmb (c : Thread nD τ) (SemLoc.dma (semR A r)) default 17152
        iprop(scRow c M r ((rowM M r).view.writes (Elt F) g [⟨Rect.whole S1x137216, pay⟩]) ∗ (kvM.view.loc (c : Thread nD τ) ↦[I]{q} KV))
      ∗ kvRest c q I KV) ⊢ rowFly c M A r q G KV := by
  rw [row_lands c h]
  iintro ⟨H, R⟩; iexists I
  isplitl [H]; · iexact H
  iexact R

/-! The eight rows of each scratch buffer are disjoint and fill it. -/

theorem rowA_disj (r r' : Fin 8) (h : r ≠ r') : Disjoint (rowM scA r).view.set (rowM scA r').view.set := by
  show Disjoint ((View.whole cc1_scratch0).slice (Rect.unit (s := S8x137216) ![r.val, 0] S1x137216.size (inbRow r))).set
    ((View.whole cc1_scratch0).slice (Rect.unit (s := S8x137216) ![r'.val, 0] S1x137216.size (inbRow r'))).set
  rw [View.set_slice_whole, View.set_slice_whole]
  exact Ring.lead_disjoint (s := S8x137216) 0 1 (fun b : Fin 8 => ![b.val, 0]) S1x137216.size inbRow (fun b => (Nat.one_mul _).symm) rfl r r' h

theorem rowB_disj (r r' : Fin 8) (h : r ≠ r') : Disjoint (rowM scB r).view.set (rowM scB r').view.set := by
  show Disjoint ((View.whole cc1_scratch1).slice (Rect.unit (s := S8x137216) ![r.val, 0] S1x137216.size (inbRow r))).set
    ((View.whole cc1_scratch1).slice (Rect.unit (s := S8x137216) ![r'.val, 0] S1x137216.size (inbRow r'))).set
  rw [View.set_slice_whole, View.set_slice_whole]
  exact Ring.lead_disjoint (s := S8x137216) 0 1 (fun b : Fin 8 => ![b.val, 0]) S1x137216.size inbRow (fun b => (Nat.one_mul _).symm) rfl r r' h

theorem row_cover : Finset.univ.biUnion (fun b : Fin 8 => (Rect.unit (s := S8x137216) ![b.val, 0] S1x137216.size (inbRow b)).set) = Finset.univ :=
  Ring.lead_cover (s := S8x137216) 0 1 (fun b : Fin 8 => ![b.val, 0]) S1x137216.size inbRow (fun b => (Nat.one_mul _).symm)
    (fun b a ha => by fin_cases a; · exact absurd rfl ha
                      · rfl) rfl (fun a ha => by fin_cases a; · exact absurd rfl ha
                                                 · rfl) rfl

theorem rowA_cover : (Finset.univ : Finset (Fin 8)).biUnion (fun r => (show Finset (Idx ((c : Thread nD τ).loc cc1_scratch0)) from (rowM scA r).view.set)) = Finset.univ :=
  (congrArg (fun K : Fin 8 → Finset S8x137216.Idx => (Finset.univ : Finset (Fin 8)).biUnion K)
    (funext fun r : Fin 8 => View.set_slice_whole cc1_scratch0 (Rect.unit (s := S8x137216) ![r.val, 0] S1x137216.size (inbRow r)))).trans row_cover

theorem rowB_cover : (Finset.univ : Finset (Fin 8)).biUnion (fun r => (show Finset (Idx ((c : Thread nD τ).loc cc1_scratch1)) from (rowM scB r).view.set)) = Finset.univ :=
  (congrArg (fun K : Fin 8 → Finset S8x137216.Idx => (Finset.univ : Finset (Fin 8)).biUnion K)
    (funext fun r : Fin 8 => View.set_slice_whole cc1_scratch1 (Rect.unit (s := S8x137216) ![r.val, 0] S1x137216.size (inbRow r)))).trans row_cover

/-- A scratch buffer held whole is its eight rows. -/
theorem rowsA (G : Buf (Elt F) ((c : Thread nD τ).loc cc1_scratch0)) :
    (scA.view.loc (c : Thread nD τ) ↦{fullShare} G : sProp 𝕄)
      = iprop(scRow c scA 0 G ∗ scRow c scA 1 G ∗ scRow c scA 2 G ∗ scRow c scA 3 G ∗ scRow c scA 4 G ∗ scRow c scA 5 G ∗ scRow c scA 6 G ∗ scRow c scA 7 G) := by
  show ((c : Thread nD τ).loc cc1_scratch0 ↦{fullShare} G : sProp 𝕄) = _
  rw [Ring.pointsTo_blocks (ℓ := (c : Thread nD τ).loc cc1_scratch0) (fun r : Fin 8 => (rowM scA r).view.set) rowA_disj (rowA_cover c),
    bigSep_univ_eq_bigSepL [0, 1, 2, 3, 4, 5, 6, 7] (by decide) (by decide)]
  rfl

theorem rowsB (G : Buf (Elt F) ((c : Thread nD τ).loc cc1_scratch1)) :
    (scB.view.loc (c : Thread nD τ) ↦{fullShare} G : sProp 𝕄)
      = iprop(scRow c scB 0 G ∗ scRow c scB 1 G ∗ scRow c scB 2 G ∗ scRow c scB 3 G ∗ scRow c scB 4 G ∗ scRow c scB 5 G ∗ scRow c scB 6 G ∗ scRow c scB 7 G) := by
  show ((c : Thread nD τ).loc cc1_scratch1 ↦{fullShare} G : sProp 𝕄) = _
  rw [Ring.pointsTo_blocks (ℓ := (c : Thread nD τ).loc cc1_scratch1) (fun r : Fin 8 => (rowM scB r).view.set) rowB_disj (rowB_cover c),
    bigSep_univ_eq_bigSepL [0, 1, 2, 3, 4, 5, 6, 7] (by decide) (by decide)]
  rfl

/-- The word the body reads at position `8 b + r` of its table is token `8 b + r`'s block. -/
theorem word_at (T : S128.Idx → Elt F .i32) (off : Fin 1 → ℕ) (inb : ∀ a, off a + S1.size a ≤ S128.size a) (h : 0 < S1.numel) (b : ℕ) (r : Fin 8)
    (hoff : off 0 = 8 * b + r.val) :
    View.readAt (Elt F) idxM.view (Rect.unit (s := S128) off S1.size inb).toLoadRect T (Shape.Idx.first h) = blkAt T b r := by
  have hlt : 8 * b + r.val < 128 := by have := inb 0; rw [hoff] at this; exact this
  refine congrArg T (funext fun a => Fin.ext ?_)
  match a with
  | ⟨0, _⟩ =>
    show off 0 + 1 * ((Shape.Idx.first h : S1.Idx) 0).val = (8 * b + r.val) % 128
    have : ((Shape.Idx.first h : S1.Idx) 0).val < 1 := ((Shape.Idx.first h : S1.Idx) 0).isLt
    rw [hoff, Nat.mod_eq_of_lt hlt]; omega

/-- What a copy of the row that `v` names carries is the row of `gathered`. -/
theorem payA {T : S128.Idx → Elt F .i32} (KV : S512x137216.Idx → Elt F .f32) {v : BitVec 32} {b : ℕ} {r : Fin 8} (hv : v = blkAt T b r)
    (hT : ∀ j, (T j).toNat < 512) (off : Fin 2 → ℕ) (hoff : off = ![v.toNat, 0]) (inb : ∀ a, off a + S1x137216.size a ≤ S512x137216.size a)
    (hu : ∀ a, (Rect.unit (s := S512x137216) off S1x137216.size inb).stride a = 1) (y : S1x137216.Idx) :
    (kvM.slice (Rect.unit (s := S512x137216) off S1x137216.size inb) hu).view.read (Elt F) KV y
      = (rowM scA r).view.read (Elt F) (gathered T KV b) y := by
  subst hv hoff
  refine congrArg KV (funext fun a => Fin.ext ?_)
  match a with
  | ⟨0, _⟩ =>
    show (blkAt T b r).toNat + 1 * (y 0).val = (blkAt T b ((rowM scA r).view.emb y 0)).toNat % 512
    have hy : (y 0).val < 1 := (y 0).isLt
    have e : ((rowM scA r).view.emb y 0 : Fin 8) = r := Fin.ext (by show r.val + 1 * (y 0).val = r.val; omega)
    rw [e, Nat.mod_eq_of_lt (show (blkAt T b r).toNat < 512 from hT _)]; omega
  | ⟨1, _⟩ => rfl

theorem payB {T : S128.Idx → Elt F .i32} (KV : S512x137216.Idx → Elt F .f32) {v : BitVec 32} {b : ℕ} {r : Fin 8} (hv : v = blkAt T b r)
    (hT : ∀ j, (T j).toNat < 512) (off : Fin 2 → ℕ) (hoff : off = ![v.toNat, 0]) (inb : ∀ a, off a + S1x137216.size a ≤ S512x137216.size a)
    (hu : ∀ a, (Rect.unit (s := S512x137216) off S1x137216.size inb).stride a = 1) (y : S1x137216.Idx) :
    (kvM.slice (Rect.unit (s := S512x137216) off S1x137216.size inb) hu).view.read (Elt F) KV y
      = (rowM scB r).view.read (Elt F) (gathered T KV b) y := payA KV hv hT off hoff inb hu y

/-- The positions the body computes: block `i`'s words, and the next block's. -/
theorem off_here (i : grid1.Coords) (r : Fin 8) : k1_off18 i (BitVec.ofNat 32 r.val) 0 = 8 * (i 0).val + r.val := by
  have h : ∀ (n : Fin 16) (r : Fin 8), (8#32 * BitVec.ofNat 32 n.val + BitVec.ofNat 32 r.val).toNat = 8 * n.val + r.val := by decide
  exact h (i 0) r

theorem off_next (i : grid1.Coords) (r : Fin 8) (h : (i 0).val + 1 < 16) : k1_off9 i (BitVec.ofNat 32 r.val) 0 = 8 * ((i 0).val + 1) + r.val := by
  have h : ∀ (n : Fin 16) (r : Fin 8), (8#32 * (BitVec.ofNat 32 n.val + 1#32) + BitVec.ofNat 32 r.val).toNat = 8 * (n.val + 1) + r.val := by decide
  exact h (i 0) r

theorem off_next' (i : grid1.Coords) (r : Fin 8) (h : (i 0).val + 1 < 16) : k1_off27 i (BitVec.ofNat 32 r.val) 0 = 8 * ((i 0).val + 1) + r.val := off_next i r h

/-- Eight pieces, one per row. -/
abbrev eight (Φ : Fin 8 → sProp 𝕄) : sProp 𝕄 := iprop(Φ 0 ∗ Φ 1 ∗ Φ 2 ∗ Φ 3 ∗ Φ 4 ∗ Φ 5 ∗ Φ 6 ∗ Φ 7)

variable (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

/-- What the body holds and gives back besides its output and its copies: the six input blocks and its share of the table. -/
abbrev oIn : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (arg8.view.loc (c : Thread nD τ) ↦[arg8.view.set]{fullShare} arg8.view.rep x5)
    ∗ (idxM.view.loc (c : Thread nD τ) ↦{fullShare.right} T))

/-- A buffer with nothing in flight: it is held whole, with the eight read shares and the eight cells. -/
abbrev idleA : sProp 𝕄 :=
  iprop((∃ f, scA.view.loc (c : Thread nD τ) ↦{fullShare} f) ∗ eight (fun r => kvTok c (qA r) KV) ∗ eight (fun r => cellIdle c cc1_scratch2 r))
abbrev idleB : sProp 𝕄 :=
  iprop((∃ f, scB.view.loc (c : Thread nD τ) ↦{fullShare} f) ∗ eight (fun r => kvTok c (qB r) KV) ∗ eight (fun r => cellIdle c cc1_scratch3 r))
/-- A buffer with its eight copies for block `b` in flight. -/
abbrev busyA (b : ℕ) : sProp 𝕄 := eight (fun r => rowFly c scA cc1_scratch2 r (qA r) (gathered T KV b) KV)
abbrev busyB (b : ℕ) : sProp 𝕄 := eight (fun r => rowFly c scB cc1_scratch3 r (qB r) (gathered T KV b) KV)

end Cert.KernelIdeal.Gen

end
-- ==== Proof.OFirst.lean ====
/- The second call's body at the first point.
-/
module

public import proofs.«01_k».proof.Proof.Gen.KernelIdeal.Skeleton
public import proofs.«01_k».proof.Proof.Gen.KernelIdeal.Launch
public import Idealize.ShloMosaic.Lib.Writes
public import Idealize.ShloMosaic.Lib.Ring
public import Idealize.ShloMosaic.Lib.Exec
public import Idealize.ShloMosaic.Lib.Tactic
public import Idealize.ShloMosaic.Lib.Transfers
public import proofs.«01_k».proof.Proof.ORows

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

set_option maxHeartbeats 1000000 in
/-- The first point: both buffers' copies start, this one's are waited for, the block is computed. -/
def oRunFirst (hT : ∀ j, (T j).toNat < 512) (h1 : k1_cond1 i = 1#1) (h2 : k1_cond2 i = 1#1) (h3 : k1_cond3 i = 1#1) (h4 : ¬ k1_cond4 i = 1#1) (hi : (i 0).val = 0) :
    { L : List (View.Piece (Elt F) S8x1024 .f32) //
      ∀ (K : PUnit → sProp 𝕄),
        iprop(oIn c arg3 arg4 arg5 arg6 arg7 arg8 T x0 x1 x2 x3 x4 x5
          ∗ (∃ d, owns (c : Thread nD τ) arg9 fullShare d) ∗ (∃ W, owes (c : Thread nD τ) 0 W)
          ∗ idleA c KV qA ∗ idleB c KV qB
          ∗ (iprop(oIn c arg3 arg4 arg5 arg6 arg7 arg8 T x0 x1 x2 x3 x4 x5
              ∗ (∃ f, arg9.view.loc (c : Thread nD τ) ↦[arg9.view.set]{fullShare} arg9.view.writes (Elt F) f L)
              ∗ (∃ W, owes (c : Thread nD τ) 0 W) ∗ idleA c KV qA ∗ busyB c T KV qB ((i 0).val + 1)) -∗ K ⟨⟩))
          ⊢ wp frame (wpE (defs₀ (F := F)) Variants.none c none) Set.univ (cc1__o_kernel i idxM (Memref.isWhole_whole _) kvM (Memref.isWhole_whole _) arg3 harg3 arg4 harg4 arg5 harg5 arg6 harg6 arg7 harg7 arg8 harg8 arg9 harg9 scA (Memref.isWhole_whole _) scB (Memref.isWhole_whole _) cc1_scratch2 cc1_scratch3) K } := by
  refine ⟨?_, fun K => ?run⟩
  case run =>
    unfold owns
    rw [cc1__o_kernel_eq_skeleton]; unfold cc1__o_kernel_skel
    iintro ⟨⟨H3, H4, H5, H6, H7, H8, HT⟩, ⟨%d7, %f7, -, HO⟩, ⟨%W, HW⟩,
      ⟨⟨%g', HA⟩, ⟨R0, R1, R2, R3, R4, R5, R6, R7⟩, F0, F1, F2, F3, F4, F5, F6, F7⟩,
      ⟨⟨%g, HB⟩, ⟨K0, K1, K2, K3, K4, K5, K6, K7⟩, S0, S1, S2, S3, S4, S5, S6, S7⟩, Hk⟩
    ihave HB := (BIBase.BiEntails.of_eq (rowsB c g)).1 $$ HB
    icases HB with ⟨B0, B1, B2, B3, B4, B5, B6, B7⟩
    ihave HA := (BIBase.BiEntails.of_eq (rowsA c g')).1 $$ HA
    icases HA with ⟨A0, A1, A2, A3, A4, A5, A6, A7⟩
    have hT0 : idxM.IsWhole := Memref.isWhole_whole _
    have hK0 : kvM.IsWhole := Memref.isWhole_whole _
    have hA0 : scA.IsWhole := Memref.isWhole_whole _
    have hB0 : scB.IsWhole := Memref.isWhole_whole _
    sl_exec (disch := first | (guard_target = k1_cond1 _ = _; exact h1) | (guard_target = k1_cond2 _ = _; exact h2) | (guard_target = k1_cond3 _ = _; exact h3) | (guard_target = ¬(k1_cond4 _ = _); exact h4) | exact fun _ => row_inb (hT _) | exact fun _ _ => row_inb (hT _))
    have v0 : oRunFirst.sl.r T = blkAt T (i 0).val 0 := word_at T ![0] _ _ (i 0).val 0 (by rw [hi]; rfl)
    have d0 : ∀ y, oRunFirst.sl.dma8 i T KV hT h1 y = (rowM scA 0).view.read (Elt F) (gathered T KV (i 0).val) y := by
      intro y; unfold oRunFirst.sl.dma8; exact payA KV v0 hT _ rfl _ _ y
    ihave A0 := (BIBase.BiEntails.of_eq (row_lands c (M := scA) (r := 0) (g := g') (G := (gathered T KV (i 0).val)) (pay := oRunFirst.sl.dma8 i T KV hT h1) d0)).1 $$ A0
    have v1 : oRunFirst.sl.r_1 T = blkAt T (i 0).val 1 := word_at T ![1] _ _ (i 0).val 1 (by rw [hi]; rfl)
    have d1 : ∀ y, oRunFirst.sl.dma8_1 i T KV hT h1 y = (rowM scA 1).view.read (Elt F) (gathered T KV (i 0).val) y := by
      intro y; unfold oRunFirst.sl.dma8_1; exact payA KV v1 hT _ rfl _ _ y
    ihave A1 := (BIBase.BiEntails.of_eq (row_lands c (M := scA) (r := 1) (g := g') (G := (gathered T KV (i 0).val)) (pay := oRunFirst.sl.dma8_1 i T KV hT h1) d1)).1 $$ A1
    have v2 : oRunFirst.sl.r_2 T = blkAt T (i 0).val 2 := word_at T ![2] _ _ (i 0).val 2 (by rw [hi]; rfl)
    have d2 : ∀ y, oRunFirst.sl.dma8_2 i T KV hT h1 y = (rowM scA 2).view.read (Elt F) (gathered T KV (i 0).val) y := by
      intro y; unfold oRunFirst.sl.dma8_2; exact payA KV v2 hT _ rfl _ _ y
    ihave A2 := (BIBase.BiEntails.of_eq (row_lands c (M := scA) (r := 2) (g := g') (G := (gathered T KV (i 0).val)) (pay := oRunFirst.sl.dma8_2 i T KV hT h1) d2)).1 $$ A2
    have v3 : oRunFirst.sl.r_3 T = blkAt T (i 0).val 3 := word_at T ![3] _ _ (i 0).val 3 (by rw [hi]; rfl)
    have d3 : ∀ y, oRunFirst.sl.dma8_3 i T KV hT h1 y = (rowM scA 3).view.read (Elt F) (gathered T KV (i 0).val) y := by
      intro y; unfold oRunFirst.sl.dma8_3; exact payA KV v3 hT _ rfl _ _ y
    ihave A3 := (BIBase.BiEntails.of_eq (row_lands c (M := scA) (r := 3) (g := g') (G := (gathered T KV (i 0).val)) (pay := oRunFirst.sl.dma8_3 i T KV hT h1) d3)).1 $$ A3
    have v4 : oRunFirst.sl.r_4 T = blkAt T (i 0).val 4 := word_at T ![4] _ _ (i 0).val 4 (by rw [hi]; rfl)
    have d4 : ∀ y, oRunFirst.sl.dma8_4 i T KV hT h1 y = (rowM scA 4).view.read (Elt F) (gathered T KV (i 0).val) y := by
      intro y; unfold oRunFirst.sl.dma8_4; exact payA KV v4 hT _ rfl _ _ y
    ihave A4 := (BIBase.BiEntails.of_eq (row_lands c (M := scA) (r := 4) (g := g') (G := (gathered T KV (i 0).val)) (pay := oRunFirst.sl.dma8_4 i T KV hT h1) d4)).1 $$ A4
    have v5 : oRunFirst.sl.r_5 T = blkAt T (i 0).val 5 := word_at T ![5] _ _ (i 0).val 5 (by rw [hi]; rfl)
    have d5 : ∀ y, oRunFirst.sl.dma8_5 i T KV hT h1 y = (rowM scA 5).view.read (Elt F) (gathered T KV (i 0).val) y := by
      intro y; unfold oRunFirst.sl.dma8_5; exact payA KV v5 hT _ rfl _ _ y
    ihave A5 := (BIBase.BiEntails.of_eq (row_lands c (M := scA) (r := 5) (g := g') (G := (gathered T KV (i 0).val)) (pay := oRunFirst.sl.dma8_5 i T KV hT h1) d5)).1 $$ A5
    have v6 : oRunFirst.sl.r_6 T = blkAt T (i 0).val 6 := word_at T ![6] _ _ (i 0).val 6 (by rw [hi]; rfl)
    have d6 : ∀ y, oRunFirst.sl.dma8_6 i T KV hT h1 y = (rowM scA 6).view.read (Elt F) (gathered T KV (i 0).val) y := by
      intro y; unfold oRunFirst.sl.dma8_6; exact payA KV v6 hT _ rfl _ _ y
    ihave A6 := (BIBase.BiEntails.of_eq (row_lands c (M := scA) (r := 6) (g := g') (G := (gathered T KV (i 0).val)) (pay := oRunFirst.sl.dma8_6 i T KV hT h1) d6)).1 $$ A6
    have v7 : oRunFirst.sl.r_7 T = blkAt T (i 0).val 7 := word_at T ![7] _ _ (i 0).val 7 (by rw [hi]; rfl)
    have d7 : ∀ y, oRunFirst.sl.dma8_7 i T KV hT h1 y = (rowM scA 7).view.read (Elt F) (gathered T KV (i 0).val) y := by
      intro y; unfold oRunFirst.sl.dma8_7; exact payA KV v7 hT _ rfl _ _ y
    ihave A7 := (BIBase.BiEntails.of_eq (row_lands c (M := scA) (r := 7) (g := g') (G := (gathered T KV (i 0).val)) (pay := oRunFirst.sl.dma8_7 i T KV hT h1) d7)).1 $$ A7
    ihave HA := (BIBase.BiEntails.of_eq (rowsA c (gathered T KV (i 0).val))).2 $$ [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    sl_exec! (disch := first | (guard_target = ¬(k1_cond4 _ = _); exact h4))
    sl_step
    have w0 : oRunFirst.sl.r_8 i T h2 h3 = blkAt T ((i 0).val + 1) 0 := word_at T _ _ _ _ 0 (off_next i 0 (by rw [hi]; decide))
    have e0 : ∀ y, oRunFirst.sl.dma16 i T KV hT h2 h3 y = (rowM scB 0).view.read (Elt F) (gathered T KV ((i 0).val + 1)) y := by
      intro y; unfold oRunFirst.sl.dma16; exact payB KV w0 hT _ rfl _ _ y
    ihave S0 := fly_intro c (M := scB) (A := cc1_scratch3) (r := 0) (q := qB 0) (g := g) (G := gathered T KV ((i 0).val + 1)) (KV := KV) (pay := oRunFirst.sl.dma16 i T KV hT h2 h3) e0 $$ [S0 K0]
    · isplitl [S0]; · iexact S0
      iexact K0
    icases S0 with ⟨%J0, S0, K0⟩
    have w1 : oRunFirst.sl.r_9 i T h2 h3 = blkAt T ((i 0).val + 1) 1 := word_at T _ _ _ _ 1 (off_next i 1 (by rw [hi]; decide))
    have e1 : ∀ y, oRunFirst.sl.dma16_1 i T KV hT h2 h3 y = (rowM scB 1).view.read (Elt F) (gathered T KV ((i 0).val + 1)) y := by
      intro y; unfold oRunFirst.sl.dma16_1; exact payB KV w1 hT _ rfl _ _ y
    ihave S1 := fly_intro c (M := scB) (A := cc1_scratch3) (r := 1) (q := qB 1) (g := g) (G := gathered T KV ((i 0).val + 1)) (KV := KV) (pay := oRunFirst.sl.dma16_1 i T KV hT h2 h3) e1 $$ [S1 K1]
    · isplitl [S1]; · iexact S1
      iexact K1
    icases S1 with ⟨%J1, S1, K1⟩
    have w2 : oRunFirst.sl.r_10 i T h2 h3 = blkAt T ((i 0).val + 1) 2 := word_at T _ _ _ _ 2 (off_next i 2 (by rw [hi]; decide))
    have e2 : ∀ y, oRunFirst.sl.dma16_2 i T KV hT h2 h3 y = (rowM scB 2).view.read (Elt F) (gathered T KV ((i 0).val + 1)) y := by
      intro y; unfold oRunFirst.sl.dma16_2; exact payB KV w2 hT _ rfl _ _ y
    ihave S2 := fly_intro c (M := scB) (A := cc1_scratch3) (r := 2) (q := qB 2) (g := g) (G := gathered T KV ((i 0).val + 1)) (KV := KV) (pay := oRunFirst.sl.dma16_2 i T KV hT h2 h3) e2 $$ [S2 K2]
    · isplitl [S2]; · iexact S2
      iexact K2
    icases S2 with ⟨%J2, S2, K2⟩
    have w3 : oRunFirst.sl.r_11 i T h2 h3 = blkAt T ((i 0).val + 1) 3 := word_at T _ _ _ _ 3 (off_next i 3 (by rw [hi]; decide))
    have e3 : ∀ y, oRunFirst.sl.dma16_3 i T KV hT h2 h3 y = (rowM scB 3).view.read (Elt F) (gathered T KV ((i 0).val + 1)) y := by
      intro y; unfold oRunFirst.sl.dma16_3; exact payB KV w3 hT _ rfl _ _ y
    ihave S3 := fly_intro c (M := scB) (A := cc1_scratch3) (r := 3) (q := qB 3) (g := g) (G := gathered T KV ((i 0).val + 1)) (KV := KV) (pay := oRunFirst.sl.dma16_3 i T KV hT h2 h3) e3 $$ [S3 K3]
    · isplitl [S3]; · iexact S3
      iexact K3
    icases S3 with ⟨%J3, S3, K3⟩
    have w4 : oRunFirst.sl.r_12 i T h2 h3 = blkAt T ((i 0).val + 1) 4 := word_at T _ _ _ _ 4 (off_next i 4 (by rw [hi]; decide))
    have e4 : ∀ y, oRunFirst.sl.dma16_4 i T KV hT h2 h3 y = (rowM scB 4).view.read (Elt F) (gathered T KV ((i 0).val + 1)) y := by
      intro y; unfold oRunFirst.sl.dma16_4; exact payB KV w4 hT _ rfl _ _ y
    ihave S4 := fly_intro c (M := scB) (A := cc1_scratch3) (r := 4) (q := qB 4) (g := g) (G := gathered T KV ((i 0).val + 1)) (KV := KV) (pay := oRunFirst.sl.dma16_4 i T KV hT h2 h3) e4 $$ [S4 K4]
    · isplitl [S4]; · iexact S4
      iexact K4
    icases S4 with ⟨%J4, S4, K4⟩
    have w5 : oRunFirst.sl.r_13 i T h2 h3 = blkAt T ((i 0).val + 1) 5 := word_at T _ _ _ _ 5 (off_next i 5 (by rw [hi]; decide))
    have e5 : ∀ y, oRunFirst.sl.dma16_5 i T KV hT h2 h3 y = (rowM scB 5).view.read (Elt F) (gathered T KV ((i 0).val + 1)) y := by
      intro y; unfold oRunFirst.sl.dma16_5; exact payB KV w5 hT _ rfl _ _ y
    ihave S5 := fly_intro c (M := scB) (A := cc1_scratch3) (r := 5) (q := qB 5) (g := g) (G := gathered T KV ((i 0).val + 1)) (KV := KV) (pay := oRunFirst.sl.dma16_5 i T KV hT h2 h3) e5 $$ [S5 K5]
    · isplitl [S5]; · iexact S5
      iexact K5
    icases S5 with ⟨%J5, S5, K5⟩
    have w6 : oRunFirst.sl.r_14 i T h2 h3 = blkAt T ((i 0).val + 1) 6 := word_at T _ _ _ _ 6 (off_next i 6 (by rw [hi]; decide))
    have e6 : ∀ y, oRunFirst.sl.dma16_6 i T KV hT h2 h3 y = (rowM scB 6).view.read (Elt F) (gathered T KV ((i 0).val + 1)) y := by
      intro y; unfold oRunFirst.sl.dma16_6; exact payB KV w6 hT _ rfl _ _ y
    ihave S6 := fly_intro c (M := scB) (A := cc1_scratch3) (r := 6) (q := qB 6) (g := g) (G := gathered T KV ((i 0).val + 1)) (KV := KV) (pay := oRunFirst.sl.dma16_6 i T KV hT h2 h3) e6 $$ [S6 K6]
    · isplitl [S6]; · iexact S6
      iexact K6
    icases S6 with ⟨%J6, S6, K6⟩
    have w7 : oRunFirst.sl.r_15 i T h2 h3 = blkAt T ((i 0).val + 1) 7 := word_at T _ _ _ _ 7 (off_next i 7 (by rw [hi]; decide))
    have e7 : ∀ y, oRunFirst.sl.dma16_7 i T KV hT h2 h3 y = (rowM scB 7).view.read (Elt F) (gathered T KV ((i 0).val + 1)) y := by
      intro y; unfold oRunFirst.sl.dma16_7; exact payB KV w7 hT _ rfl _ _ y
    ihave S7 := fly_intro c (M := scB) (A := cc1_scratch3) (r := 7) (q := qB 7) (g := g) (G := gathered T KV ((i 0).val + 1)) (KV := KV) (pay := oRunFirst.sl.dma16_7 i T KV hT h2 h3) e7 $$ [S7 K7]
    · isplitl [S7]; · iexact S7
      iexact K7
    icases S7 with ⟨%J7, S7, K7⟩
    iapply Hk
    sl_close

end Cert.KernelIdeal.Gen

end
-- ==== Proof.OEven.lean ====
/- The second call's body at an even point after the first.
-/
module

public import proofs.«01_k».proof.Proof.Gen.KernelIdeal.Skeleton
public import proofs.«01_k».proof.Proof.Gen.KernelIdeal.Launch
public import Idealize.ShloMosaic.Lib.Writes
public import Idealize.ShloMosaic.Lib.Ring
public import Idealize.ShloMosaic.Lib.Exec
public import Idealize.ShloMosaic.Lib.Tactic
public import Idealize.ShloMosaic.Lib.Transfers
public import proofs.«01_k».proof.Proof.ORows

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

set_option maxHeartbeats 1000000 in
/-- An even point after the first: the other buffer's copies start, this one's are waited for, the block is computed. -/
def oRunEven (hT : ∀ j, (T j).toNat < 512) (h1 : ¬ k1_cond1 i = 1#1) (h2 : k1_cond2 i = 1#1) (h3 : k1_cond3 i = 1#1) (h4 : ¬ k1_cond4 i = 1#1) (hi : (i 0).val + 1 < 16) :
    { L : List (View.Piece (Elt F) S8x1024 .f32) //
      ∀ (K : PUnit → sProp 𝕄),
        iprop(oIn c arg3 arg4 arg5 arg6 arg7 arg8 T x0 x1 x2 x3 x4 x5
          ∗ (∃ d, owns (c : Thread nD τ) arg9 fullShare d) ∗ (∃ W, owes (c : Thread nD τ) 0 W)
          ∗ busyA c T KV qA (i 0).val ∗ idleB c KV qB
          ∗ (iprop(oIn c arg3 arg4 arg5 arg6 arg7 arg8 T x0 x1 x2 x3 x4 x5
              ∗ (∃ f, arg9.view.loc (c : Thread nD τ) ↦[arg9.view.set]{fullShare} arg9.view.writes (Elt F) f L)
              ∗ (∃ W, owes (c : Thread nD τ) 0 W) ∗ idleA c KV qA ∗ busyB c T KV qB ((i 0).val + 1)) -∗ K ⟨⟩))
          ⊢ wp frame (wpE (defs₀ (F := F)) Variants.none c none) Set.univ (cc1__o_kernel i idxM (Memref.isWhole_whole _) kvM (Memref.isWhole_whole _) arg3 harg3 arg4 harg4 arg5 harg5 arg6 harg6 arg7 harg7 arg8 harg8 arg9 harg9 scA (Memref.isWhole_whole _) scB (Memref.isWhole_whole _) cc1_scratch2 cc1_scratch3) K } := by
  refine ⟨?_, fun K => ?run⟩
  case run =>
    unfold owns
    rw [cc1__o_kernel_eq_skeleton]; unfold cc1__o_kernel_skel
    iintro ⟨⟨H3, H4, H5, H6, H7, H8, HT⟩, ⟨%d7, %f7, -, HO⟩, ⟨%W, HW⟩,
      ⟨⟨%I0, F0, R0⟩, ⟨%I1, F1, R1⟩, ⟨%I2, F2, R2⟩, ⟨%I3, F3, R3⟩, ⟨%I4, F4, R4⟩, ⟨%I5, F5, R5⟩, ⟨%I6, F6, R6⟩, ⟨%I7, F7, R7⟩⟩,
      ⟨⟨%g, HB⟩, ⟨K0, K1, K2, K3, K4, K5, K6, K7⟩, S0, S1, S2, S3, S4, S5, S6, S7⟩, Hk⟩
    ihave HB := (BIBase.BiEntails.of_eq (rowsB c g)).1 $$ HB
    icases HB with ⟨B0, B1, B2, B3, B4, B5, B6, B7⟩
    have hT0 : idxM.IsWhole := Memref.isWhole_whole _
    have hK0 : kvM.IsWhole := Memref.isWhole_whole _
    have hA0 : scA.IsWhole := Memref.isWhole_whole _
    have hB0 : scB.IsWhole := Memref.isWhole_whole _
    sl_exec (disch := first | (guard_target = ¬(k1_cond1 _ = _); exact h1) | (guard_target = k1_cond2 _ = _; exact h2) | (guard_target = k1_cond3 _ = _; exact h3) | (guard_target = ¬(k1_cond4 _ = _); exact h4) | exact fun _ => row_inb (hT _) | exact fun _ _ => row_inb (hT _))
    ihave HA := (BIBase.BiEntails.of_eq (rowsA c (gathered T KV (i 0).val))).2 $$ [F0_dst F1_dst F2_dst F3_dst F4_dst F5_dst F6_dst F7_dst]
    · isplitl [F0_dst]; · iexact F0_dst
      isplitl [F1_dst]; · iexact F1_dst
      isplitl [F2_dst]; · iexact F2_dst
      isplitl [F3_dst]; · iexact F3_dst
      isplitl [F4_dst]; · iexact F4_dst
      isplitl [F5_dst]; · iexact F5_dst
      isplitl [F6_dst]; · iexact F6_dst
      iexact F7_dst
    sl_exec! (disch := first | (guard_target = ¬(k1_cond4 _ = _); exact h4))
    sl_step
    have w0 : oRunEven.sl.r i T h2 h3 = blkAt T ((i 0).val + 1) 0 := word_at T _ _ _ _ 0 (off_next i 0 hi)
    have e0 : ∀ y, oRunEven.sl.dma8 i T KV hT h2 h3 y = (rowM scB 0).view.read (Elt F) (gathered T KV ((i 0).val + 1)) y := by
      intro y; unfold oRunEven.sl.dma8; exact payB KV w0 hT _ rfl _ _ y
    ihave S0 := fly_intro c (M := scB) (A := cc1_scratch3) (r := 0) (q := qB 0) (g := g) (G := gathered T KV ((i 0).val + 1)) (KV := KV) (pay := oRunEven.sl.dma8 i T KV hT h2 h3) e0 $$ [S0 K0]
    · isplitl [S0]; · iexact S0
      iexact K0
    icases S0 with ⟨%J0, S0, K0⟩
    have w1 : oRunEven.sl.r_1 i T h2 h3 = blkAt T ((i 0).val + 1) 1 := word_at T _ _ _ _ 1 (off_next i 1 hi)
    have e1 : ∀ y, oRunEven.sl.dma8_1 i T KV hT h2 h3 y = (rowM scB 1).view.read (Elt F) (gathered T KV ((i 0).val + 1)) y := by
      intro y; unfold oRunEven.sl.dma8_1; exact payB KV w1 hT _ rfl _ _ y
    ihave S1 := fly_intro c (M := scB) (A := cc1_scratch3) (r := 1) (q := qB 1) (g := g) (G := gathered T KV ((i 0).val + 1)) (KV := KV) (pay := oRunEven.sl.dma8_1 i T KV hT h2 h3) e1 $$ [S1 K1]
    · isplitl [S1]; · iexact S1
      iexact K1
    icases S1 with ⟨%J1, S1, K1⟩
    have w2 : oRunEven.sl.r_2 i T h2 h3 = blkAt T ((i 0).val + 1) 2 := word_at T _ _ _ _ 2 (off_next i 2 hi)
    have e2 : ∀ y, oRunEven.sl.dma8_2 i T KV hT h2 h3 y = (rowM scB 2).view.read (Elt F) (gathered T KV ((i 0).val + 1)) y := by
      intro y; unfold oRunEven.sl.dma8_2; exact payB KV w2 hT _ rfl _ _ y
    ihave S2 := fly_intro c (M := scB) (A := cc1_scratch3) (r := 2) (q := qB 2) (g := g) (G := gathered T KV ((i 0).val + 1)) (KV := KV) (pay := oRunEven.sl.dma8_2 i T KV hT h2 h3) e2 $$ [S2 K2]
    · isplitl [S2]; · iexact S2
      iexact K2
    icases S2 with ⟨%J2, S2, K2⟩
    have w3 : oRunEven.sl.r_3 i T h2 h3 = blkAt T ((i 0).val + 1) 3 := word_at T _ _ _ _ 3 (off_next i 3 hi)
    have e3 : ∀ y, oRunEven.sl.dma8_3 i T KV hT h2 h3 y = (rowM scB 3).view.read (Elt F) (gathered T KV ((i 0).val + 1)) y := by
      intro y; unfold oRunEven.sl.dma8_3; exact payB KV w3 hT _ rfl _ _ y
    ihave S3 := fly_intro c (M := scB) (A := cc1_scratch3) (r := 3) (q := qB 3) (g := g) (G := gathered T KV ((i 0).val + 1)) (KV := KV) (pay := oRunEven.sl.dma8_3 i T KV hT h2 h3) e3 $$ [S3 K3]
    · isplitl [S3]; · iexact S3
      iexact K3
    icases S3 with ⟨%J3, S3, K3⟩
    have w4 : oRunEven.sl.r_4 i T h2 h3 = blkAt T ((i 0).val + 1) 4 := word_at T _ _ _ _ 4 (off_next i 4 hi)
    have e4 : ∀ y, oRunEven.sl.dma8_4 i T KV hT h2 h3 y = (rowM scB 4).view.read (Elt F) (gathered T KV ((i 0).val + 1)) y := by
      intro y; unfold oRunEven.sl.dma8_4; exact payB KV w4 hT _ rfl _ _ y
    ihave S4 := fly_intro c (M := scB) (A := cc1_scratch3) (r := 4) (q := qB 4) (g := g) (G := gathered T KV ((i 0).val + 1)) (KV := KV) (pay := oRunEven.sl.dma8_4 i T KV hT h2 h3) e4 $$ [S4 K4]
    · isplitl [S4]; · iexact S4
      iexact K4
    icases S4 with ⟨%J4, S4, K4⟩
    have w5 : oRunEven.sl.r_5 i T h2 h3 = blkAt T ((i 0).val + 1) 5 := word_at T _ _ _ _ 5 (off_next i 5 hi)
    have e5 : ∀ y, oRunEven.sl.dma8_5 i T KV hT h2 h3 y = (rowM scB 5).view.read (Elt F) (gathered T KV ((i 0).val + 1)) y := by
      intro y; unfold oRunEven.sl.dma8_5; exact payB KV w5 hT _ rfl _ _ y
    ihave S5 := fly_intro c (M := scB) (A := cc1_scratch3) (r := 5) (q := qB 5) (g := g) (G := gathered T KV ((i 0).val + 1)) (KV := KV) (pay := oRunEven.sl.dma8_5 i T KV hT h2 h3) e5 $$ [S5 K5]
    · isplitl [S5]; · iexact S5
      iexact K5
    icases S5 with ⟨%J5, S5, K5⟩
    have w6 : oRunEven.sl.r_6 i T h2 h3 = blkAt T ((i 0).val + 1) 6 := word_at T _ _ _ _ 6 (off_next i 6 hi)
    have e6 : ∀ y, oRunEven.sl.dma8_6 i T KV hT h2 h3 y = (rowM scB 6).view.read (Elt F) (gathered T KV ((i 0).val + 1)) y := by
      intro y; unfold oRunEven.sl.dma8_6; exact payB KV w6 hT _ rfl _ _ y
    ihave S6 := fly_intro c (M := scB) (A := cc1_scratch3) (r := 6) (q := qB 6) (g := g) (G := gathered T KV ((i 0).val + 1)) (KV := KV) (pay := oRunEven.sl.dma8_6 i T KV hT h2 h3) e6 $$ [S6 K6]
    · isplitl [S6]; · iexact S6
      iexact K6
    icases S6 with ⟨%J6, S6, K6⟩
    have w7 : oRunEven.sl.r_7 i T h2 h3 = blkAt T ((i 0).val + 1) 7 := word_at T _ _ _ _ 7 (off_next i 7 hi)
    have e7 : ∀ y, oRunEven.sl.dma8_7 i T KV hT h2 h3 y = (rowM scB 7).view.read (Elt F) (gathered T KV ((i 0).val + 1)) y := by
      intro y; unfold oRunEven.sl.dma8_7; exact payB KV w7 hT _ rfl _ _ y
    ihave S7 := fly_intro c (M := scB) (A := cc1_scratch3) (r := 7) (q := qB 7) (g := g) (G := gathered T KV ((i 0).val + 1)) (KV := KV) (pay := oRunEven.sl.dma8_7 i T KV hT h2 h3) e7 $$ [S7 K7]
    · isplitl [S7]; · iexact S7
      iexact K7
    icases S7 with ⟨%J7, S7, K7⟩
    iapply Hk
    sl_close

end Cert.KernelIdeal.Gen

end
-- ==== Proof.OOdd.lean ====
/- The second call's body at an odd point before the last.
-/
module

public import proofs.«01_k».proof.Proof.Gen.KernelIdeal.Skeleton
public import proofs.«01_k».proof.Proof.Gen.KernelIdeal.Launch
public import Idealize.ShloMosaic.Lib.Writes
public import Idealize.ShloMosaic.Lib.Ring
public import Idealize.ShloMosaic.Lib.Exec
public import Idealize.ShloMosaic.Lib.Tactic
public import Idealize.ShloMosaic.Lib.Transfers
public import proofs.«01_k».proof.Proof.ORows

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

set_option maxHeartbeats 1000000 in
/-- An odd point before the last: the other buffer's copies start, this one's are waited for, the block is computed. -/
def oRunOdd (hT : ∀ j, (T j).toNat < 512) (h1 : ¬ k1_cond1 i = 1#1) (h2 : ¬ k1_cond2 i = 1#1) (h4 : k1_cond4 i = 1#1) (h5 : k1_cond5 i = 1#1) (hi : (i 0).val + 1 < 16) :
    { L : List (View.Piece (Elt F) S8x1024 .f32) //
      ∀ (K : PUnit → sProp 𝕄),
        iprop(oIn c arg3 arg4 arg5 arg6 arg7 arg8 T x0 x1 x2 x3 x4 x5
          ∗ (∃ d, owns (c : Thread nD τ) arg9 fullShare d) ∗ (∃ W, owes (c : Thread nD τ) 0 W)
          ∗ busyB c T KV qB (i 0).val ∗ idleA c KV qA
          ∗ (iprop(oIn c arg3 arg4 arg5 arg6 arg7 arg8 T x0 x1 x2 x3 x4 x5
              ∗ (∃ f, arg9.view.loc (c : Thread nD τ) ↦[arg9.view.set]{fullShare} arg9.view.writes (Elt F) f L)
              ∗ (∃ W, owes (c : Thread nD τ) 0 W) ∗ idleB c KV qB ∗ busyA c T KV qA ((i 0).val + 1)) -∗ K ⟨⟩))
          ⊢ wp frame (wpE (defs₀ (F := F)) Variants.none c none) Set.univ (cc1__o_kernel i idxM (Memref.isWhole_whole _) kvM (Memref.isWhole_whole _) arg3 harg3 arg4 harg4 arg5 harg5 arg6 harg6 arg7 harg7 arg8 harg8 arg9 harg9 scA (Memref.isWhole_whole _) scB (Memref.isWhole_whole _) cc1_scratch2 cc1_scratch3) K } := by
  refine ⟨?_, fun K => ?run⟩
  case run =>
    unfold owns
    rw [cc1__o_kernel_eq_skeleton]; unfold cc1__o_kernel_skel
    iintro ⟨⟨H3, H4, H5, H6, H7, H8, HT⟩, ⟨%d7, %f7, -, HO⟩, ⟨%W, HW⟩,
      ⟨⟨%I0, F0, R0⟩, ⟨%I1, F1, R1⟩, ⟨%I2, F2, R2⟩, ⟨%I3, F3, R3⟩, ⟨%I4, F4, R4⟩, ⟨%I5, F5, R5⟩, ⟨%I6, F6, R6⟩, ⟨%I7, F7, R7⟩⟩,
      ⟨⟨%g, HB⟩, ⟨K0, K1, K2, K3, K4, K5, K6, K7⟩, S0, S1, S2, S3, S4, S5, S6, S7⟩, Hk⟩
    ihave HB := (BIBase.BiEntails.of_eq (rowsA c g)).1 $$ HB
    icases HB with ⟨B0, B1, B2, B3, B4, B5, B6, B7⟩
    have hT0 : idxM.IsWhole := Memref.isWhole_whole _
    have hK0 : kvM.IsWhole := Memref.isWhole_whole _
    have hA0 : scA.IsWhole := Memref.isWhole_whole _
    have hB0 : scB.IsWhole := Memref.isWhole_whole _
    sl_exec (disch := first | (guard_target = ¬(k1_cond1 _ = _); exact h1) | (guard_target = ¬(k1_cond2 _ = _); exact h2) | (guard_target = k1_cond4 _ = _; exact h4) | (guard_target = k1_cond5 _ = _; exact h5) | exact fun _ => row_inb (hT _) | exact fun _ _ => row_inb (hT _))
    ihave HA := (BIBase.BiEntails.of_eq (rowsB c (gathered T KV (i 0).val))).2 $$ [F0_dst F1_dst F2_dst F3_dst F4_dst F5_dst F6_dst F7_dst]
    · isplitl [F0_dst]; · iexact F0_dst
      isplitl [F1_dst]; · iexact F1_dst
      isplitl [F2_dst]; · iexact F2_dst
      isplitl [F3_dst]; · iexact F3_dst
      isplitl [F4_dst]; · iexact F4_dst
      isplitl [F5_dst]; · iexact F5_dst
      isplitl [F6_dst]; · iexact F6_dst
      iexact F7_dst
    sl_exec!
    sl_step
    have w0 : oRunOdd.sl.r i T h4 h5 = blkAt T ((i 0).val + 1) 0 := word_at T _ _ _ _ 0 (off_next' i 0 hi)
    have e0 : ∀ y, oRunOdd.sl.dma8 i T KV hT h4 h5 y = (rowM scA 0).view.read (Elt F) (gathered T KV ((i 0).val + 1)) y := by
      intro y; unfold oRunOdd.sl.dma8; exact payA KV w0 hT _ rfl _ _ y
    ihave S0 := fly_intro c (M := scA) (A := cc1_scratch2) (r := 0) (q := qA 0) (g := g) (G := gathered T KV ((i 0).val + 1)) (KV := KV) (pay := oRunOdd.sl.dma8 i T KV hT h4 h5) e0 $$ [S0 K0]
    · isplitl [S0]; · iexact S0
      iexact K0
    icases S0 with ⟨%J0, S0, K0⟩
    have w1 : oRunOdd.sl.r_1 i T h4 h5 = blkAt T ((i 0).val + 1) 1 := word_at T _ _ _ _ 1 (off_next' i 1 hi)
    have e1 : ∀ y, oRunOdd.sl.dma8_1 i T KV hT h4 h5 y = (rowM scA 1).view.read (Elt F) (gathered T KV ((i 0).val + 1)) y := by
      intro y; unfold oRunOdd.sl.dma8_1; exact payA KV w1 hT _ rfl _ _ y
    ihave S1 := fly_intro c (M := scA) (A := cc1_scratch2) (r := 1) (q := qA 1) (g := g) (G := gathered T KV ((i 0).val + 1)) (KV := KV) (pay := oRunOdd.sl.dma8_1 i T KV hT h4 h5) e1 $$ [S1 K1]
    · isplitl [S1]; · iexact S1
      iexact K1
    icases S1 with ⟨%J1, S1, K1⟩
    have w2 : oRunOdd.sl.r_2 i T h4 h5 = blkAt T ((i 0).val + 1) 2 := word_at T _ _ _ _ 2 (off_next' i 2 hi)
    have e2 : ∀ y, oRunOdd.sl.dma8_2 i T KV hT h4 h5 y = (rowM scA 2).view.read (Elt F) (gathered T KV ((i 0).val + 1)) y := by
      intro y; unfold oRunOdd.sl.dma8_2; exact payA KV w2 hT _ rfl _ _ y
    ihave S2 := fly_intro c (M := scA) (A := cc1_scratch2) (r := 2) (q := qA 2) (g := g) (G := gathered T KV ((i 0).val + 1)) (KV := KV) (pay := oRunOdd.sl.dma8_2 i T KV hT h4 h5) e2 $$ [S2 K2]
    · isplitl [S2]; · iexact S2
      iexact K2
    icases S2 with ⟨%J2, S2, K2⟩
    have w3 : oRunOdd.sl.r_3 i T h4 h5 = blkAt T ((i 0).val + 1) 3 := word_at T _ _ _ _ 3 (off_next' i 3 hi)
    have e3 : ∀ y, oRunOdd.sl.dma8_3 i T KV hT h4 h5 y = (rowM scA 3).view.read (Elt F) (gathered T KV ((i 0).val + 1)) y := by
      intro y; unfold oRunOdd.sl.dma8_3; exact payA KV w3 hT _ rfl _ _ y
    ihave S3 := fly_intro c (M := scA) (A := cc1_scratch2) (r := 3) (q := qA 3) (g := g) (G := gathered T KV ((i 0).val + 1)) (KV := KV) (pay := oRunOdd.sl.dma8_3 i T KV hT h4 h5) e3 $$ [S3 K3]
    · isplitl [S3]; · iexact S3
      iexact K3
    icases S3 with ⟨%J3, S3, K3⟩
    have w4 : oRunOdd.sl.r_4 i T h4 h5 = blkAt T ((i 0).val + 1) 4 := word_at T _ _ _ _ 4 (off_next' i 4 hi)
    have e4 : ∀ y, oRunOdd.sl.dma8_4 i T KV hT h4 h5 y = (rowM scA 4).view.read (Elt F) (gathered T KV ((i 0).val + 1)) y := by
      intro y; unfold oRunOdd.sl.dma8_4; exact payA KV w4 hT _ rfl _ _ y
    ihave S4 := fly_intro c (M := scA) (A := cc1_scratch2) (r := 4) (q := qA 4) (g := g) (G := gathered T KV ((i 0).val + 1)) (KV := KV) (pay := oRunOdd.sl.dma8_4 i T KV hT h4 h5) e4 $$ [S4 K4]
    · isplitl [S4]; · iexact S4
      iexact K4
    icases S4 with ⟨%J4, S4, K4⟩
    have w5 : oRunOdd.sl.r_5 i T h4 h5 = blkAt T ((i 0).val + 1) 5 := word_at T _ _ _ _ 5 (off_next' i 5 hi)
    have e5 : ∀ y, oRunOdd.sl.dma8_5 i T KV hT h4 h5 y = (rowM scA 5).view.read (Elt F) (gathered T KV ((i 0).val + 1)) y := by
      intro y; unfold oRunOdd.sl.dma8_5; exact payA KV w5 hT _ rfl _ _ y
    ihave S5 := fly_intro c (M := scA) (A := cc1_scratch2) (r := 5) (q := qA 5) (g := g) (G := gathered T KV ((i 0).val + 1)) (KV := KV) (pay := oRunOdd.sl.dma8_5 i T KV hT h4 h5) e5 $$ [S5 K5]
    · isplitl [S5]; · iexact S5
      iexact K5
    icases S5 with ⟨%J5, S5, K5⟩
    have w6 : oRunOdd.sl.r_6 i T h4 h5 = blkAt T ((i 0).val + 1) 6 := word_at T _ _ _ _ 6 (off_next' i 6 hi)
    have e6 : ∀ y, oRunOdd.sl.dma8_6 i T KV hT h4 h5 y = (rowM scA 6).view.read (Elt F) (gathered T KV ((i 0).val + 1)) y := by
      intro y; unfold oRunOdd.sl.dma8_6; exact payA KV w6 hT _ rfl _ _ y
    ihave S6 := fly_intro c (M := scA) (A := cc1_scratch2) (r := 6) (q := qA 6) (g := g) (G := gathered T KV ((i 0).val + 1)) (KV := KV) (pay := oRunOdd.sl.dma8_6 i T KV hT h4 h5) e6 $$ [S6 K6]
    · isplitl [S6]; · iexact S6
      iexact K6
    icases S6 with ⟨%J6, S6, K6⟩
    have w7 : oRunOdd.sl.r_7 i T h4 h5 = blkAt T ((i 0).val + 1) 7 := word_at T _ _ _ _ 7 (off_next' i 7 hi)
    have e7 : ∀ y, oRunOdd.sl.dma8_7 i T KV hT h4 h5 y = (rowM scA 7).view.read (Elt F) (gathered T KV ((i 0).val + 1)) y := by
      intro y; unfold oRunOdd.sl.dma8_7; exact payA KV w7 hT _ rfl _ _ y
    ihave S7 := fly_intro c (M := scA) (A := cc1_scratch2) (r := 7) (q := qA 7) (g := g) (G := gathered T KV ((i 0).val + 1)) (KV := KV) (pay := oRunOdd.sl.dma8_7 i T KV hT h4 h5) e7 $$ [S7 K7]
    · isplitl [S7]; · iexact S7
      iexact K7
    icases S7 with ⟨%J7, S7, K7⟩
    iapply Hk
    sl_close

end Cert.KernelIdeal.Gen

end
-- ==== Proof.OLast.lean ====
/- The second call's body at the last point.
-/
module

public import proofs.«01_k».proof.Proof.Gen.KernelIdeal.Skeleton
public import proofs.«01_k».proof.Proof.Gen.KernelIdeal.Launch
public import Idealize.ShloMosaic.Lib.Writes
public import Idealize.ShloMosaic.Lib.Ring
public import Idealize.ShloMosaic.Lib.Exec
public import Idealize.ShloMosaic.Lib.Tactic
public import Idealize.ShloMosaic.Lib.Transfers
public import proofs.«01_k».proof.Proof.ORows

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

set_option maxHeartbeats 1000000 in
/-- The last point: no copies start, this one's are waited for, the block is computed. -/
def oRunLast (hT : ∀ j, (T j).toNat < 512) (h1 : ¬ k1_cond1 i = 1#1) (h2 : ¬ k1_cond2 i = 1#1) (h4 : k1_cond4 i = 1#1) (h5 : ¬ k1_cond5 i = 1#1) :
    { L : List (View.Piece (Elt F) S8x1024 .f32) //
      ∀ (K : PUnit → sProp 𝕄),
        iprop(oIn c arg3 arg4 arg5 arg6 arg7 arg8 T x0 x1 x2 x3 x4 x5
          ∗ (∃ d, owns (c : Thread nD τ) arg9 fullShare d) ∗ (∃ W, owes (c : Thread nD τ) 0 W)
          ∗ busyB c T KV qB (i 0).val
          ∗ (iprop(oIn c arg3 arg4 arg5 arg6 arg7 arg8 T x0 x1 x2 x3 x4 x5
              ∗ (∃ f, arg9.view.loc (c : Thread nD τ) ↦[arg9.view.set]{fullShare} arg9.view.writes (Elt F) f L)
              ∗ (∃ W, owes (c : Thread nD τ) 0 W) ∗ idleB c KV qB) -∗ K ⟨⟩))
          ⊢ wp frame (wpE (defs₀ (F := F)) Variants.none c none) Set.univ (cc1__o_kernel i idxM (Memref.isWhole_whole _) kvM (Memref.isWhole_whole _) arg3 harg3 arg4 harg4 arg5 harg5 arg6 harg6 arg7 harg7 arg8 harg8 arg9 harg9 scA (Memref.isWhole_whole _) scB (Memref.isWhole_whole _) cc1_scratch2 cc1_scratch3) K } := by
  refine ⟨?_, fun K => ?run⟩
  case run =>
    unfold owns
    rw [cc1__o_kernel_eq_skeleton]; unfold cc1__o_kernel_skel
    iintro ⟨⟨H3, H4, H5, H6, H7, H8, HT⟩, ⟨%d7, %f7, -, HO⟩, ⟨%W, HW⟩,
      ⟨⟨%I0, F0, R0⟩, ⟨%I1, F1, R1⟩, ⟨%I2, F2, R2⟩, ⟨%I3, F3, R3⟩, ⟨%I4, F4, R4⟩, ⟨%I5, F5, R5⟩, ⟨%I6, F6, R6⟩, ⟨%I7, F7, R7⟩⟩, Hk⟩
    have hT0 : idxM.IsWhole := Memref.isWhole_whole _
    have hK0 : kvM.IsWhole := Memref.isWhole_whole _
    have hA0 : scA.IsWhole := Memref.isWhole_whole _
    have hB0 : scB.IsWhole := Memref.isWhole_whole _
    sl_exec (disch := first | (guard_target = ¬(k1_cond1 _ = _); exact h1) | (guard_target = ¬(k1_cond2 _ = _); exact h2) | (guard_target = k1_cond4 _ = _; exact h4) | (guard_target = ¬(k1_cond5 _ = _); exact h5) | exact fun _ => row_inb (hT _) | exact fun _ _ => row_inb (hT _))
    ihave HA := (BIBase.BiEntails.of_eq (rowsB c (gathered T KV (i 0).val))).2 $$ [F0_dst F1_dst F2_dst F3_dst F4_dst F5_dst F6_dst F7_dst]
    · isplitl [F0_dst]; · iexact F0_dst
      isplitl [F1_dst]; · iexact F1_dst
      isplitl [F2_dst]; · iexact F2_dst
      isplitl [F3_dst]; · iexact F3_dst
      isplitl [F4_dst]; · iexact F4_dst
      isplitl [F5_dst]; · iexact F5_dst
      isplitl [F6_dst]; · iexact F6_dst
      iexact F7_dst
    sl_exec!
    sl_step
    iapply Hk
    sl_close

end Cert.KernelIdeal.Gen

end
-- ==== Proof.OCover.lean ====
/- The second call's body writes every element of its output block, on each of its four paths. -/
module

public import proofs.«01_k».proof.Proof.OFirst
public import proofs.«01_k».proof.Proof.OEven
public import proofs.«01_k».proof.Proof.OOdd
public import proofs.«01_k».proof.Proof.OLast
public import Idealize.ShloMosaic.Lib.Pipeline.FrameBody

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI

variable {F : FTy → Type} [FloatOps F]

variable (c : Dev nD) (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

theorem oFirst_cover (hT : ∀ j, (T j).toNat < 512) (h1 : k1_cond1 i = 1#1) (h2 : k1_cond2 i = 1#1) (h3 : k1_cond3 i = 1#1) (h4 : ¬ k1_cond4 i = 1#1) (hi : (i 0).val = 0) :
    ∀ y, ∃ p ∈ (oRunFirst c i arg3 harg3 arg4 harg4 arg5 harg5 arg6 harg6 arg7 harg7 arg8 harg8 arg9 harg9 T KV x0 x1 x2 x3 x4 x5 qA qB hT h1 h2 h3 h4 hi).1, y ∈ p.1.set :=
  View.cover_of_tiledBy _ ![8, 128] (by sl_kernel_rfl)

theorem oEven_cover (hT : ∀ j, (T j).toNat < 512) (h1 : ¬ k1_cond1 i = 1#1) (h2 : k1_cond2 i = 1#1) (h3 : k1_cond3 i = 1#1) (h4 : ¬ k1_cond4 i = 1#1) (hi : (i 0).val + 1 < 16) :
    ∀ y, ∃ p ∈ (oRunEven c i arg3 harg3 arg4 harg4 arg5 harg5 arg6 harg6 arg7 harg7 arg8 harg8 arg9 harg9 T KV x0 x1 x2 x3 x4 x5 qA qB hT h1 h2 h3 h4 hi).1, y ∈ p.1.set :=
  View.cover_of_tiledBy _ ![8, 128] (by sl_kernel_rfl)

theorem oOdd_cover (hT : ∀ j, (T j).toNat < 512) (h1 : ¬ k1_cond1 i = 1#1) (h2 : ¬ k1_cond2 i = 1#1) (h4 : k1_cond4 i = 1#1) (h5 : k1_cond5 i = 1#1) (hi : (i 0).val + 1 < 16) :
    ∀ y, ∃ p ∈ (oRunOdd c i arg3 harg3 arg4 harg4 arg5 harg5 arg6 harg6 arg7 harg7 arg8 harg8 arg9 harg9 T KV x0 x1 x2 x3 x4 x5 qA qB hT h1 h2 h4 h5 hi).1, y ∈ p.1.set :=
  View.cover_of_tiledBy _ ![8, 128] (by sl_kernel_rfl)

theorem oLast_cover (hT : ∀ j, (T j).toNat < 512) (h1 : ¬ k1_cond1 i = 1#1) (h2 : ¬ k1_cond2 i = 1#1) (h4 : k1_cond4 i = 1#1) (h5 : ¬ k1_cond5 i = 1#1) :
    ∀ y, ∃ p ∈ (oRunLast c i arg3 harg3 arg4 harg4 arg5 harg5 arg6 harg6 arg7 harg7 arg8 harg8 arg9 harg9 T KV x0 x1 x2 x3 x4 x5 qB hT h1 h2 h4 h5).1, y ∈ p.1.set :=
  View.cover_of_tiledBy _ ![8, 128] (by sl_kernel_rfl)

end Cert.KernelIdeal.Gen

end
-- ==== Proof.OHead.lean ====
/- One head of the second call, written once for any head and any gathered rows.  The pieces of each
   of the four runs are these functions. -/
module

public import proofs.«01_k».proof.Proof.Head
public import proofs.«01_k».proof.Proof.OCover

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × Counters) ℕ

/-- The scaled query of head `hh`. -/
def headQuery (x : FVec F S8x2048 .f32) (hh : Fin 8) : FVec F S8x128 .f32 :=
  mulf (normed (blockAt x (128 * (hh.val / 2)) (by omega))) (broadcast S8x128 (Scalar.ofBits .f32 0x3DB504F3#32))

/-- One head of the second call: the decayed state's sums against key and query, the correction, and the output. -/
def oHead (x : FVec F S8x2048 .f32) (g bt : FVec F S8x8 .f32) (W : Fin 4 → FVec F S8x4096 .f32) (hh : Fin 8) : FVec F S8x128 .f32 :=
  addf (fourSums fun i => mulf (mulf (W i) (broadcastTo S8x4096 (exp (colAt g hh.val (by omega))) broadcasts_S8x1_S8x4096)) (tiled (headQuery x hh)))
    (mulf
      (mulf (subf (headVal x hh)
          (fourSums fun i => mulf (mulf (W i) (broadcastTo S8x4096 (exp (colAt g hh.val (by omega))) broadcasts_S8x1_S8x4096)) (tiled (headKey x hh))))
        (broadcastTo S8x128 (colAt bt hh.val (by omega)) broadcasts_S8x1_S8x128))
      (broadcastTo S8x128
        (shapeCast S8x1 (multiReduction .add [1] S8 (mulf (headKey x hh) (headQuery x hh)) 0x00000000#32 reduces_S8x128_S8 (.inl rfl) rfl) shapeCasts_S8_S8x1)
        broadcasts_S8x1_S8x128))

/-- The mixed row: the stored rows and the new one against their weights, through the gate. -/
def oMix (c0 c1 c2 u : FVec F S8x2048 .f32) (w0 w1 w2 w3 : FVec F S1x2048 .f32) : FVec F S8x2048 .f32 :=
  k1_pay5 (k1_pay3 c0 c1 c2 u w0 w1 w2 w3) (k1_pay4 c0 c1 c2 u w0 w1 w2 w3) (Scalar.ofBits .f32 0x3F800000#32)

/-- Where the columns of head `hh` start lies in the block. -/
theorem headIn (o : ℕ) (h : o + 128 ≤ 1024) : ∀ a, (![0, o] : Fin 2 → Nat) a + S8x128.size a ≤ S8x1024.size a := by
  intro a; match a with | 0 => exact (by decide : (0:ℕ) + 8 ≤ 8) | 1 => exact h

/-- The eight pieces of the output block, from the last head to the first. -/
def oPieces (x : FVec F S8x2048 .f32) (g bt : FVec F S8x8 .f32) (W : Fin 8 → Fin 4 → FVec F S8x4096 .f32) : List (View.Piece (Elt F) S8x1024 .f32) :=
  List.ofFn fun k : Fin 8 =>
    ⟨Rect.unit (s := S8x1024) ![0, 128 * (7 - k.val)] S8x128.size (headIn _ (by omega)), oHead x g bt (W ⟨7 - k.val, by omega⟩) ⟨7 - k.val, by omega⟩⟩

theorem wideIn (o : ℕ) (h : o + 2048 ≤ 137216) : ∀ a, (![0, o] : Fin 2 → Nat) a + S8x2048.size a ≤ S8x137216.size a := by
  intro a; match a with | 0 => exact (by decide : (0:ℕ) + 8 ≤ 8) | 1 => exact h

/-- Columns `o` to `o + 4095` of gathered rows. -/
def spanOf (G : S8x137216.Idx → Elt F .f32) (o : ℕ) (h : o + 4096 ≤ 137216) : FVec F S8x4096 .f32 :=
  fun y => G ((Rect.unit (s := S8x137216) ![0, o] S8x4096.size (spanIn o h)).emb y)
/-- Columns `o` to `o + 2047` of gathered rows. -/
def rowOf (G : S8x137216.Idx → Elt F .f32) (o : ℕ) (h : o + 2048 ≤ 137216) : FVec F S8x2048 .f32 :=
  fun y => G ((Rect.unit (s := S8x137216) ![0, o] S8x2048.size (wideIn o h)).emb y)

section
variable (arg3 : Memref sig .tc .vmem S8x2048 .f32)
  (arg4 : Memref sig .tc .vmem S8x8 .f32)  (arg5 : Memref sig .tc .vmem S8x8 .f32)
  (arg6 : Memref sig .tc .vmem S1x8 .f32)  (arg7 : Memref sig .tc .vmem S1x8 .f32)
  (arg8 : Memref sig .tc .vmem S4x2048 .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)

/-- The mixed rows of a block whose gathered rows are `G`. -/
def oX (G : S8x137216.Idx → Elt F .f32) : FVec F S8x2048 .f32 :=
  oMix (rowOf G 131072 (by decide)) (rowOf G 133120 (by decide)) (rowOf G 135168 (by decide))
    (View.readAt (Elt F) arg3.view (Rect.unit ![0, 0] S8x2048.size inb_S8x2048_S8x2048_0_0).toLoadRect (arg3.view.rep x0))
    (View.readAt (Elt F) arg8.view (Rect.unit (s := S4x2048) ![0, 0] S1x2048.size inb_S4x2048_S1x2048_0_0).toLoadRect (arg8.view.rep x5))
    (View.readAt (Elt F) arg8.view (Rect.unit (s := S4x2048) ![1, 0] S1x2048.size inb_S4x2048_S1x2048_1_0).toLoadRect (arg8.view.rep x5))
    (View.readAt (Elt F) arg8.view (Rect.unit (s := S4x2048) ![2, 0] S1x2048.size inb_S4x2048_S1x2048_2_0).toLoadRect (arg8.view.rep x5))
    (View.readAt (Elt F) arg8.view (Rect.unit (s := S4x2048) ![3, 0] S1x2048.size inb_S4x2048_S1x2048_3_0).toLoadRect (arg8.view.rep x5))

/-- The logarithms of the decays. -/
def oG : FVec F S8x8 .f32 :=
  k1_pay6 (View.readAt (Elt F) arg5.view (Rect.unit ![0, 0] S8x8.size inb_S8x8_S8x8_0_0).toLoadRect (arg5.view.rep x2))
    (View.readAt (Elt F) arg6.view (Rect.unit ![0, 0] S1x8.size inb_S1x8_S1x8_0_0).toLoadRect (arg6.view.rep x3))
    (View.readAt (Elt F) arg7.view (Rect.unit ![0, 0] S1x8.size inb_S1x8_S1x8_0_0).toLoadRect (arg7.view.rep x4))
/-- The steps. -/
def oB : FVec F S8x8 .f32 :=
  k1_pay7 (View.readAt (Elt F) arg4.view (Rect.unit ![0, 0] S8x8.size inb_S8x8_S8x8_0_0).toLoadRect (arg4.view.rep x1))

/-- The pieces of a block whose gathered rows are `G`. -/
def oBlockPieces (G : S8x137216.Idx → Elt F .f32) : List (View.Piece (Elt F) S8x1024 .f32) :=
  oPieces (oX arg3 arg8 x0 x5 G) (oG arg5 arg6 arg7 x2 x3 x4) (oB arg4 x1) (fun hh p => spanOf G (16384 * hh.val + 4096 * p.val) (by omega))
end

variable (c : Dev nD) (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

theorem oFirst_pieces (hT : ∀ j, (T j).toNat < 512) (h1 : k1_cond1 i = 1#1) (h2 : k1_cond2 i = 1#1) (h3 : k1_cond3 i = 1#1) (h4 : ¬ k1_cond4 i = 1#1) (hi : (i 0).val = 0) :
    (oRunFirst c i arg3 harg3 arg4 harg4 arg5 harg5 arg6 harg6 arg7 harg7 arg8 harg8 arg9 harg9 T KV x0 x1 x2 x3 x4 x5 qA qB hT h1 h2 h3 h4 hi).1
      = oBlockPieces arg3 arg4 arg5 arg6 arg7 arg8 x0 x1 x2 x3 x4 x5 (gathered T KV (i 0).val) := by sl_kernel_rfl

theorem oEven_pieces (hT : ∀ j, (T j).toNat < 512) (h1 : ¬ k1_cond1 i = 1#1) (h2 : k1_cond2 i = 1#1) (h3 : k1_cond3 i = 1#1) (h4 : ¬ k1_cond4 i = 1#1) (hi : (i 0).val + 1 < 16) :
    (oRunEven c i arg3 harg3 arg4 harg4 arg5 harg5 arg6 harg6 arg7 harg7 arg8 harg8 arg9 harg9 T KV x0 x1 x2 x3 x4 x5 qA qB hT h1 h2 h3 h4 hi).1
      = oBlockPieces arg3 arg4 arg5 arg6 arg7 arg8 x0 x1 x2 x3 x4 x5 (gathered T KV (i 0).val) := by sl_kernel_rfl

theorem oOdd_pieces (hT : ∀ j, (T j).toNat < 512) (h1 : ¬ k1_cond1 i = 1#1) (h2 : ¬ k1_cond2 i = 1#1) (h4 : k1_cond4 i = 1#1) (h5 : k1_cond5 i = 1#1) (hi : (i 0).val + 1 < 16) :
    (oRunOdd c i arg3 harg3 arg4 harg4 arg5 harg5 arg6 harg6 arg7 harg7 arg8 harg8 arg9 harg9 T KV x0 x1 x2 x3 x4 x5 qA qB hT h1 h2 h4 h5 hi).1
      = oBlockPieces arg3 arg4 arg5 arg6 arg7 arg8 x0 x1 x2 x3 x4 x5 (gathered T KV (i 0).val) := by sl_kernel_rfl

theorem oLast_pieces (hT : ∀ j, (T j).toNat < 512) (h1 : ¬ k1_cond1 i = 1#1) (h2 : ¬ k1_cond2 i = 1#1) (h4 : k1_cond4 i = 1#1) (h5 : ¬ k1_cond5 i = 1#1) :
    (oRunLast c i arg3 harg3 arg4 harg4 arg5 harg5 arg6 harg6 arg7 harg7 arg8 harg8 arg9 harg9 T KV x0 x1 x2 x3 x4 x5 qB hT h1 h2 h4 h5).1
      = oBlockPieces arg3 arg4 arg5 arg6 arg7 arg8 x0 x1 x2 x3 x4 x5 (gathered T KV (i 0).val) := by sl_kernel_rfl

end Cert.KernelIdeal.Gen

end
-- ==== Proof.HeadValue.lean ====
/- What one head computes on the exact numbers, read at a row and a column. -/
module

public import Idealize.ShloMosaic.Lib.Pointwise
public import proofs.«01_k».proof.Proof.Head

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ### Sums against the segment matrix -/

/-- Summing against the indicator of segment `i` is summing over that segment. -/
theorem sum_segment (f : Fin 4096 → EReal) (i : Fin 32) :
    ∑ l : Fin 4096, f l * (if l.val / 128 = i.val then 1 else 0) = ∑ d : Fin 128, f ⟨128 * i.val + d.val, by omega⟩ := by
  rw [← Equiv.sum_comp (finProdFinEquiv (m := 32) (n := 128)), Fintype.sum_prod_type, Finset.sum_eq_single i]
  · refine Finset.sum_congr rfl fun d _ => ?_
    have e : ((finProdFinEquiv (i, d) : Fin (32 * 128)).val) = d.val + 128 * i.val := rfl
    rw [if_pos (by rw [e]; omega), mul_one]
    exact congrArg f (Fin.ext (by rw [e]; exact Nat.add_comm _ _))
  · intro b _ hb
    refine Finset.sum_eq_zero fun d _ => ?_
    have e : ((finProdFinEquiv (b, d) : Fin (32 * 128)).val) = d.val + 128 * b.val := rfl
    rw [if_neg, mul_zero]
    rw [e]; intro h
    exact hb (Fin.ext (by omega))
  · intro h; exact absurd (Finset.mem_univ _) h

/-- Reading the spread of segment values at column `l` reads the value of `l`'s segment. -/
theorem sum_spread (f : Fin 32 → EReal) (l : Fin 4096) :
    ∑ x : Fin 32, f x * (if l.val / 128 = x.val then 1 else 0) = f ⟨l.val / 128, by omega⟩ := by
  rw [Finset.sum_eq_single ⟨l.val / 128, by omega⟩]
  · rw [if_pos rfl, mul_one]
  · intro b _ hb
    rw [if_neg, mul_zero]
    intro h; exact hb (Fin.ext h.symm)
  · intro h; exact absurd (Finset.mem_univ _) h

/-- The floored quotient of a column number by 128, in words. -/
theorem column_word : ∀ l : Fin 4096,
    Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 l.val) 128#32) 0#32))
      (IntOp.subi (IntOp.divsi ArithUnit.vector (BitVec.ofNat 32 l.val) 128#32) 1#32)
      (IntOp.divsi ArithUnit.vector (BitVec.ofNat 32 l.val) 128#32) = BitVec.ofNat 32 (l.val / 128) := by
  decide +kernel

theorem word_flag (a b : Fin 32) :
    BitVec.setWidth 32 (IntOp.cmpi CmpIPredicate.eq (BitVec.ofNat 32 a.val) (BitVec.ofNat 32 b.val)) = if a.val = b.val then 1#32 else 0#32 := by
  revert a b; decide +kernel

theorem segM_apply (i : Fin 32) (l : Fin 4096) : segM (F := Ideal) (ix2 i l) = if l.val / 128 = i.val then 1 else 0 := by
  pointwise [segM, k0_pay20, k0_pay17, k0_pay18, k0_pay19]
  rw [column_word l, word_flag ⟨l.val / 128, by omega⟩ i]
  split
  · exact (by simp : (((1#32 : BitVec 32).toInt : ℝ) : EReal) = 1)
  · exact (by simp : (((0#32 : BitVec 32).toInt : ℝ) : EReal) = 0)

/-! ### The mathematics of one row -/

/-- The small number under the root. -/
def eps : EReal := Ideal.ofBits .f32 897988541#32

/-- Columns `o … o + 127` of a row scaled by the inverse root of their sum of squares. -/
def unitR (y : Fin 2048 → EReal) (o : ℕ) (ho : o ≤ 1920) (d : Fin 128) : EReal :=
  y ⟨o + d.val, by omega⟩ * Ideal.rsqrt (∑ k : Fin 128, y ⟨o + k.val, by omega⟩ * y ⟨o + k.val, by omega⟩ + eps)

/-- The key of head `hh`. -/
def keyR (y : Fin 2048 → EReal) (hh : Fin 8) (d : Fin 128) : EReal := unitR y (512 + 128 * (hh.val / 2)) (by omega) d

/-- The value of head `hh`. -/
def valR (y : Fin 2048 → EReal) (hh : Fin 8) (v : Fin 128) : EReal := y ⟨1024 + 128 * hh.val + v.val, by omega⟩

/-- The state of head `hh` at row `v`, column `d`. -/
def stateR (s : Fin 137216 → EReal) (hh : Fin 8) (v d : Fin 128) : EReal := s ⟨16384 * hh.val + 128 * v.val + d.val, by omega⟩

/-- The correction: value minus decayed prediction, times the step. -/
def deltaR (s : Fin 137216 → EReal) (y : Fin 2048 → EReal) (eg bt : EReal) (hh : Fin 8) (v : Fin 128) : EReal :=
  (valR y hh v - (∑ d : Fin 128, stateR s hh v d * keyR y hh d) * eg) * bt

/-- The new state. -/
def newR (s : Fin 137216 → EReal) (y : Fin 2048 → EReal) (eg bt : EReal) (hh : Fin 8) (v d : Fin 128) : EReal :=
  stateR s hh v d * eg + deltaR s y eg bt hh v * keyR y hh d

/-! ### The vectors read at an index -/

theorem normed_apply (x : FVec Ideal S8x2048 .f32) (o : ℕ) (ho : o ≤ 1920) (r : Fin 8) (d : Fin 128) :
    normed (blockAt x o ho) (ix2 r d) = unitR (fun j => x (ix2 r j)) o ho d := by
  pointwise [normed, blockAt]
  rfl

theorem tiled_apply (k : FVec Ideal S8x128 .f32) (r : Fin 8) (l : Fin 4096) :
    tiled k (ix2 r l) = k (ix2 r ⟨l.val % 128, Nat.mod_lt _ (by decide)⟩) :=
  concatenate_ofFn_apply (t := S8x4096) (s₁ := S8x128) 1 (fun _ : Fin 32 => k) _ rfl 128 rfl (ix2 r l) ⟨l.val / 128, by omega⟩ rfl
    (ix2 r ⟨l.val % 128, Nat.mod_lt _ (by decide)⟩) rfl
    (by intro b hb; match b, hb with | 0, _ => rfl | 1, h => exact absurd rfl h)

theorem segSum_apply (t : FVec Ideal S8x4096 .f32) (r : Fin 8) (i : Fin 32) :
    segSum t (ix2 r i) = ∑ d : Fin 128, t (ix2 r ⟨128 * i.val + d.val, by omega⟩) := by
  pointwise [segSum]
  simp only [segM_apply]
  exact sum_segment (fun l => t (ix2 r l)) i

theorem spread_apply (t : FVec Ideal S8x32 .f32) (r : Fin 8) (l : Fin 4096) :
    spread t (ix2 r l) = t (ix2 r ⟨l.val / 128, by omega⟩) := by
  pointwise [spread]
  simp only [segM_apply]
  exact sum_spread (fun x => t (ix2 r x)) l

theorem fourSums_apply (t : Fin 4 → FVec Ideal S8x4096 .f32) (r : Fin 8) (v : Fin 128) :
    fourSums t (ix2 r v) = ∑ d : Fin 128, t ⟨v.val / 32, by omega⟩ (ix2 r ⟨128 * (v.val % 32) + d.val, by omega⟩) :=
  (concatenate_ofFn_apply (t := S8x128) (s₁ := S8x32) 1 (fun i : Fin 4 => segSum (t i)) _ rfl 32 rfl (ix2 r v) ⟨v.val / 32, by omega⟩ rfl
    (ix2 r ⟨v.val % 32, Nat.mod_lt _ (by decide)⟩) rfl
    (by intro b hb; match b, hb with | 0, _ => rfl | 1, h => exact absurd rfl h)).trans (segSum_apply _ _ _)

/-- The four spans of a head are the row's state. -/
def Spans (W : Fin 4 → FVec Ideal S8x4096 .f32) (s : Fin 8 → Fin 137216 → EReal) (hh : Fin 8) : Prop :=
  ∀ i r l, W i (ix2 r l) = s r ⟨16384 * hh.val + 4096 * i.val + l.val, by omega⟩

/-- A sum of a head's state against a block of 128 columns. -/
theorem stateSum_apply (W : Fin 4 → FVec Ideal S8x4096 .f32) (s : Fin 8 → Fin 137216 → EReal) (hh : Fin 8) (hW : Spans W s hh)
    (k : FVec Ideal S8x128 .f32) (r : Fin 8) (v : Fin 128) :
    fourSums (fun i => mulf (W i) (tiled k)) (ix2 r v) = ∑ d : Fin 128, stateR (s r) hh v d * k (ix2 r d) := by
  rw [fourSums_apply]
  refine Finset.sum_congr rfl fun d _ => ?_
  show W _ _ * tiled k _ = _
  rw [hW, tiled_apply]
  congr 1
  · exact congrArg (s r) (Fin.ext (by show 16384 * hh.val + 4096 * (v.val / 32) + (128 * (v.val % 32) + d.val) = 16384 * hh.val + 128 * v.val + d.val; omega))
  · exact congrArg k (congrArg (ix2 r) (Fin.ext (by show (128 * (v.val % 32) + d.val) % 128 = d.val; omega)))

theorem memDelta_apply (x : FVec Ideal S8x2048 .f32) (eg bt : FVec Ideal S8x8 .f32) (W : Fin 4 → FVec Ideal S8x4096 .f32)
    (s : Fin 8 → Fin 137216 → EReal) (hh : Fin 8) (hW : Spans W s hh) (r : Fin 8) (v : Fin 128) :
    memDelta x eg bt W hh (ix2 r v) = deltaR (s r) (fun j => x (ix2 r j)) (eg (ix2 r hh)) (bt (ix2 r hh)) hh v := by
  pointwise [memDelta, headVal, blockAt, colAt]
  rw [stateSum_apply W s hh hW]
  simp only [headKey, normed_apply]
  rfl

theorem memSpan_apply (x : FVec Ideal S8x2048 .f32) (eg bt : FVec Ideal S8x8 .f32) (W : Fin 4 → FVec Ideal S8x4096 .f32)
    (s : Fin 8 → Fin 137216 → EReal) (hh : Fin 8) (hW : Spans W s hh) (i : Fin 4) (r : Fin 8) (l : Fin 4096) :
    memSpan x eg bt W hh i (ix2 r l)
      = newR (s r) (fun j => x (ix2 r j)) (eg (ix2 r hh)) (bt (ix2 r hh)) hh ⟨32 * i.val + l.val / 128, by omega⟩ ⟨l.val % 128, by omega⟩ := by
  pointwise [memSpan, colAt]
  rw [spread_apply, tiled_apply, hW]
  pointwise
  rw [memDelta_apply x eg bt W s hh hW, headKey, normed_apply]
  unfold newR
  congr 2
  exact congrArg (s r) (Fin.ext (by show 16384 * hh.val + 4096 * i.val + l.val = 16384 * hh.val + 128 * (32 * i.val + l.val / 128) + l.val % 128; omega))

end Cert.KernelIdeal.Gen

end
-- ==== Proof.MemTable.lean ====
/- What the first call's body asks of its table.

   The table holds, for each of the 512 blocks, the token that lands on it or a negative word.  The rows the body reads for
   its eight words are inside their arrays as soon as every word is below 128, and exactly one of its two paths is taken. -/
module

public import proofs.«01_k».proof.Proof.Gen.KernelIdeal.Skeleton
public import proofs.«01_k».proof.Proof.Gen.KernelIdeal.Launch
public import Idealize.ShloMosaic.Lib.Writes
public import Idealize.ShloMosaic.Lib.Ring
public import Idealize.ShloMosaic.Lib.Exec
public import Idealize.ShloMosaic.Lib.Tactic
public import Idealize.ShloMosaic.Lib.Transfers

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A token word: negative for "no token", otherwise a position below 128. -/
abbrev TokWord (v : BitVec 32) : Prop := v.toInt < 128

/-- The row the body reads for a word is inside the array of 128 rows. -/
theorem tok_row {v : BitVec 32} (h : TokWord v) : (Scalar.indexCast (Scalar.maxsi v 0#32)).toNat + 1 ≤ 128 := by
  have e : (Scalar.indexCast (Scalar.maxsi v 0#32)).toNat = (if (0#32).slt v then v else 0#32).toNat := rfl
  rw [e]
  by_cases hs : (0#32).slt v = true
  · rw [if_pos hs]
    rw [BitVec.slt_iff_toInt_lt, show (0#32 : BitVec 32).toInt = 0 from by decide] at hs
    have h1 := BitVec.toInt_eq_toNat_cond v
    have h2 := v.isLt
    have h3 : v.toInt < 128 := h
    split at h1 <;> omega
  · rw [if_neg hs]; decide

theorem tok_wide {n : ℕ} (h : n + 1 ≤ 128) : ∀ a, (![n, 0] : Fin 2 → ℕ) a + S1x2048.size a ≤ S128x2048.size a := by
  intro a; fin_cases a
  · exact h
  · exact le_refl _

theorem tok_narrow {n : ℕ} (h : n + 1 ≤ 128) : ∀ a, (![n, 0] : Fin 2 → ℕ) a + S1x8.size a ≤ S128x8.size a := by
  intro a; fin_cases a
  · exact h
  · exact le_refl _

/-- With eight token words, every run-time offset of the body is inside its array. -/
theorem mem_ok {a b c d e f g h : BitVec 32} (ha : TokWord a) (hb : TokWord b) (hc : TokWord c) (hd : TokWord d)
    (he : TokWord e) (hf : TokWord f) (hg : TokWord g) (hh : TokWord h) : k0_chk1 a b c d e f g h :=
  ⟨fun _ => tok_wide (tok_row ha), fun _ => tok_narrow (tok_row ha), fun _ => tok_wide (tok_row hb), fun _ => tok_narrow (tok_row hb),
   fun _ => tok_wide (tok_row hc), fun _ => tok_narrow (tok_row hc), fun _ => tok_wide (tok_row hd), fun _ => tok_narrow (tok_row hd),
   fun _ => tok_wide (tok_row he), fun _ => tok_narrow (tok_row he), fun _ => tok_wide (tok_row hf), fun _ => tok_narrow (tok_row hf),
   fun _ => tok_wide (tok_row hg), fun _ => tok_narrow (tok_row hg), fun _ => tok_wide (tok_row hh), fun _ => tok_narrow (tok_row hh)⟩

/-- Exactly one of the body's two conditions holds. -/
theorem mem_paths (a b c d e f g h : BitVec 32) :
    (k0_cond1 a b c d e f g h = 1#1 ∧ ¬ k0_cond2 a b c d e f g h = 1#1) ∨ (¬ k0_cond1 a b c d e f g h = 1#1 ∧ k0_cond2 a b c d e f g h = 1#1) := by
  unfold k0_cond1 k0_cond2
  dsimp only
  generalize Scalar.cmpi .sge a 0#32 = p1
  generalize Scalar.cmpi .sge b 0#32 = p2
  generalize Scalar.cmpi .sge c 0#32 = p3
  generalize Scalar.cmpi .sge d 0#32 = p4
  generalize Scalar.cmpi .sge e 0#32 = p5
  generalize Scalar.cmpi .sge f 0#32 = p6
  generalize Scalar.cmpi .sge g 0#32 = p7
  generalize Scalar.cmpi .sge h 0#32 = p8
  revert p1 p2 p3 p4 p5 p6 p7 p8
  decide +kernel

/-- So no window of the call is ever idle. -/
theorem idle0_false (pf : pre0.Contents (Elt F)) (w : Fin 8) (i : grid0.Coords) : idle0 pf w i = false := by
  fin_cases w
  case «7» =>
    show (!(k0_cond1 _ _ _ _ _ _ _ _ == 1#1) && !(k0_cond2 _ _ _ _ _ _ _ _ == 1#1)) = false
    rcases mem_paths (pf.atD 0 (k0_off1 i 0#32)) (pf.atD 0 (k0_off1 i 1#32)) (pf.atD 0 (k0_off1 i 2#32)) (pf.atD 0 (k0_off1 i 3#32)) (pf.atD 0 (k0_off1 i 4#32)) (pf.atD 0 (k0_off1 i 5#32)) (pf.atD 0 (k0_off1 i 6#32)) (pf.atD 0 (k0_off1 i 7#32)) with h | h
    · rw [h.1]; rfl
    · rw [h.2]; simp
  all_goals rfl

end Cert.KernelIdeal.Gen

end
-- ==== Proof.MemVec.lean ====
/- The vectors the first call computes before its heads: the gathered token rows, the mixed row, the
   decay and the step, read at an index. -/
module

public import proofs.«01_k».proof.Proof.HeadValue
public import proofs.«01_k».proof.Proof.MemTable

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ### The mathematics of one row -/

/-- The convolved row: three stored rows and the new one, each times its weights. -/
def convR (s : Fin 137216 → EReal) (u : Fin 2048 → EReal) (w : Fin 4 → Fin 2048 → EReal) (j : Fin 2048) : EReal :=
  s ⟨131072 + j.val, by omega⟩ * w 0 j + s ⟨133120 + j.val, by omega⟩ * w 1 j + s ⟨135168 + j.val, by omega⟩ * w 2 j + u j * w 3 j

/-- The sigmoid as a quotient. -/
def sigR (z : EReal) : EReal := Ideal.div 1 (1 + Ideal.exp (0 - z))

/-- The mixed row. -/
def mixR (s : Fin 137216 → EReal) (u : Fin 2048 → EReal) (w : Fin 4 → Fin 2048 → EReal) (j : Fin 2048) : EReal :=
  convR s u w j * sigR (convR s u w j)

/-- The logarithm of the decay. -/
def gateR (a dtb al : EReal) : EReal :=
  (0 - Ideal.exp al) * (max (a + dtb) 0 + Ideal.log (1 + Ideal.exp (0 - max (a + dtb) (-(a + dtb)))))

/-- A load of a box, read at an index. -/
theorem load_apply {κ : Kind} {sp : Space} {s : Shape} {e : EltTy} (v : View sig κ sp s e) (x : s.Idx → Elt Ideal e)
    {off size : Fin s.rank → ℕ} (inb : ∀ a, off a + size a ≤ s.size a) (y : (Rect.unit off size inb).shape.Idx) (z : s.Idx)
    (hz : ∀ a, (z a).val = off a + (y a).val) :
    v.readAt (Elt Ideal) (Rect.unit off size inb).toLoadRect (v.rep x) y = x z := by
  rw [View.readAt_rep]
  exact congrArg x (funext fun a => Fin.ext (by rw [hz a]; show off a + 1 * (y a).val = _; omega))

/-- A fact about both axes of a matrix. -/
theorem two {P : Fin 2 → Prop} (h0 : P 0) (h1 : P 1) : ∀ a, P a := fun a => match a with | 0 => h0 | 1 => h1

variable (i : grid0.Coords)
  (arg2 : Memref sig .tc .vmem S8x137216 .f32) (arg3 : Memref sig .tc .vmem S128x2048 .f32)
  (arg4 : Memref sig .tc .vmem S128x8 .f32) (arg5 : Memref sig .tc .vmem S128x8 .f32)
  (arg6 : Memref sig .tc .vmem S1x8 .f32) (arg7 : Memref sig .tc .vmem S1x8 .f32)
  (arg8 : Memref sig .tc .vmem S4x2048 .f32)
  (T : S512.Idx → Elt Ideal .i32) (x0 : S8x137216.Idx → Elt Ideal .f32) (x1 : S128x2048.Idx → Elt Ideal .f32) (x2 : S128x8.Idx → Elt Ideal .f32)
  (x3 : S128x8.Idx → Elt Ideal .f32) (x4 : S1x8.Idx → Elt Ideal .f32) (x5 : S1x8.Idx → Elt Ideal .f32) (x6 : S4x2048.Idx → Elt Ideal .f32)

/-- The row number a word asks for. -/
def rowNo (v : BitVec 32) : ℕ := (Scalar.indexCast (Scalar.maxsi v 0#32)).toNat

theorem rowNo_lt {v : BitVec 32} (h : TokWord v) : rowNo v < 128 := tok_row h

/-- One where the word names a token, zero elsewhere. -/
def flag (v : BitVec 32) : EReal := FloatOps.sitofp (F := Ideal) .f32 (BitVec.setWidth 32 (IntOp.cmpi CmpIPredicate.sge v 0#32))

section
variable (hW : ∀ r, TokWord (tokAt T i r))

/-- Row `r`'s load of the wide token array. -/
def wideRow (r : Fin 8) : FVec Ideal S1x2048 .f32 :=
  View.readAt (Elt Ideal) arg3.view (Rect.unit (s := S128x2048) ![rowNo (tokAt T i r), 0] S1x2048.size (tok_wide (tok_row (hW r)))).toLoadRect (arg3.view.rep x1)

/-- Row `r`'s load of a narrow token array. -/
def slimRow (arg4 : Memref sig .tc .vmem S128x8 .f32) (x2 : S128x8.Idx → Elt Ideal .f32) (r : Fin 8) : FVec Ideal S1x8 .f32 :=
  View.readAt (Elt Ideal) arg4.view (Rect.unit (s := S128x8) ![rowNo (tokAt T i r), 0] S1x8.size (tok_narrow (tok_row (hW r)))).toLoadRect (arg4.view.rep x2)

theorem wideRows_eq (hok : MemOk T i) (h2 : MemBusy T i) :
    memRunBusy.sl.r_15 i arg3 T x1 hok h2 = concatenate S8x2048 0 (List.ofFn fun r : Fin 8 => ⟨S1x2048, wideRow i arg3 T x1 hW r⟩)
      concatenates_S1x2048_S1x2048_S1x2048_S1x2048_S1x2048_S1x2048_S1x2048_S1x2048_S8x2048_d0 := by
  sl_kernel_rfl

theorem aRows_eq (hok : MemOk T i) (h2 : MemBusy T i) :
    memRunBusy.sl.r_18 i arg5 T x3 hok h2 = concatenate S8x8 0 (List.ofFn fun r : Fin 8 => ⟨S1x8, slimRow i T hW arg5 x3 r⟩)
      concatenates_S1x8_S1x8_S1x8_S1x8_S1x8_S1x8_S1x8_S1x8_S8x8_d0 := by
  sl_kernel_rfl

theorem bRows_eq (hok : MemOk T i) (h2 : MemBusy T i) :
    memRunBusy.sl.r_19 i arg4 T x2 hok h2 = concatenate S8x8 0 (List.ofFn fun r : Fin 8 => ⟨S1x8, slimRow i T hW arg4 x2 r⟩)
      concatenates_S1x8_S1x8_S1x8_S1x8_S1x8_S1x8_S1x8_S1x8_S8x8_d0 := by
  sl_kernel_rfl

theorem flags_eq : memRunBusy.sl.r_16 i T = concatenate S8x1 0 (List.ofFn fun r : Fin 8 => ⟨S1x1, k0_pay3 (F := Ideal) (tokAt T i r)⟩)
    concatenates_S1x1_S1x1_S1x1_S1x1_S1x1_S1x1_S1x1_S1x1_S8x1_d0 := by
  sl_kernel_rfl

theorem wideRows_apply (hok : MemOk T i) (h2 : MemBusy T i) (r : Fin 8) (j : Fin 2048) :
    memRunBusy.sl.r_15 i arg3 T x1 hok h2 (ix2 r j) = x1 (ix2 ⟨rowNo (tokAt T i r), rowNo_lt (hW r)⟩ j) := by
  rw [wideRows_eq i arg3 T x1 hW]
  refine (concatenate_ofFn_apply (t := S8x2048) (s₁ := S1x2048) 0 (fun r : Fin 8 => wideRow i arg3 T x1 hW r) _ rfl 1 rfl (ix2 r j) r
    (Nat.div_one _) (ix2 0 j) (Nat.mod_one _).symm
    (by intro b hb; match b, hb with | 0, h => exact absurd rfl h | 1, _ => rfl)).trans ?_
  exact load_apply _ _ _ _ _ (by intro a; match a with | 0 => rfl | 1 => exact (Nat.zero_add _).symm)

theorem aRows_apply (hok : MemOk T i) (h2 : MemBusy T i) (r hh : Fin 8) :
    memRunBusy.sl.r_18 i arg5 T x3 hok h2 (ix2 r hh) = x3 (ix2 ⟨rowNo (tokAt T i r), rowNo_lt (hW r)⟩ hh) := by
  rw [aRows_eq i arg5 T x3 hW]
  refine (concatenate_ofFn_apply (t := S8x8) (s₁ := S1x8) 0 (fun r : Fin 8 => slimRow i T hW arg5 x3 r) _ rfl 1 rfl (ix2 r hh) r
    (Nat.div_one _) (ix2 0 hh) (Nat.mod_one _).symm
    (by intro b hb; match b, hb with | 0, h => exact absurd rfl h | 1, _ => rfl)).trans ?_
  exact load_apply _ _ _ _ _ (by intro a; match a with | 0 => rfl | 1 => exact (Nat.zero_add _).symm)

theorem bRows_apply (hok : MemOk T i) (h2 : MemBusy T i) (r hh : Fin 8) :
    memRunBusy.sl.r_19 i arg4 T x2 hok h2 (ix2 r hh) = x2 (ix2 ⟨rowNo (tokAt T i r), rowNo_lt (hW r)⟩ hh) := by
  rw [bRows_eq i arg4 T x2 hW]
  refine (concatenate_ofFn_apply (t := S8x8) (s₁ := S1x8) 0 (fun r : Fin 8 => slimRow i T hW arg4 x2 r) _ rfl 1 rfl (ix2 r hh) r
    (Nat.div_one _) (ix2 0 hh) (Nat.mod_one _).symm
    (by intro b hb; match b, hb with | 0, h => exact absurd rfl h | 1, _ => rfl)).trans ?_
  exact load_apply _ _ _ _ _ (by intro a; match a with | 0 => rfl | 1 => exact (Nat.zero_add _).symm)

theorem flags_apply (r : Fin 8) : memRunBusy.sl.r_16 (F := Ideal) i T (ix2 r 0) = flag (tokAt T i r) := by
  rw [flags_eq]
  refine (concatenate_ofFn_apply (t := S8x1) (s₁ := S1x1) 0 (fun r : Fin 8 => k0_pay3 (F := Ideal) (tokAt T i r)) _ rfl 1 rfl (ix2 r 0) r
    (Nat.div_one _) (ix2 0 0) (Nat.mod_one _).symm
    (by intro b hb; match b, hb with | 0, h => exact absurd rfl h | 1, _ => rfl)).trans ?_
  rfl

theorem mixed_vec (v1 v2 v3 v4 v5 v6 v7 v8 : FVec Ideal S1x2048 .f32) (c0 c1 c2 : FVec Ideal S8x2048 .f32) (w0 w1 w2 w3 : FVec Ideal S1x2048 .f32)
    (r : Fin 8) (j : Fin 2048) :
    k0_pay12 v1 v2 v3 v4 v5 v6 v7 v8 c0 c1 c2 w0 w1 w2 w3 (ix2 r j)
      = (c0 (ix2 r j) * w0 (ix2 0 j) + c1 (ix2 r j) * w1 (ix2 0 j) + c2 (ix2 r j) * w2 (ix2 0 j) + k0_pay10 (F := Ideal) v1 v2 v3 v4 v5 v6 v7 v8 (ix2 r j) * w3 (ix2 0 j))
        * sigR (c0 (ix2 r j) * w0 (ix2 0 j) + c1 (ix2 r j) * w1 (ix2 0 j) + c2 (ix2 r j) * w2 (ix2 0 j) + k0_pay10 (F := Ideal) v1 v2 v3 v4 v5 v6 v7 v8 (ix2 r j) * w3 (ix2 0 j)) := by
  pointwise [k0_pay12]
  rfl

theorem mixed_apply (hok : MemOk T i) (h2 : MemBusy T i) (r : Fin 8) (j : Fin 2048) :
    memRunBusy.sl.r_17 i arg2 arg3 arg8 T x0 x1 x6 hok h2 (ix2 r j)
      = mixR (fun l => x0 (ix2 r l)) (fun l => x1 (ix2 ⟨rowNo (tokAt T i r), rowNo_lt (hW r)⟩ l)) (fun k l => x6 (ix2 k l)) j := by
  have e := wideRows_apply i arg3 T x1 hW hok h2 r j
  unfold memRunBusy.sl.r_15 at e
  have a0 := load_apply arg2.view x0 inb_S8x137216_S8x2048_0_131072 (ix2 r j) (ix2 r ⟨131072 + j.val, by omega⟩) (two (Nat.zero_add _).symm rfl)
  have a1 := load_apply arg2.view x0 inb_S8x137216_S8x2048_0_133120 (ix2 r j) (ix2 r ⟨133120 + j.val, by omega⟩) (two (Nat.zero_add _).symm rfl)
  have a2 := load_apply arg2.view x0 inb_S8x137216_S8x2048_0_135168 (ix2 r j) (ix2 r ⟨135168 + j.val, by omega⟩) (two (Nat.zero_add _).symm rfl)
  have b0 := load_apply arg8.view x6 inb_S4x2048_S1x2048_0_0 (ix2 0 j) (ix2 0 j) (two rfl (Nat.zero_add _).symm)
  have b1 := load_apply arg8.view x6 inb_S4x2048_S1x2048_1_0 (ix2 0 j) (ix2 1 j) (two rfl (Nat.zero_add _).symm)
  have b2 := load_apply arg8.view x6 inb_S4x2048_S1x2048_2_0 (ix2 0 j) (ix2 2 j) (two rfl (Nat.zero_add _).symm)
  have b3 := load_apply arg8.view x6 inb_S4x2048_S1x2048_3_0 (ix2 0 j) (ix2 3 j) (two rfl (Nat.zero_add _).symm)
  have g : convR (fun l => x0 (ix2 r l)) (fun l => x1 (ix2 ⟨rowNo (tokAt T i r), rowNo_lt (hW r)⟩ l)) (fun k l => x6 (ix2 k l)) j = _ :=
    (congr_arg₂ (· + ·) (congr_arg₂ (· + ·) (congr_arg₂ (· + ·) (congr_arg₂ (· * ·) a0 b0) (congr_arg₂ (· * ·) a1 b1)) (congr_arg₂ (· * ·) a2 b2)) (congr_arg₂ (· * ·) e b3)).symm
  exact (mixed_vec _ _ _ _ _ _ _ _ _ _ _ _ _ _ _ r j).trans (congrArg (fun z => z * sigR z) g).symm

theorem decay_apply (hok : MemOk T i) (h2 : MemBusy T i) (r hh : Fin 8) :
    memRunBusy.sl.r_20 i arg5 arg6 arg7 T x3 x4 x5 hok h2 (ix2 r hh)
      = flag (tokAt T i r) * Ideal.exp (gateR (x3 (ix2 ⟨rowNo (tokAt T i r), rowNo_lt (hW r)⟩ hh)) (x4 (ix2 0 hh)) (x5 (ix2 0 hh))) + (1 - flag (tokAt T i r)) := by
  have e := aRows_apply i arg5 T x3 hW hok h2 r hh
  have f := flags_apply i T r
  pointwise [memRunBusy.sl.r_20, k0_pay15]
  have a0 := load_apply arg6.view x4 inb_S1x8_S1x8_0_0 (ix2 0 hh) (ix2 0 hh) (two rfl (Nat.zero_add _).symm)
  have a1 := load_apply arg7.view x5 inb_S1x8_S1x8_0_0 (ix2 0 hh) (ix2 0 hh) (two rfl (Nat.zero_add _).symm)
  erw [e, f, a0, a1]
  rfl

theorem step_apply (hok : MemOk T i) (h2 : MemBusy T i) (r hh : Fin 8) :
    memRunBusy.sl.r_21 i arg4 T x2 hok h2 (ix2 r hh)
      = sigR (x2 (ix2 ⟨rowNo (tokAt T i r), rowNo_lt (hW r)⟩ hh)) * flag (tokAt T i r) := by
  have e := bRows_apply i arg4 T x2 hW hok h2 r hh
  have f := flags_apply i T r
  pointwise [memRunBusy.sl.r_21, k0_pay16]
  rw [e, f]
  rfl
end

end Cert.KernelIdeal.Gen

end
-- ==== Proof.MemValue.lean ====
/- What the first call leaves in a block, row by row, on the exact numbers. -/
module

public import proofs.«01_k».proof.Proof.MemVec
public import Idealize.ShloMosaic.Lib.Pipeline.Value

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- One block row after the call: the eight heads' states, then the shifted convolution rows. -/
def memRowR (s : Fin 137216 → EReal) (u : Fin 2048 → EReal) (w : Fin 4 → Fin 2048 → EReal) (vc : EReal) (eg bt : Fin 8 → EReal) (j : Fin 137216) : EReal :=
  if h : j.val < 131072 then
    newR s (mixR s u w) (eg ⟨j.val / 16384, by omega⟩) (bt ⟨j.val / 16384, by omega⟩) ⟨j.val / 16384, by omega⟩ ⟨j.val % 16384 / 128, by omega⟩ ⟨j.val % 128, by omega⟩
  else if h' : j.val < 135168 then vc * s ⟨j.val + 2048, by omega⟩ + (1 - vc) * s j
  else vc * u ⟨j.val - 135168, by omega⟩ + (1 - vc) * s j

theorem memRowR_state (s : Fin 137216 → EReal) (u : Fin 2048 → EReal) (w : Fin 4 → Fin 2048 → EReal) (vc : EReal) (eg bt : Fin 8 → EReal)
    (hh : Fin 8) (v d : Fin 128) :
    memRowR s u w vc eg bt ⟨16384 * hh.val + 128 * v.val + d.val, by omega⟩ = newR s (mixR s u w) (eg hh) (bt hh) hh v d := by
  unfold memRowR
  rw [dif_pos (by show 16384 * hh.val + 128 * v.val + d.val < 131072; omega)]
  have e1 : (⟨(16384 * hh.val + 128 * v.val + d.val) / 16384, by omega⟩ : Fin 8) = hh := Fin.ext (by show _ / _ = _; omega)
  have e2 : (⟨(16384 * hh.val + 128 * v.val + d.val) % 16384 / 128, by omega⟩ : Fin 128) = v := Fin.ext (by show _ % _ / _ = _; omega)
  have e3 : (⟨(16384 * hh.val + 128 * v.val + d.val) % 128, by omega⟩ : Fin 128) = d := Fin.ext (by show _ % _ = _; omega)
  simp only [e1, e2, e3]

theorem emb_cols {n : ℕ} (o : ℕ) (inb : ∀ a, (![0, o] : Fin 2 → ℕ) a + (![8, n] : Fin 2 → ℕ) a ≤ S8x137216.size a) (r : Fin 8) (l : Fin n)
    (h : o + l.val < 137216) :
    (Rect.unit (s := S8x137216) ![0, o] ![8, n] inb).emb (ix2 r l) = ix2 r ⟨o + l.val, h⟩ :=
  funext (two (P := fun a => (Rect.unit (s := S8x137216) ![0, o] ![8, n] inb).emb (ix2 r l) a = ix2 r ⟨o + l.val, h⟩ a)
    (Fin.ext (by show 0 + 1 * r.val = r.val; omega)) (Fin.ext (by show o + 1 * l.val = o + l.val; omega)))

section
variable (c : Dev nD) (i : grid0.Coords)
  (arg2 : Memref sig .tc .vmem S8x137216 .f32) (harg2 : arg2.IsWhole) (arg3 : Memref sig .tc .vmem S128x2048 .f32) (harg3 : arg3.IsWhole)
  (arg4 : Memref sig .tc .vmem S128x8 .f32) (harg4 : arg4.IsWhole) (arg5 : Memref sig .tc .vmem S128x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x137216 .f32) (harg9 : arg9.IsWhole)
  (T : S512.Idx → Elt Ideal .i32) (x0 : S8x137216.Idx → Elt Ideal .f32) (x1 : S128x2048.Idx → Elt Ideal .f32) (x2 : S128x8.Idx → Elt Ideal .f32)
  (x3 : S128x8.Idx → Elt Ideal .f32) (x4 : S1x8.Idx → Elt Ideal .f32) (x5 : S1x8.Idx → Elt Ideal .f32) (x6 : S4x2048.Idx → Elt Ideal .f32)
  (hW : ∀ r, TokWord (tokAt T i r))

/-- The token row of block row `r`. -/
abbrev tokRow (r : Fin 8) : Fin 128 := ⟨rowNo (tokAt T i r), rowNo_lt (hW r)⟩

/-- Block row `r` after the call, from the eight input blocks. -/
def memBlock (r : Fin 8) (j : Fin 137216) : EReal :=
  memRowR (fun l => x0 (ix2 r l)) (fun l => x1 (ix2 (tokRow i T hW r) l)) (fun k l => x6 (ix2 k l)) (flag (tokAt T i r))
    (fun hh => flag (tokAt T i r) * Ideal.exp (gateR (x3 (ix2 (tokRow i T hW r) hh)) (x4 (ix2 0 hh)) (x5 (ix2 0 hh))) + (1 - flag (tokAt T i r)))
    (fun hh => sigR (x2 (ix2 (tokRow i T hW r) hh)) * flag (tokAt T i r)) j

theorem loadSpan_rows (hh : Fin 8) : Spans (loadSpan (F := Ideal) arg2 x0 hh) (fun r l => x0 (ix2 r l)) hh := by
  intro i r l
  exact load_apply _ _ _ _ _ (two (Nat.zero_add _).symm rfl)

theorem span_piece (hok : MemOk T i) (h2 : MemBusy T i) (hh : Fin 8) (p : Fin 4) (r : Fin 8) (l : Fin 4096) :
    memSpan (memRunBusy.sl.r_17 i arg2 arg3 arg8 T x0 x1 x6 hok h2) (memRunBusy.sl.r_20 i arg5 arg6 arg7 T x3 x4 x5 hok h2)
      (memRunBusy.sl.r_21 i arg4 T x2 hok h2) (loadSpan arg2 x0 hh) hh p (ix2 r l)
    = memBlock i T x0 x1 x2 x3 x4 x5 x6 hW r ⟨16384 * hh.val + 4096 * p.val + l.val, by omega⟩ := by
  rw [memSpan_apply _ _ _ _ _ hh (loadSpan_rows arg2 x0 hh)]
  have e : (⟨16384 * hh.val + 4096 * p.val + l.val, by omega⟩ : Fin 137216)
      = ⟨16384 * hh.val + 128 * (32 * p.val + l.val / 128) + l.val % 128, by omega⟩ :=
    Fin.ext (by show 16384 * hh.val + 4096 * p.val + l.val = 16384 * hh.val + 128 * (32 * p.val + l.val / 128) + l.val % 128; omega)
  rw [e]
  refine Eq.trans ?_ (memRowR_state _ _ _ _ _ _ hh ⟨32 * p.val + l.val / 128, by omega⟩ ⟨l.val % 128, by omega⟩).symm
  simp only [mixed_apply i arg2 arg3 arg8 T x0 x1 x6 hW hok h2, decay_apply i arg5 arg6 arg7 T x3 x4 x5 hW hok h2,
    step_apply i arg4 T x2 hW hok h2]

theorem conv_piece (r : Fin 8) (l : Fin 4096) :
    k0_pay1 (memRunBusy.sl.r_16 (F := Ideal) i T) (memRunBusy.sl.r_72 arg2 x0) (memRunBusy.sl.r_73 i arg2 T x0) (ix2 r l)
      = memBlock i T x0 x1 x2 x3 x4 x5 x6 hW r ⟨131072 + l.val, by omega⟩ := by
  have f := flags_apply i T r
  have a0 := load_apply arg2.view x0 inb_S8x137216_S8x4096_0_131072 (ix2 r l) (ix2 r ⟨131072 + l.val, by omega⟩) (two (Nat.zero_add _).symm rfl)
  have a1 := load_apply arg2.view x0 inb_S8x137216_S8x4096_0_133120 (ix2 r l) (ix2 r ⟨131072 + l.val + 2048, by omega⟩)
    (two (Nat.zero_add _).symm (by show 131072 + l.val + 2048 = 133120 + l.val; omega))
  unfold memBlock memRowR
  rw [dif_neg (by show ¬ 131072 + l.val < 131072; omega), dif_pos (by show 131072 + l.val < 135168; omega)]
  pointwise [memRunBusy.sl.r_73, k0_pay1, k0_pay98]
  rw [f]
  exact congr_arg₂ (· + ·) (congrArg (flag (tokAt T i r) * ·) a1) (congrArg ((1 - flag (tokAt T i r)) * ·) a0)

theorem last_piece (hok : MemOk T i) (h2 : MemBusy T i) (r : Fin 8) (l : Fin 2048) :
    k0_pay2 (memRunBusy.sl.r_15 i arg3 T x1 hok h2) (memRunBusy.sl.r_16 i T)
            (View.readAt (Elt Ideal) arg2.view (Rect.unit (s := S8x137216) ![0, 135168] S8x2048.size inb_S8x137216_S8x2048_0_135168).toLoadRect (arg2.view.rep x0)) (ix2 r l)
      = memBlock i T x0 x1 x2 x3 x4 x5 x6 hW r ⟨135168 + l.val, by omega⟩ := by
  have f := flags_apply i T r
  have e := wideRows_apply i arg3 T x1 hW hok h2 r l
  have a0 := load_apply arg2.view x0 inb_S8x137216_S8x2048_0_135168 (ix2 r l) (ix2 r ⟨135168 + l.val, by omega⟩) (two (Nat.zero_add _).symm rfl)
  unfold memBlock memRowR
  rw [dif_neg (by show ¬ 135168 + l.val < 131072; omega), dif_neg (by show ¬ 135168 + l.val < 135168; omega)]
  pointwise [k0_pay2]
  rw [e, f]
  exact congr_arg₂ (· + ·) rfl (congrArg ((1 - flag (tokAt T i r)) * ·) a0)

theorem memBusy_value (hok : MemOk T i) (h1 : ¬ MemIdle T i) (h2 : MemBusy T i) (r : Fin 8) (j : Fin 137216) :
    View.canon (memRunBusy c i arg2 harg2 arg3 harg3 arg4 harg4 arg5 harg5 arg6 harg6 arg7 harg7 arg8 harg8 arg9 harg9 T x0 x1 x2 x3 x4 x5 x6 hok h1 h2).1 (ix2 r j)
      = memBlock i T x0 x1 x2 x3 x4 x5 x6 hW r j := by
  refine View.canon_apply_of_pieces (fun y => memBlock i T x0 x1 x2 x3 x4 x5 x6 hW (y 0) (y 1)) _ ?_ (ix2 r j)
    (memBusy_cover c i arg2 harg2 arg3 harg3 arg4 harg4 arg5 harg5 arg6 harg6 arg7 harg7 arg8 harg8 arg9 harg9 T x0 x1 x2 x3 x4 x5 x6 hok h1 h2 _)
  rw [memBusy_pieces]
  intro p hp
  unfold memPieces at hp
  rcases List.mem_cons.1 hp with rfl | hp
  · intro x
    obtain ⟨r, l, rfl⟩ : ∃ (r : Fin 8) (l : Fin 2048), x = ix2 r l := ⟨x 0, x 1, funext (two rfl rfl)⟩
    dsimp only
    refine (last_piece i arg2 arg3 T x0 x1 x2 x3 x4 x5 x6 hW hok h2 r l).trans ?_
    rw [emb_cols 135168 _ r l (by omega)]
    rfl
  rcases List.mem_cons.1 hp with rfl | hp
  · intro x
    obtain ⟨r, l, rfl⟩ : ∃ (r : Fin 8) (l : Fin 4096), x = ix2 r l := ⟨x 0, x 1, funext (two rfl rfl)⟩
    dsimp only
    refine (conv_piece i arg2 T x0 x1 x2 x3 x4 x5 x6 hW r l).trans ?_
    rw [emb_cols 131072 _ r l (by omega)]
    rfl
  · obtain ⟨k, rfl⟩ := (List.mem_ofFn' _ _).1 hp
    intro x
    obtain ⟨r, l, rfl⟩ : ∃ (r : Fin 8) (l : Fin 4096), x = ix2 r l := ⟨x 0, x 1, funext (two rfl rfl)⟩
    dsimp only
    refine (span_piece i arg2 arg3 arg4 arg5 arg6 arg7 arg8 T x0 x1 x2 x3 x4 x5 x6 hW hok h2 ⟨(31 - k.val) / 4, by omega⟩ ⟨(31 - k.val) % 4, by omega⟩ r l).trans ?_
    rw [emb_cols _ _ r l (by omega)]
    rfl

end

end Cert.KernelIdeal.Gen

end
-- ==== Proof.ORegion.lean ====
/- The second call as a pipeline: what each grid point leaves, the copies in flight between points, and the body's obligation. -/
module

public import proofs.«01_k».proof.Proof.OCover
public import Idealize.ShloMosaic.Lib.Pipeline.Frame
public import Idealize.ShloMosaic.Lib.Pipeline.TableIdle

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × Counters) ℕ

variable (V : Dev nD → Valuation τ sig (Elt F)) (T : S128.Idx → Elt F .i32) (hT : ∀ j, (T j).toNat < 512)

/-- The call's table at contents `T`. -/
def tab1 (T : S128.Idx → Elt F .i32) : (pcfg1 (F := F)).Adm := ⟨fun | ⟨0, _⟩ => T | ⟨_ + 1, h⟩ => absurd h (Nat.not_lt.2 (Nat.le_add_left _ _)), trivial⟩

/-- The pipeline at that table. -/
abbrev cfgO : Cfg sig Λ₀ := cfg1 (F := F) (tab1 T)

/-- The grid coordinates of point `t`. -/
abbrev crdO (t : Fin (cfgO T).N) : grid1.Coords := (cfgO T).grid.coords t

abbrev ms1_0 (t : Fin (cfgO T).N) : Memref sig .tc .vmem S8x2048 .f32 := spec1_0.stage ((cfgO T).slots t (0 : Fin 7))
abbrev hs1_0 (t : Fin (cfgO T).N) : (ms1_0 T t).IsWhole := hstage1_0 (((cfgO T).slots t (0 : Fin 7)).cast nbuf1_0)
abbrev ms1_1 (t : Fin (cfgO T).N) : Memref sig .tc .vmem S8x8 .f32 := spec1_1.stage ((cfgO T).slots t (1 : Fin 7))
abbrev hs1_1 (t : Fin (cfgO T).N) : (ms1_1 T t).IsWhole := hstage1_1 (((cfgO T).slots t (1 : Fin 7)).cast nbuf1_1)
abbrev ms1_2 (t : Fin (cfgO T).N) : Memref sig .tc .vmem S8x8 .f32 := spec1_2.stage ((cfgO T).slots t (2 : Fin 7))
abbrev hs1_2 (t : Fin (cfgO T).N) : (ms1_2 T t).IsWhole := hstage1_2 (((cfgO T).slots t (2 : Fin 7)).cast nbuf1_2)
abbrev ms1_3 (t : Fin (cfgO T).N) : Memref sig .tc .vmem S1x8 .f32 := spec1_3.stage ((cfgO T).slots t (3 : Fin 7))
abbrev hs1_3 (t : Fin (cfgO T).N) : (ms1_3 T t).IsWhole := hstage1_3 (((cfgO T).slots t (3 : Fin 7)).cast nbuf1_3)
abbrev ms1_4 (t : Fin (cfgO T).N) : Memref sig .tc .vmem S1x8 .f32 := spec1_4.stage ((cfgO T).slots t (4 : Fin 7))
abbrev hs1_4 (t : Fin (cfgO T).N) : (ms1_4 T t).IsWhole := hstage1_4 (((cfgO T).slots t (4 : Fin 7)).cast nbuf1_4)
abbrev ms1_5 (t : Fin (cfgO T).N) : Memref sig .tc .vmem S4x2048 .f32 := spec1_5.stage ((cfgO T).slots t (5 : Fin 7))
abbrev hs1_5 (t : Fin (cfgO T).N) : (ms1_5 T t).IsWhole := hstage1_5 (((cfgO T).slots t (5 : Fin 7)).cast nbuf1_5)
abbrev ms1_6 (t : Fin (cfgO T).N) : Memref sig .tc .vmem S8x1024 .f32 := spec1_6.stage ((cfgO T).slots t (6 : Fin 7))
abbrev hs1_6 (t : Fin (cfgO T).N) : (ms1_6 T t).IsWhole := hstage1_6 (((cfgO T).slots t (6 : Fin 7)).cast nbuf1_6)

/-- Window `w`'s block at point `t`, read off its array at the region's entry. -/
def blkO (c : Dev nD) (w : Fin (cfgO T).W) (t : Fin (cfgO T).N) : (((cfgO T).win w).xblock (crdO T t)).Idx → Elt F ((cfgO T).win w).elt :=
  (((cfgO T).win w).blk t).view.read (Elt F) (V c (Proc.devRef .tc (Pipeline.arrRef spec1 w)))

/-- The array the call's own copies read, at the region's entry. -/
abbrev kvO (c : Dev nD) : S512x137216.Idx → Elt F .f32 := V c (Proc.devRef .tc main_arg3)

/-- The read shares the copies of the two buffers borrow. -/
abbrev qA (r : Fin 8) : PosShare TreeShare := Transfers.shareTokN fullShare r.val
abbrev qB (r : Fin 8) : PosShare TreeShare := Transfers.shareTokN fullShare (8 + r.val)

/-! The body's four paths, by the point's coordinate. -/

theorem crdO_val : ∀ t : Fin grid1.N, ((grid1.coords t) 0).val = t.val := by decide +kernel

theorem at_first : ∀ i : grid1.Coords, (i 0).val = 0 → k1_cond1 i = 1#1 ∧ k1_cond2 i = 1#1 ∧ k1_cond3 i = 1#1 ∧ ¬ k1_cond4 i = 1#1 := by
  decide +kernel
theorem at_even : ∀ i : grid1.Coords, ¬ (i 0).val = 0 → (i 0).val % 2 = 0 →
    ¬ k1_cond1 i = 1#1 ∧ k1_cond2 i = 1#1 ∧ k1_cond3 i = 1#1 ∧ ¬ k1_cond4 i = 1#1 ∧ (i 0).val + 1 < 16 := by
  decide +kernel
theorem at_odd : ∀ i : grid1.Coords, ¬ (i 0).val % 2 = 0 → (i 0).val + 1 < 16 →
    ¬ k1_cond1 i = 1#1 ∧ ¬ k1_cond2 i = 1#1 ∧ k1_cond4 i = 1#1 ∧ k1_cond5 i = 1#1 := by
  decide +kernel
theorem at_last : ∀ i : grid1.Coords, ¬ (i 0).val % 2 = 0 → ¬ (i 0).val + 1 < 16 →
    ¬ k1_cond1 i = 1#1 ∧ ¬ k1_cond2 i = 1#1 ∧ k1_cond4 i = 1#1 ∧ ¬ k1_cond5 i = 1#1 := by
  decide +kernel

theorem idle1_false (w : Fin 7) : ∀ i : grid1.Coords, idle1 w i = false := by
  fin_cases w
  case «6» => exact (by decide +kernel : ∀ i : grid1.Coords, (!(k1_cond2 i == 1#1) && !(k1_cond4 i == 1#1)) = false)
  all_goals exact fun _ => rfl

theorem idleO (w : Fin 7) (i : grid1.Coords) : (cfgO T).idle w i = false := idle1_false w i

include hT

/-- The pieces the body leaves in the output block, path by path. -/
abbrev oPiecesFirst (c : Dev nD) (t : Fin (cfgO T).N) (h0 : ((crdO T t) 0).val = 0) : List (View.Piece (Elt F) S8x1024 .f32) :=
  (oRunFirst c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_first _ h0).1 (at_first _ h0).2.1 (at_first _ h0).2.2.1 (at_first _ h0).2.2.2 h0).1
abbrev oPiecesEven (c : Dev nD) (t : Fin (cfgO T).N) (h0 : ¬ ((crdO T t) 0).val = 0) (he : ((crdO T t) 0).val % 2 = 0) : List (View.Piece (Elt F) S8x1024 .f32) :=
  (oRunEven c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_even _ h0 he).1 (at_even _ h0 he).2.1 (at_even _ h0 he).2.2.1 (at_even _ h0 he).2.2.2.1 (at_even _ h0 he).2.2.2.2).1
abbrev oPiecesOdd (c : Dev nD) (t : Fin (cfgO T).N) (he : ¬ ((crdO T t) 0).val % 2 = 0) (hl : ((crdO T t) 0).val + 1 < 16) : List (View.Piece (Elt F) S8x1024 .f32) :=
  (oRunOdd c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_odd _ he hl).1 (at_odd _ he hl).2.1 (at_odd _ he hl).2.2.1 (at_odd _ he hl).2.2.2 hl).1
abbrev oPiecesLast (c : Dev nD) (t : Fin (cfgO T).N) (he : ¬ ((crdO T t) 0).val % 2 = 0) (hl : ¬ ((crdO T t) 0).val + 1 < 16) : List (View.Piece (Elt F) S8x1024 .f32) :=
  (oRunLast c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qB hT (at_last _ he hl).1 (at_last _ he hl).2.1 (at_last _ he hl).2.2.1 (at_last _ he hl).2.2.2).1

/-- What the body leaves in the output block at point `t`. -/
def oOut (c : Dev nD) (t : Fin (cfgO T).N) : S8x1024.Idx → Elt F .f32 :=
  if h0 : ((crdO T t) 0).val = 0 then View.canon (oPiecesFirst V T hT c t h0)
  else if he : ((crdO T t) 0).val % 2 = 0 then View.canon (oPiecesEven V T hT c t h0 he)
  else if hl : ((crdO T t) 0).val + 1 < 16 then View.canon (oPiecesOdd V T hT c t he hl)
  else View.canon (oPiecesLast V T hT c t he hl)

theorem oOut_first (c : Dev nD) (t : Fin (cfgO T).N) (h0 : ((crdO T t) 0).val = 0) (f : (ms1_6 T t).view.ty.Contents (Elt F)) :
    (ms1_6 T t).view.read (Elt F) ((ms1_6 T t).view.writes (Elt F) f (oPiecesFirst V T hT c t h0)) = oOut V T hT c t := by
  rw [View.read_writes_eq_canon _ _ _ (oFirst_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_first _ h0).1 (at_first _ h0).2.1 (at_first _ h0).2.2.1 (at_first _ h0).2.2.2 h0)]; unfold oOut; rw [dif_pos h0]

theorem oOut_even (c : Dev nD) (t : Fin (cfgO T).N) (h0 : ¬ ((crdO T t) 0).val = 0) (he : ((crdO T t) 0).val % 2 = 0) (f : (ms1_6 T t).view.ty.Contents (Elt F)) :
    (ms1_6 T t).view.read (Elt F) ((ms1_6 T t).view.writes (Elt F) f (oPiecesEven V T hT c t h0 he)) = oOut V T hT c t := by
  rw [View.read_writes_eq_canon _ _ _ (oEven_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_even _ h0 he).1 (at_even _ h0 he).2.1 (at_even _ h0 he).2.2.1 (at_even _ h0 he).2.2.2.1 (at_even _ h0 he).2.2.2.2)]; unfold oOut; rw [dif_neg h0, dif_pos he]

theorem oOut_odd (c : Dev nD) (t : Fin (cfgO T).N) (he : ¬ ((crdO T t) 0).val % 2 = 0) (hl : ((crdO T t) 0).val + 1 < 16) (f : (ms1_6 T t).view.ty.Contents (Elt F)) :
    (ms1_6 T t).view.read (Elt F) ((ms1_6 T t).view.writes (Elt F) f (oPiecesOdd V T hT c t he hl)) = oOut V T hT c t := by
  rw [View.read_writes_eq_canon _ _ _ (oOdd_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_odd _ he hl).1 (at_odd _ he hl).2.1 (at_odd _ he hl).2.2.1 (at_odd _ he hl).2.2.2 hl)]; unfold oOut; rw [dif_neg (fun h => he (by rw [h])), dif_neg he, dif_pos hl]

theorem oOut_last (c : Dev nD) (t : Fin (cfgO T).N) (he : ¬ ((crdO T t) 0).val % 2 = 0) (hl : ¬ ((crdO T t) 0).val + 1 < 16) (f : (ms1_6 T t).view.ty.Contents (Elt F)) :
    (ms1_6 T t).view.read (Elt F) ((ms1_6 T t).view.writes (Elt F) f (oPiecesLast V T hT c t he hl)) = oOut V T hT c t := by
  rw [View.read_writes_eq_canon _ _ _ (oLast_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qB hT (at_last _ he hl).1 (at_last _ he hl).2.1 (at_last _ he hl).2.2.1 (at_last _ he hl).2.2.2)]; unfold oOut; rw [dif_neg (fun h => he (by rw [h])), dif_neg he, dif_neg hl]

/-- The copies in flight before point `n`: none before the first and after the last; before an even point the first buffer's, before an odd
    point the second's. -/
def copies (c : Dev nD) (T : S128.Idx → Elt F .i32) (KV : S512x137216.Idx → Elt F .f32) (n : ℕ) : sProp 𝕄 :=
  if n = 0 ∨ 16 ≤ n then iprop(idleA c KV qA ∗ idleB c KV qB)
  else if n % 2 = 0 then iprop(busyA c T KV qA n ∗ idleB c KV qB)
  else iprop(busyB c T KV qB n ∗ idleA c KV qA)

omit hT in
theorem copies_none (c : Dev nD) (KV : S512x137216.Idx → Elt F .f32) {n : ℕ} (h : n = 0 ∨ 16 ≤ n) :
    (copies c T KV n : sProp 𝕄) = iprop(idleA c KV qA ∗ idleB c KV qB) := if_pos h
omit hT in
theorem copies_even (c : Dev nD) (KV : S512x137216.Idx → Elt F .f32) {n : ℕ} (h : ¬ (n = 0 ∨ 16 ≤ n)) (he : n % 2 = 0) :
    (copies c T KV n : sProp 𝕄) = iprop(busyA c T KV qA n ∗ idleB c KV qB) := (if_neg h).trans (if_pos he)
omit hT in
theorem copies_odd (c : Dev nD) (KV : S512x137216.Idx → Elt F .f32) {n : ℕ} (h : ¬ (n = 0 ∨ 16 ≤ n)) (he : ¬ n % 2 = 0) :
    (copies c T KV n : sProp 𝕄) = iprop(busyB c T KV qB n ∗ idleA c KV qA) := (if_neg h).trans (if_neg he)

/-- What rides along beside the body: the other half of the table, the first call's staging buffers and what is left of the array the copies read. -/
abbrev restO (c : Dev nD) : sProp 𝕄 :=
  iprop((idxM.view.loc (c : Thread nD τ) ↦{fullShare.left} T)
    ∗ (kvM.view.loc (c : Thread nD τ) ↦{Transfers.shareDrop fullShare 16} kvO V c)
    ∗ (∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f))

/-- The proof data of the call: its inputs hold their blocks, its output what the body leaves; beside them the table and the copies in flight. -/
def datO (c : Dev nD) : Dat τ (Elt F) Unit ℕ (UR sig nD τ × Counters) ℕ (cfgO T) c where
  A w := V c (Proc.devRef .tc (Pipeline.arrRef spec1 w))
  after w t := match w with
    | ⟨0, _⟩ => blkO V T c (0 : Fin 7) t
    | ⟨1, _⟩ => blkO V T c (1 : Fin 7) t
    | ⟨2, _⟩ => blkO V T c (2 : Fin 7) t
    | ⟨3, _⟩ => blkO V T c (3 : Fin 7) t
    | ⟨4, _⟩ => blkO V T c (4 : Fin 7) t
    | ⟨5, _⟩ => blkO V T c (5 : Fin 7) t
    | ⟨6, _⟩ => oOut V T hT c t
  Φ p := iprop((idxM.view.loc (c : Thread nD τ) ↦{fullShare.right} T) ∗ copies c T (kvO V c) p.val ∗ restO V T c)
  q _ := fullShare
  owed _ := 0

theorem datO_before0 (c : Dev nD) (t : Fin (cfgO T).N) (d) : (datO V T hT c).before (0 : Fin 7) t d = blkO V T c (0 : Fin 7) t :=
  ((datO V T hT c).before_in_eq_fetched (0 : Fin 7) rfl (fun _ => rfl) (fun _ _ _ => rfl) (fun t => by unfold Dat.blockOf; rfl) t d).trans
    (by unfold Dat.fetched Dat.blockOf blkO; rfl)
theorem datO_before1 (c : Dev nD) (t : Fin (cfgO T).N) (d) : (datO V T hT c).before (1 : Fin 7) t d = blkO V T c (1 : Fin 7) t :=
  ((datO V T hT c).before_in_eq_fetched (1 : Fin 7) rfl (fun _ => rfl) (fun _ _ _ => rfl) (fun t => by unfold Dat.blockOf; rfl) t d).trans
    (by unfold Dat.fetched Dat.blockOf blkO; rfl)
theorem datO_before2 (c : Dev nD) (t : Fin (cfgO T).N) (d) : (datO V T hT c).before (2 : Fin 7) t d = blkO V T c (2 : Fin 7) t :=
  ((datO V T hT c).before_in_eq_fetched (2 : Fin 7) rfl (fun _ => rfl) (fun _ _ _ => rfl) (fun t => by unfold Dat.blockOf; rfl) t d).trans
    (by unfold Dat.fetched Dat.blockOf blkO; rfl)
theorem datO_before3 (c : Dev nD) (t : Fin (cfgO T).N) (d) : (datO V T hT c).before (3 : Fin 7) t d = blkO V T c (3 : Fin 7) t :=
  ((datO V T hT c).before_in_eq_fetched (3 : Fin 7) rfl (fun _ => rfl) (fun _ _ _ => rfl) (fun t => by unfold Dat.blockOf; rfl) t d).trans
    (by unfold Dat.fetched Dat.blockOf blkO; rfl)
theorem datO_before4 (c : Dev nD) (t : Fin (cfgO T).N) (d) : (datO V T hT c).before (4 : Fin 7) t d = blkO V T c (4 : Fin 7) t :=
  ((datO V T hT c).before_in_eq_fetched (4 : Fin 7) rfl (fun _ => rfl) (fun _ _ _ => rfl) (fun t => by unfold Dat.blockOf; rfl) t d).trans
    (by unfold Dat.fetched Dat.blockOf blkO; rfl)
theorem datO_before5 (c : Dev nD) (t : Fin (cfgO T).N) (d) : (datO V T hT c).before (5 : Fin 7) t d = blkO V T c (5 : Fin 7) t :=
  ((datO V T hT c).before_in_eq_fetched (5 : Fin 7) rfl (fun _ => rfl) (fun _ _ _ => rfl) (fun t => by unfold Dat.blockOf; rfl) t d).trans
    (by unfold Dat.fetched Dat.blockOf blkO; rfl)

/-- The body at point `t`, as the pipeline calls it. -/
abbrev bodyO (t : Fin (cfgO T).N) : Prog (TpuEff nD τ sig (Elt F) Λ₀ .tc) PUnit :=
  cc1__o_kernel (crdO T t) idxM (Memref.isWhole_whole _) kvM (Memref.isWhole_whole _) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) scA (Memref.isWhole_whole _) scB (Memref.isWhole_whole _) cc1_scratch2 cc1_scratch3

/-- The six inputs and the table at point `t`. -/
abbrev insO (c : Dev nD) (t : Fin (cfgO T).N) : sProp 𝕄 :=
  oIn c (ms1_0 T t) (ms1_1 T t) (ms1_2 T t) (ms1_3 T t) (ms1_4 T t) (ms1_5 T t) T (blkO V T c (0 : Fin 7) t) (blkO V T c (1 : Fin 7) t) (blkO V T c (2 : Fin 7) t) (blkO V T c (3 : Fin 7) t) (blkO V T c (4 : Fin 7) t) (blkO V T c (5 : Fin 7) t)

omit hT in
/-- A run of the body at point `t` from the copies `A` to the copies `B`, put in the form the pipeline asks. -/
theorem oWrap (c : Dev nD) (t : Fin (cfgO T).N) {A B : sProp 𝕄} (out : S8x1024.Idx → Elt F .f32) (L : List (View.Piece (Elt F) S8x1024 .f32))
    (hL : ∀ f, (ms1_6 T t).view.read (Elt F) ((ms1_6 T t).view.writes (Elt F) f L) = out)
    (run : ∀ K : PUnit → sProp 𝕄,
      iprop(insO V T c t ∗ (∃ d, owns (c : Thread nD τ) (ms1_6 T t) fullShare d) ∗ (∃ W, owes (c : Thread nD τ) 0 W) ∗ A
        ∗ (iprop(insO V T c t
            ∗ (∃ f, (ms1_6 T t).view.loc (c : Thread nD τ) ↦[(ms1_6 T t).view.set]{fullShare} (ms1_6 T t).view.writes (Elt F) f L)
            ∗ (∃ W, owes (c : Thread nD τ) 0 W) ∗ B) -∗ K ⟨⟩))
        ⊢ wp frame (wpE (defs₀ (F := F)) Variants.none c none) Set.univ (bodyO T t) K) (R : sProp 𝕄)
    {O O' : sProp 𝕄} (hO : O ⊢ iprop(∃ W, owes (c : Thread nD τ) 0 W)) (hO' : iprop(∃ W, owes (c : Thread nD τ) 0 W) ⊢ O') :
    iprop(((idxM.view.loc (c : Thread nD τ) ↦{fullShare.right} T) ∗ A ∗ R) ∗ O
        ∗ owns (c : Thread nD τ) (ms1_0 T t) fullShare (blkO V T c (0 : Fin 7) t)
        ∗ owns (c : Thread nD τ) (ms1_1 T t) fullShare (blkO V T c (1 : Fin 7) t)
        ∗ owns (c : Thread nD τ) (ms1_2 T t) fullShare (blkO V T c (2 : Fin 7) t)
        ∗ owns (c : Thread nD τ) (ms1_3 T t) fullShare (blkO V T c (3 : Fin 7) t)
        ∗ owns (c : Thread nD τ) (ms1_4 T t) fullShare (blkO V T c (4 : Fin 7) t)
        ∗ owns (c : Thread nD τ) (ms1_5 T t) fullShare (blkO V T c (5 : Fin 7) t)
        ∗ (∃ d, owns (c : Thread nD τ) (ms1_6 T t) fullShare d))
      ⊢ wp frame (wpE (defs₀ (F := F)) Variants.none c none) Set.univ (bodyO T t) fun _ =>
          iprop(((idxM.view.loc (c : Thread nD τ) ↦{fullShare.right} T) ∗ B ∗ R) ∗ O'
            ∗ owns (c : Thread nD τ) (ms1_0 T t) fullShare (blkO V T c (0 : Fin 7) t)
            ∗ owns (c : Thread nD τ) (ms1_1 T t) fullShare (blkO V T c (1 : Fin 7) t)
            ∗ owns (c : Thread nD τ) (ms1_2 T t) fullShare (blkO V T c (2 : Fin 7) t)
            ∗ owns (c : Thread nD τ) (ms1_3 T t) fullShare (blkO V T c (3 : Fin 7) t)
            ∗ owns (c : Thread nD τ) (ms1_4 T t) fullShare (blkO V T c (4 : Fin 7) t)
            ∗ owns (c : Thread nD τ) (ms1_5 T t) fullShare (blkO V T c (5 : Fin 7) t)
            ∗ owns (c : Thread nD τ) (ms1_6 T t) fullShare out) := by
  iintro ⟨⟨HT0, HA, HR⟩, Ho, H0, H1, H2, H3, H4, H5, H6⟩
  iapply run
  isplitl [H0 H1 H2 H3 H4 H5 HT0]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    iexact HT0
  isplitl [H6]; · iexact H6
  isplitl [Ho]; · iapply hO; iexact Ho
  isplitl [HA]; · iexact HA
  iintro ⟨⟨H0, H1, H2, H3, H4, H5, HT0⟩, ⟨%e6, H6⟩, Ho, HB⟩
  isplitl [HT0 HB HR]
  · isplitl [HT0]; · iexact HT0
    isplitl [HB]; · iexact HB
    iexact HR
  isplitl [Ho]; · iapply hO'; iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  unfold owns; iexists _; isplitr
  · ipureintro
    exact hL e6
  · iexact H6

/-- The body's run at point `t`, whichever path it takes: it moves the copies on by one point. -/
theorem oStep (c : Dev nD) (t : Fin (cfgO T).N) :
    ∃ L, (∀ f, (ms1_6 T t).view.read (Elt F) ((ms1_6 T t).view.writes (Elt F) f L) = oOut V T hT c t) ∧ ∀ K : PUnit → sProp 𝕄,
      iprop(insO V T c t ∗ (∃ d, owns (c : Thread nD τ) (ms1_6 T t) fullShare d) ∗ (∃ W, owes (c : Thread nD τ) 0 W)
        ∗ copies c T (kvO V c) ((crdO T t) 0).val
        ∗ (iprop(insO V T c t
            ∗ (∃ f, (ms1_6 T t).view.loc (c : Thread nD τ) ↦[(ms1_6 T t).view.set]{fullShare} (ms1_6 T t).view.writes (Elt F) f L)
            ∗ (∃ W, owes (c : Thread nD τ) 0 W) ∗ copies c T (kvO V c) (((crdO T t) 0).val + 1)) -∗ K ⟨⟩))
        ⊢ wp frame (wpE (defs₀ (F := F)) Variants.none c none) Set.univ (bodyO T t) K := by
  by_cases h0 : ((crdO T t) 0).val = 0
  · refine ⟨_, oOut_first V T hT c t h0, fun K => ?_⟩
    rw [copies_none T c (kvO V c) (Or.inl h0), copies_odd T c (kvO V c) (by omega) (by omega)]
    iintro ⟨HI, H6, Ho, ⟨HA, HB⟩, HK⟩
    iapply (oRunFirst c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_first _ h0).1 (at_first _ h0).2.1 (at_first _ h0).2.2.1 (at_first _ h0).2.2.2 h0).2
    isplitl [HI]; · iexact HI
    isplitl [H6]; · iexact H6
    isplitl [Ho]; · iexact Ho
    isplitl [HA]; · iexact HA
    isplitl [HB]; · iexact HB
    iintro ⟨HI, H6, Ho, HA, HB⟩
    iapply HK
    isplitl [HI]; · iexact HI
    isplitl [H6]; · iexact H6
    isplitl [Ho]; · iexact Ho
    isplitl [HB]; · iexact HB
    iexact HA
  by_cases he : ((crdO T t) 0).val % 2 = 0
  · refine ⟨_, oOut_even V T hT c t h0 he, fun K => ?_⟩
    rw [copies_even T c (kvO V c) (by have := (at_even _ h0 he).2.2.2.2; omega) he, copies_odd T c (kvO V c) (by have := (at_even _ h0 he).2.2.2.2; omega) (by omega)]
    iintro ⟨HI, H6, Ho, ⟨HA, HB⟩, HK⟩
    iapply (oRunEven c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_even _ h0 he).1 (at_even _ h0 he).2.1 (at_even _ h0 he).2.2.1 (at_even _ h0 he).2.2.2.1 (at_even _ h0 he).2.2.2.2).2
    isplitl [HI]; · iexact HI
    isplitl [H6]; · iexact H6
    isplitl [Ho]; · iexact Ho
    isplitl [HA]; · iexact HA
    isplitl [HB]; · iexact HB
    iintro ⟨HI, H6, Ho, HA, HB⟩
    iapply HK
    isplitl [HI]; · iexact HI
    isplitl [H6]; · iexact H6
    isplitl [Ho]; · iexact Ho
    isplitl [HB]; · iexact HB
    iexact HA
  by_cases hl : ((crdO T t) 0).val + 1 < 16
  · refine ⟨_, oOut_odd V T hT c t he hl, fun K => ?_⟩
    rw [copies_odd T c (kvO V c) (by omega) he, copies_even T c (kvO V c) (by omega) (by omega)]
    iintro ⟨HI, H6, Ho, ⟨HB, HA⟩, HK⟩
    iapply (oRunOdd c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_odd _ he hl).1 (at_odd _ he hl).2.1 (at_odd _ he hl).2.2.1 (at_odd _ he hl).2.2.2 hl).2
    isplitl [HI]; · iexact HI
    isplitl [H6]; · iexact H6
    isplitl [Ho]; · iexact Ho
    isplitl [HB]; · iexact HB
    isplitl [HA]; · iexact HA
    iintro ⟨HI, H6, Ho, HB, HA⟩
    iapply HK
    isplitl [HI]; · iexact HI
    isplitl [H6]; · iexact H6
    isplitl [Ho]; · iexact Ho
    isplitl [HA]; · iexact HA
    iexact HB
  · refine ⟨_, oOut_last V T hT c t he hl, fun K => ?_⟩
    rw [copies_odd T c (kvO V c) (by have := ((crdO T t) 0).isLt; have e : grid1.bound 0 = 16 := rfl; omega) he, copies_none T c (kvO V c) (Or.inr (by omega))]
    iintro ⟨HI, H6, Ho, ⟨HB, HA⟩, HK⟩
    iapply (oRunLast c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qB hT (at_last _ he hl).1 (at_last _ he hl).2.1 (at_last _ he hl).2.2.1 (at_last _ he hl).2.2.2).2
    isplitl [HI]; · iexact HI
    isplitl [H6]; · iexact H6
    isplitl [Ho]; · iexact Ho
    isplitl [HB]; · iexact HB
    iintro ⟨HI, H6, Ho, HB⟩
    iapply HK
    isplitl [HI]; · iexact HI
    isplitl [H6]; · iexact H6
    isplitl [Ho]; · iexact Ho
    isplitl [HA]; · iexact HA
    iexact HB

theorem owesO (c : Dev nD) (p : Fin ((cfgO T).N + 1)) :
    (datO V T hT c).owesAt () p ⊢ iprop(∃ W, owes (c : Thread nD τ) 0 W) := by
  unfold Dat.owesAt Pipeline.owesWithin
  iintro ⟨%W, -, HO⟩; iexists W; iexact HO
theorem owesO' (c : Dev nD) (p : Fin ((cfgO T).N + 1)) :
    iprop(∃ W, owes (c : Thread nD τ) 0 W) ⊢ (datO V T hT c).owesAt () p := by
  unfold Dat.owesAt Pipeline.owesWithin
  iintro ⟨%W, HO⟩; iexists W; isplitr
  · ipureintro; exact fun _ _ => Or.inl trivial
  · iexact HO

/-- The body's obligation at point `t`, the seven windows named. -/
theorem oBody (c : Dev nD) (t : Fin (cfgO T).N) :
    iprop((datO V T hT c).Φ t.castSucc ∗ (datO V T hT c).owesAt () t.castSucc
        ∗ (∃ d, owns (c : Thread nD τ) (ms1_0 T t) fullShare ((datO V T hT c).before (0 : Fin 7) t d))
        ∗ (∃ d, owns (c : Thread nD τ) (ms1_1 T t) fullShare ((datO V T hT c).before (1 : Fin 7) t d))
        ∗ (∃ d, owns (c : Thread nD τ) (ms1_2 T t) fullShare ((datO V T hT c).before (2 : Fin 7) t d))
        ∗ (∃ d, owns (c : Thread nD τ) (ms1_3 T t) fullShare ((datO V T hT c).before (3 : Fin 7) t d))
        ∗ (∃ d, owns (c : Thread nD τ) (ms1_4 T t) fullShare ((datO V T hT c).before (4 : Fin 7) t d))
        ∗ (∃ d, owns (c : Thread nD τ) (ms1_5 T t) fullShare ((datO V T hT c).before (5 : Fin 7) t d))
        ∗ (∃ d, owns (c : Thread nD τ) (ms1_6 T t) fullShare ((datO V T hT c).before (6 : Fin 7) t d)))
      ⊢ wp frame (wpE (defs₀ (F := F)) Variants.none c none) Set.univ (bodyO T t) fun _ =>
          iprop((datO V T hT c).Φ t.succ ∗ (datO V T hT c).owesAt () t.succ
            ∗ owns (c : Thread nD τ) (ms1_0 T t) fullShare (blkO V T c (0 : Fin 7) t)
            ∗ owns (c : Thread nD τ) (ms1_1 T t) fullShare (blkO V T c (1 : Fin 7) t)
            ∗ owns (c : Thread nD τ) (ms1_2 T t) fullShare (blkO V T c (2 : Fin 7) t)
            ∗ owns (c : Thread nD τ) (ms1_3 T t) fullShare (blkO V T c (3 : Fin 7) t)
            ∗ owns (c : Thread nD τ) (ms1_4 T t) fullShare (blkO V T c (4 : Fin 7) t)
            ∗ owns (c : Thread nD τ) (ms1_5 T t) fullShare (blkO V T c (5 : Fin 7) t)
            ∗ owns (c : Thread nD τ) (ms1_6 T t) fullShare (oOut V T hT c t)) := by
  obtain ⟨L, hL, run⟩ := oStep V T hT c t
  have hc : ((crdO T t) 0).val = t.val := crdO_val t
  rw [hc] at run
  simp only [datO_before0, datO_before1, datO_before2, datO_before3, datO_before4, datO_before5]
  rewrite [show (datO V T hT c).Φ t.succ = iprop((idxM.view.loc (c : Thread nD τ) ↦{fullShare.right} T) ∗ copies c T (kvO V c) (t.val + 1) ∗ restO V T c) from rfl,
    show (datO V T hT c).Φ t.castSucc = iprop((idxM.view.loc (c : Thread nD τ) ↦{fullShare.right} T) ∗ copies c T (kvO V c) t.val ∗ restO V T c) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (oWrap V T c t (oOut V T hT c t) L hL run (restO V T c) (owesO V T hT c t.castSucc) (owesO' V T hT c t.succ))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body's obligation. -/
theorem oObligation (c : Dev nD) : BodyObligation (datO V T hT c) (defs₀ (F := F)) Variants.none () Set.univ := fun t => by
  rw [bigSep_W1, bigSep_W1]
  simp only [idleO]
  rw [idle1_false]
  exact oBody V T hT c t

end Cert.KernelIdeal.Gen

end
-- ==== Proof.OOut.lean ====
/- What the second call leaves in a block, row by row, on the exact numbers. -/
module

public import proofs.«01_k».proof.Proof.OHead
public import proofs.«01_k».proof.Proof.MemValue
public import proofs.«01_k».proof.Proof.ORegion

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The scaled query of head `hh`. -/
def queryR (y : Fin 2048 → EReal) (hh : Fin 8) (d : Fin 128) : EReal :=
  unitR y (128 * (hh.val / 2)) (by omega) d * Ideal.ofBits .f32 0x3DB504F3#32

/-- The output of head `hh` at value column `v`. -/
def outR (s : Fin 137216 → EReal) (y : Fin 2048 → EReal) (eg bt : EReal) (hh : Fin 8) (v : Fin 128) : EReal :=
  (∑ d : Fin 128, stateR s hh v d * eg * queryR y hh d)
    + (valR y hh v - ∑ d : Fin 128, stateR s hh v d * eg * keyR y hh d) * bt * ∑ d : Fin 128, keyR y hh d * queryR y hh d

theorem headQuery_apply (x : FVec Ideal S8x2048 .f32) (hh : Fin 8) (r : Fin 8) (d : Fin 128) :
    headQuery x hh (ix2 r d) = queryR (fun j => x (ix2 r j)) hh d := by
  pointwise [headQuery]
  rw [normed_apply]
  rfl

theorem decayed_apply (w : FVec Ideal S8x4096 .f32) (g : FVec Ideal S8x8 .f32) (hh r : Fin 8) (l : Fin 4096) :
    mulf w (broadcastTo S8x4096 (exp (colAt g hh.val (by omega))) broadcasts_S8x1_S8x4096) (ix2 r l) = w (ix2 r l) * Ideal.exp (g (ix2 r hh)) := by
  pointwise [colAt]

theorem head_vec (A B v k q : FVec Ideal S8x128 .f32) (bt : FVec Ideal S8x8 .f32) (hh r : Fin 8) (j : Fin 128) :
    addf A (mulf (mulf (subf v B) (broadcastTo S8x128 (colAt bt hh.val (by omega)) broadcasts_S8x1_S8x128))
      (broadcastTo S8x128
        (shapeCast S8x1 (multiReduction .add [1] S8 (mulf k q) 0x00000000#32 reduces_S8x128_S8 (.inl rfl) rfl) shapeCasts_S8_S8x1)
        broadcasts_S8x1_S8x128)) (ix2 r j)
      = A (ix2 r j) + (v (ix2 r j) - B (ix2 r j)) * bt (ix2 r hh) * ∑ d : Fin 128, k (ix2 r d) * q (ix2 r d) := by
  pointwise [colAt]

theorem headVal_apply (x : FVec Ideal S8x2048 .f32) (hh r : Fin 8) (v : Fin 128) : headVal x hh (ix2 r v) = valR (fun j => x (ix2 r j)) hh v := by
  pointwise [headVal, blockAt]
  rfl

theorem oHead_apply (x : FVec Ideal S8x2048 .f32) (g bt : FVec Ideal S8x8 .f32) (W : Fin 4 → FVec Ideal S8x4096 .f32)
    (s : Fin 8 → Fin 137216 → EReal) (hh : Fin 8) (hW : Spans W s hh) (r : Fin 8) (v : Fin 128) :
    oHead x g bt W hh (ix2 r v) = outR (s r) (fun j => x (ix2 r j)) (Ideal.exp (g (ix2 r hh))) (bt (ix2 r hh)) hh v := by
  have hW' : Spans (fun i => mulf (W i) (broadcastTo S8x4096 (exp (colAt g hh.val (by omega))) broadcasts_S8x1_S8x4096))
      (fun r j => s r j * Ideal.exp (g (ix2 r hh))) hh :=
    fun i r l => (decayed_apply (W i) g hh r l).trans (congrArg (· * Ideal.exp (g (ix2 r hh))) (hW i r l))
  refine (head_vec _ _ (headVal x hh) (headKey x hh) (headQuery x hh) bt hh r v).trans ?_
  rw [stateSum_apply _ _ hh hW' (headQuery x hh) r v, stateSum_apply _ _ hh hW' (headKey x hh) r v]
  simp only [headQuery_apply, headKey, normed_apply, headVal_apply]
  rfl

theorem mix_vec (c0 c1 c2 u : FVec Ideal S8x2048 .f32) (w0 w1 w2 w3 : FVec Ideal S1x2048 .f32) (r : Fin 8) (j : Fin 2048) :
    oMix c0 c1 c2 u w0 w1 w2 w3 (ix2 r j)
      = (c0 (ix2 r j) * w0 (ix2 0 j) + c1 (ix2 r j) * w1 (ix2 0 j) + c2 (ix2 r j) * w2 (ix2 0 j) + u (ix2 r j) * w3 (ix2 0 j))
        * sigR (c0 (ix2 r j) * w0 (ix2 0 j) + c1 (ix2 r j) * w1 (ix2 0 j) + c2 (ix2 r j) * w2 (ix2 0 j) + u (ix2 r j) * w3 (ix2 0 j)) := by
  pointwise [oMix, k1_pay5, k1_pay4, k1_pay3]
  rfl

section
variable (arg3 : Memref sig .tc .vmem S8x2048 .f32)
  (arg4 : Memref sig .tc .vmem S8x8 .f32)  (arg5 : Memref sig .tc .vmem S8x8 .f32)
  (arg6 : Memref sig .tc .vmem S1x8 .f32)  (arg7 : Memref sig .tc .vmem S1x8 .f32)
  (arg8 : Memref sig .tc .vmem S4x2048 .f32)
  (x0 : S8x2048.Idx → Elt Ideal .f32) (x1 : S8x8.Idx → Elt Ideal .f32) (x2 : S8x8.Idx → Elt Ideal .f32)
  (x3 : S1x8.Idx → Elt Ideal .f32) (x4 : S1x8.Idx → Elt Ideal .f32) (x5 : S4x2048.Idx → Elt Ideal .f32)
  (G : S8x137216.Idx → Elt Ideal .f32)

theorem oX_apply (r : Fin 8) (j : Fin 2048) :
    oX arg3 arg8 x0 x5 G (ix2 r j) = mixR (fun l => G (ix2 r l)) (fun l => x0 (ix2 r l)) (fun k l => x5 (ix2 k l)) j := by
  have a0 : rowOf G 131072 (by decide) (ix2 r j) = G (ix2 r ⟨131072 + j.val, by omega⟩) := congrArg G (emb_cols _ _ r j _)
  have a1 : rowOf G 133120 (by decide) (ix2 r j) = G (ix2 r ⟨133120 + j.val, by omega⟩) := congrArg G (emb_cols _ _ r j _)
  have a2 : rowOf G 135168 (by decide) (ix2 r j) = G (ix2 r ⟨135168 + j.val, by omega⟩) := congrArg G (emb_cols _ _ r j _)
  have e := load_apply arg3.view x0 inb_S8x2048_S8x2048_0_0 (ix2 r j) (ix2 r j) (two (Nat.zero_add _).symm (Nat.zero_add _).symm)
  have b0 := load_apply arg8.view x5 inb_S4x2048_S1x2048_0_0 (ix2 0 j) (ix2 0 j) (two rfl (Nat.zero_add _).symm)
  have b1 := load_apply arg8.view x5 inb_S4x2048_S1x2048_1_0 (ix2 0 j) (ix2 1 j) (two rfl (Nat.zero_add _).symm)
  have b2 := load_apply arg8.view x5 inb_S4x2048_S1x2048_2_0 (ix2 0 j) (ix2 2 j) (two rfl (Nat.zero_add _).symm)
  have b3 := load_apply arg8.view x5 inb_S4x2048_S1x2048_3_0 (ix2 0 j) (ix2 3 j) (two rfl (Nat.zero_add _).symm)
  have g : convR (fun l => G (ix2 r l)) (fun l => x0 (ix2 r l)) (fun k l => x5 (ix2 k l)) j = _ :=
    (congr_arg₂ (· + ·) (congr_arg₂ (· + ·) (congr_arg₂ (· + ·) (congr_arg₂ (· * ·) a0 b0) (congr_arg₂ (· * ·) a1 b1)) (congr_arg₂ (· * ·) a2 b2)) (congr_arg₂ (· * ·) e b3)).symm
  exact (mix_vec _ _ _ _ _ _ _ _ r j).trans (congrArg (fun z => z * sigR z) g).symm

theorem oG_apply (r hh : Fin 8) : oG arg5 arg6 arg7 x2 x3 x4 (ix2 r hh) = gateR (x2 (ix2 r hh)) (x3 (ix2 0 hh)) (x4 (ix2 0 hh)) := by
  pointwise [oG, k1_pay6]
  have e := load_apply arg5.view x2 inb_S8x8_S8x8_0_0 (ix2 r hh) (ix2 r hh) (two (Nat.zero_add _).symm (Nat.zero_add _).symm)
  have a0 := load_apply arg6.view x3 inb_S1x8_S1x8_0_0 (ix2 0 hh) (ix2 0 hh) (two rfl (Nat.zero_add _).symm)
  have a1 := load_apply arg7.view x4 inb_S1x8_S1x8_0_0 (ix2 0 hh) (ix2 0 hh) (two rfl (Nat.zero_add _).symm)
  erw [e, a0, a1]
  rfl

theorem oB_apply (r hh : Fin 8) : oB arg4 x1 (ix2 r hh) = sigR (x1 (ix2 r hh)) := by
  pointwise [oB, k1_pay7]
  have e := load_apply arg4.view x1 inb_S8x8_S8x8_0_0 (ix2 r hh) (ix2 r hh) (two (Nat.zero_add _).symm (Nat.zero_add _).symm)
  erw [e]
  rfl

/-- The output block at a row and a column, from the gathered rows and the input blocks. -/
def oBlock (r : Fin 8) (q : Fin 1024) : EReal :=
  outR (fun l => G (ix2 r l)) (mixR (fun l => G (ix2 r l)) (fun l => x0 (ix2 r l)) (fun k l => x5 (ix2 k l)))
    (Ideal.exp (gateR (x2 (ix2 r ⟨q.val / 128, by omega⟩)) (x3 (ix2 0 ⟨q.val / 128, by omega⟩)) (x4 (ix2 0 ⟨q.val / 128, by omega⟩))))
    (sigR (x1 (ix2 r ⟨q.val / 128, by omega⟩))) ⟨q.val / 128, by omega⟩ ⟨q.val % 128, by omega⟩

theorem oBlock_head (r hh : Fin 8) (v : Fin 128) (q : Fin 1024) (hq : q.val = 128 * hh.val + v.val) :
    oBlock x0 x1 x2 x3 x4 x5 G r q
      = outR (fun l => G (ix2 r l)) (mixR (fun l => G (ix2 r l)) (fun l => x0 (ix2 r l)) (fun k l => x5 (ix2 k l)))
          (Ideal.exp (gateR (x2 (ix2 r hh)) (x3 (ix2 0 hh)) (x4 (ix2 0 hh)))) (sigR (x1 (ix2 r hh))) hh v := by
  unfold oBlock
  have e1 : (⟨q.val / 128, by omega⟩ : Fin 8) = hh := Fin.ext (by show q.val / 128 = hh.val; omega)
  have e2 : (⟨q.val % 128, by omega⟩ : Fin 128) = v := Fin.ext (by show q.val % 128 = v.val; omega)
  rw [e1, e2]

theorem emb_head (o : ℕ) (inb : ∀ a, (![0, o] : Fin 2 → ℕ) a + S8x128.size a ≤ S8x1024.size a) (r : Fin 8) (l : Fin 128)
    (h : o + l.val < 1024) :
    (Rect.unit (s := S8x1024) ![0, o] S8x128.size inb).emb (ix2 r l) = ix2 r ⟨o + l.val, h⟩ :=
  funext (two (P := fun a => (Rect.unit (s := S8x1024) ![0, o] S8x128.size inb).emb (ix2 r l) a = ix2 r ⟨o + l.val, h⟩ a)
    (Fin.ext (by show 0 + 1 * r.val = r.val; omega)) (Fin.ext (by show o + 1 * l.val = o + l.val; omega)))

theorem head_piece (hh : Fin 8) (r : Fin 8) (v : Fin 128) :
    oHead (oX arg3 arg8 x0 x5 G) (oG arg5 arg6 arg7 x2 x3 x4) (oB arg4 x1) (fun p => spanOf G (16384 * hh.val + 4096 * p.val) (by omega)) hh (ix2 r v)
      = oBlock x0 x1 x2 x3 x4 x5 G r ⟨128 * hh.val + v.val, by omega⟩ := by
  have hs : Spans (fun p => spanOf G (16384 * hh.val + 4096 * p.val) (by omega)) (fun r l => G (ix2 r l)) hh :=
    fun p r l => congrArg G (emb_cols _ _ r l _)
  rw [oHead_apply _ _ _ _ _ hh hs, oBlock_head x0 x1 x2 x3 x4 x5 G r hh v _ rfl]
  simp only [oX_apply, oG_apply, oB_apply]

theorem oPieces_value (hc : ∀ y, ∃ p ∈ oBlockPieces arg3 arg4 arg5 arg6 arg7 arg8 x0 x1 x2 x3 x4 x5 G, y ∈ p.1.set) (r : Fin 8) (q : Fin 1024) :
    View.canon (oBlockPieces arg3 arg4 arg5 arg6 arg7 arg8 x0 x1 x2 x3 x4 x5 G) (ix2 r q) = oBlock x0 x1 x2 x3 x4 x5 G r q := by
  refine View.canon_apply_of_pieces (fun y => oBlock x0 x1 x2 x3 x4 x5 G (y 0) (y 1)) _ ?_ (ix2 r q) (hc _)
  intro p hp
  unfold oBlockPieces oPieces at hp
  obtain ⟨k, rfl⟩ := (List.mem_ofFn' _ _).1 hp
  intro x
  obtain ⟨r, l, rfl⟩ : ∃ (r : Fin 8) (l : Fin 128), x = ix2 r l := ⟨x 0, x 1, funext (two rfl rfl)⟩
  dsimp only
  refine (head_piece arg3 arg4 arg5 arg6 arg7 arg8 x0 x1 x2 x3 x4 x5 G ⟨7 - k.val, by omega⟩ r l).trans ?_
  rw [emb_head _ _ r l (by omega)]
  rfl
end

variable (V : Dev nD → Valuation τ sig (Elt Ideal)) (T : S128.Idx → Elt Ideal .i32) (hT : ∀ j, (T j).toNat < 512)

theorem oOut_value (c : Dev nD) (t : Fin (cfgO T).N) (r : Fin 8) (q : Fin 1024) :
    oOut V T hT c t (ix2 r q) = oBlock (blkO V T c (0 : Fin 7) t) (blkO V T c (1 : Fin 7) t) (blkO V T c (2 : Fin 7) t) (blkO V T c (3 : Fin 7) t) (blkO V T c (4 : Fin 7) t) (blkO V T c (5 : Fin 7) t)
      (gathered T (kvO V c) ((crdO T t) 0).val) r q := by
  unfold oOut
  split
  · rename_i h
    have hc := oFirst_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_first _ h).1 (at_first _ h).2.1 (at_first _ h).2.2.1 (at_first _ h).2.2.2 h
    unfold oPiecesFirst
    rw [oFirst_pieces] at hc ⊢
    exact oPieces_value _ _ _ _ _ _ _ _ _ _ _ _ _ hc r q
  · split
    · rename_i h he
      have hc := oEven_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_even _ h he).1 (at_even _ h he).2.1 (at_even _ h he).2.2.1 (at_even _ h he).2.2.2.1 (at_even _ h he).2.2.2.2
      unfold oPiecesEven
      rw [oEven_pieces] at hc ⊢
      exact oPieces_value _ _ _ _ _ _ _ _ _ _ _ _ _ hc r q
    · split
      · rename_i h he hl
        have hc := oOdd_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qA qB hT (at_odd _ he hl).1 (at_odd _ he hl).2.1 (at_odd _ he hl).2.2.1 (at_odd _ he hl).2.2.2 hl
        unfold oPiecesOdd
        rw [oOdd_pieces] at hc ⊢
        exact oPieces_value _ _ _ _ _ _ _ _ _ _ _ _ _ hc r q
      · rename_i h he hl
        have hc := oLast_cover c (crdO T t) (ms1_0 T t) (hs1_0 T t) (ms1_1 T t) (hs1_1 T t) (ms1_2 T t) (hs1_2 T t) (ms1_3 T t) (hs1_3 T t) (ms1_4 T t) (hs1_4 T t) (ms1_5 T t) (hs1_5 T t) (ms1_6 T t) (hs1_6 T t) T (kvO V c) (blkO V T c (0 : Fin 7) t) (blkO V T c (1 : Fin 7) t) (blkO V T c (2 : Fin 7) t) (blkO V T c (3 : Fin 7) t) (blkO V T c (4 : Fin 7) t) (blkO V T c (5 : Fin 7) t) qB hT (at_last _ he hl).1 (at_last _ he hl).2.1 (at_last _ he hl).2.2.1 (at_last _ he hl).2.2.2
        unfold oPiecesLast
        rw [oLast_pieces] at hc ⊢
        exact oPieces_value _ _ _ _ _ _ _ _ _ _ _ _ _ hc r q

end Cert.KernelIdeal.Gen

end
-- ==== Proof.OArr.lean ====
/- The second call's result as a whole array, on the exact numbers. -/
module

public import proofs.«01_k».proof.Proof.OOut
public import Idealize.ShloMosaic.Lib.Pipeline.ValueKit.Geometry

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem o_row0 : ∀ t : Fin grid1.N, cc1_transform_1 (grid1.coords t) 0 = t.val := by decide +kernel
theorem o_row1 : ∀ t : Fin grid1.N, cc1_transform_2 (grid1.coords t) 0 = t.val := by decide +kernel
theorem o_row2 : ∀ t : Fin grid1.N, cc1_transform_3 (grid1.coords t) 0 = t.val := by decide +kernel
theorem o_row6 : ∀ t : Fin grid1.N, cc1_transform_7 (grid1.coords t) 0 = t.val := by decide +kernel

/-! ### The input blocks of the second call -/

section
variable (V : Dev nD → Valuation τ sig (Elt Ideal)) (T : S128.Idx → Elt Ideal .i32) (c : Dev nD) (t : Fin (cfgO T).N)

theorem rowO_lt (r : Fin 8) : 8 * t.val + r.val < 128 := by
  have h : t.val < 16 := lt_of_lt_of_eq t.isLt N_1
  omega

theorem blkO0 (r : Fin 8) (l : Fin 2048) : blkO V T c (0 : Fin 7) t (ix2 r l) = V c (Proc.devRef .tc main_arg0) (ix2 ⟨8 * t.val + r.val, rowO_lt T t r⟩ l) := by
  refine congrArg (V c (Proc.devRef .tc main_arg0)) (funext (two (Fin.ext ?_) (Fin.ext ?_)))
  · refine (((cfgO T).win (0 : Fin 7)).rect_emb_val t (ix2 r l) 0).trans ?_
    show cc1_transform_1 (grid1.coords t) 0 * 8 + r.val = 8 * t.val + r.val
    rw [o_row0 t, Nat.mul_comm]
  · exact (((cfgO T).win (0 : Fin 7)).rect_emb_val t (ix2 r l) 1).trans (by show 0 * 2048 + l.val = l.val; omega)

theorem blkO1 (r : Fin 8) (l : Fin 8) : blkO V T c (1 : Fin 7) t (ix2 r l) = V c (Proc.devRef .tc main_arg1) (ix2 ⟨8 * t.val + r.val, rowO_lt T t r⟩ l) := by
  refine congrArg (V c (Proc.devRef .tc main_arg1)) (funext (two (Fin.ext ?_) (Fin.ext ?_)))
  · refine (((cfgO T).win (1 : Fin 7)).rect_emb_val t (ix2 r l) 0).trans ?_
    show cc1_transform_2 (grid1.coords t) 0 * 8 + r.val = 8 * t.val + r.val
    rw [o_row1 t, Nat.mul_comm]
  · exact (((cfgO T).win (1 : Fin 7)).rect_emb_val t (ix2 r l) 1).trans (by show 0 * 8 + l.val = l.val; omega)

theorem blkO2 (r : Fin 8) (l : Fin 8) : blkO V T c (2 : Fin 7) t (ix2 r l) = V c (Proc.devRef .tc main_arg2) (ix2 ⟨8 * t.val + r.val, rowO_lt T t r⟩ l) := by
  refine congrArg (V c (Proc.devRef .tc main_arg2)) (funext (two (Fin.ext ?_) (Fin.ext ?_)))
  · refine (((cfgO T).win (2 : Fin 7)).rect_emb_val t (ix2 r l) 0).trans ?_
    show cc1_transform_3 (grid1.coords t) 0 * 8 + r.val = 8 * t.val + r.val
    rw [o_row2 t, Nat.mul_comm]
  · exact (((cfgO T).win (2 : Fin 7)).rect_emb_val t (ix2 r l) 1).trans (by show 0 * 8 + l.val = l.val; omega)

theorem blkO3 (r : Fin 1) (l : Fin 8) : blkO V T c (3 : Fin 7) t (ix2 r l) = V c (Proc.devRef .tc main_v1) (ix2 r l) :=
  congrArg (V c (Proc.devRef .tc main_v1)) (funext (two
    (Fin.ext ((((cfgO T).win (3 : Fin 7)).rect_emb_val t (ix2 r l) 0).trans (by show 0 * 1 + r.val = r.val; omega)))
    (Fin.ext ((((cfgO T).win (3 : Fin 7)).rect_emb_val t (ix2 r l) 1).trans (by show 0 * 8 + l.val = l.val; omega)))))

theorem blkO4 (r : Fin 1) (l : Fin 8) : blkO V T c (4 : Fin 7) t (ix2 r l) = V c (Proc.devRef .tc main_v2) (ix2 r l) :=
  congrArg (V c (Proc.devRef .tc main_v2)) (funext (two
    (Fin.ext ((((cfgO T).win (4 : Fin 7)).rect_emb_val t (ix2 r l) 0).trans (by show 0 * 1 + r.val = r.val; omega)))
    (Fin.ext ((((cfgO T).win (4 : Fin 7)).rect_emb_val t (ix2 r l) 1).trans (by show 0 * 8 + l.val = l.val; omega)))))

theorem blkO5 (r : Fin 4) (l : Fin 2048) : blkO V T c (5 : Fin 7) t (ix2 r l) = V c (Proc.devRef .tc main_v0) (ix2 r l) :=
  congrArg (V c (Proc.devRef .tc main_v0)) (funext (two
    (Fin.ext ((((cfgO T).win (5 : Fin 7)).rect_emb_val t (ix2 r l) 0).trans (by show 0 * 4 + r.val = r.val; omega)))
    (Fin.ext ((((cfgO T).win (5 : Fin 7)).rect_emb_val t (ix2 r l) 1).trans (by show 0 * 2048 + l.val = l.val; omega)))))

theorem gathered_row (r : Fin 8) (l : Fin 137216) :
    gathered T (kvO V c) ((crdO T t) 0).val (ix2 r l)
      = V c (Proc.devRef .tc main_arg3) (ix2 ⟨(T (Idealize.ShloMosaic.ix1 (n0 := 128) ⟨8 * t.val + r.val, rowO_lt T t r⟩)).toNat % 512, Nat.mod_lt _ (by decide)⟩ l) := by
  have e : blkAt T ((crdO T t) 0).val r = T (Idealize.ShloMosaic.ix1 (n0 := 128) ⟨8 * t.val + r.val, rowO_lt T t r⟩) := by
    refine congrArg T (funext fun a => match a with | 0 => Fin.ext ?_)
    show (8 * ((grid1.coords t) 0).val + r.val) % 128 = 8 * t.val + r.val
    rw [crdO_val t, Nat.mod_eq_of_lt (rowO_lt T t r)]
  exact congrArg (fun w : BitVec 32 => V c (Proc.devRef .tc main_arg3) (ix2 ⟨w.toNat % 512, Nat.mod_lt _ (by decide)⟩ l)) e
end

/-! ### The second call's result -/

/-- The output of sequence `b` at column `q`, from the arrays and the block its table names. -/
def oVal (A0 : S128x2048.Idx → EReal) (A1 A2 : S128x8.Idx → EReal) (A3 : S512x137216.Idx → EReal) (cw : Fin 4 → Fin 2048 → EReal)
    (dtb al : Fin 8 → EReal) (n : Fin 512) (b : Fin 128) (q : Fin 1024) : EReal :=
  outR (fun l => A3 (ix2 n l)) (mixR (fun l => A3 (ix2 n l)) (fun l => A0 (ix2 b l)) cw)
    (Ideal.exp (gateR (A2 (ix2 b ⟨q.val / 128, by omega⟩)) (dtb ⟨q.val / 128, by omega⟩) (al ⟨q.val / 128, by omega⟩)))
    (sigR (A1 (ix2 b ⟨q.val / 128, by omega⟩))) ⟨q.val / 128, by omega⟩ ⟨q.val % 128, by omega⟩

section
variable (V : Dev nD → Valuation τ sig (Elt Ideal)) (T : S128.Idx → Elt Ideal .i32) (hT : ∀ j, (T j).toNat < 512) (c : Dev nD)

theorem oOut_eq (t : Fin (cfgO T).N) (r : Fin 8) (q : Fin 1024) :
    oOut V T hT c t (ix2 r q) = oVal (V c (Proc.devRef .tc main_arg0)) (V c (Proc.devRef .tc main_arg1)) (V c (Proc.devRef .tc main_arg2)) (V c (Proc.devRef .tc main_arg3))
      (fun k l => V c (Proc.devRef .tc main_v0) (ix2 k l)) (fun hh => V c (Proc.devRef .tc main_v1) (ix2 0 hh)) (fun hh => V c (Proc.devRef .tc main_v2) (ix2 0 hh))
      ⟨(T (Idealize.ShloMosaic.ix1 (n0 := 128) ⟨8 * t.val + r.val, rowO_lt T t r⟩)).toNat % 512, Nat.mod_lt _ (by decide)⟩ ⟨8 * t.val + r.val, rowO_lt T t r⟩ q := by
  rw [oOut_value]
  unfold oBlock oVal
  have g : (fun l => gathered T (kvO V c) ((crdO T t) 0).val (ix2 r l)) = _ := funext fun l => gathered_row V T c t r l
  rw [g]
  simp only [blkO0, blkO1, blkO2, blkO3, blkO4, blkO5]

theorem oPlace (t : Fin (cfgO T).N) (r : Fin 8) (q : Fin 1024) :
    (((cfgO T).win (6 : Fin 7)).blk t).view.emb (ix2 r q) = (ix2 ⟨8 * t.val + r.val, rowO_lt T t r⟩ q : S128x1024.Idx) := by
  refine funext (two (Fin.ext ?_) (Fin.ext ?_))
  · refine (((cfgO T).win (6 : Fin 7)).rect_emb_val t (ix2 r q) 0).trans ?_
    show cc1_transform_7 (grid1.coords t) 0 * 8 + r.val = 8 * t.val + r.val
    rw [o_row6 t, Nat.mul_comm]
  · refine (((cfgO T).win (6 : Fin 7)).rect_emb_val t (ix2 r q) 1).trans ?_
    show 0 * 1024 + q.val = q.val
    omega

/-- Every point writes its block back: the block index is the point's number. -/
theorem oFlush (t : Fin (cfgO T).N) : ((cfgO T).win (6 : Fin 7)).flush t = true := by
  unfold Pipeline.Window.flush
  refine Bool.and_eq_true_iff.2 ⟨rfl, Bool.or_eq_true_iff.2 ?_⟩
  by_cases h : t.val + 1 < grid1.N
  · refine .inr (decide_eq_true ⟨h, fun e => ?_⟩)
    have e0 : cc1_transform_7 (grid1.coords ⟨t.val + 1, h⟩) 0 = cc1_transform_7 (grid1.coords t) 0 := congrFun e 0
    rw [o_row6, o_row6 t] at e0
    exact Nat.succ_ne_self _ e0
  · have h' : t.val < grid1.N := t.isLt
    exact .inl (decide_eq_true (by show t.val + 1 = grid1.N; omega))

theorem oArr_eq : (datO V T hT c).arrAt (6 : Fin 7) (cfgO T).N
    = fun y : S128x1024.Idx => oVal (V c (Proc.devRef .tc main_arg0)) (V c (Proc.devRef .tc main_arg1)) (V c (Proc.devRef .tc main_arg2)) (V c (Proc.devRef .tc main_arg3))
      (fun k l => V c (Proc.devRef .tc main_v0) (ix2 k l)) (fun hh => V c (Proc.devRef .tc main_v1) (ix2 0 hh)) (fun hh => V c (Proc.devRef .tc main_v2) (ix2 0 hh))
      ⟨(T (Idealize.ShloMosaic.ix1 (n0 := 128) (y 0))).toNat % 512, Nat.mod_lt _ (by decide)⟩ (y 0) (y 1) := by
  refine (datO V T hT c).arrAt_eq_of_emb (6 : Fin 7) _ (fun t hf y => ?_) (fun i => ?_)
  · obtain ⟨r, j, rfl⟩ : ∃ (r : Fin 8) (j : Fin 1024), y = ix2 r j := ⟨y 0, y 1, funext (two rfl rfl)⟩
    rw [oPlace]
    exact oOut_eq V T hT c t r j
  · obtain ⟨n, j, rfl⟩ : ∃ (n : Fin 128) (j : Fin 1024), i = ix2 n j := ⟨i 0, i 1, funext (two rfl rfl)⟩
    refine ⟨⟨n.val / 8, lt_of_lt_of_eq (by omega : n.val / 8 < 16) N_1.symm⟩, oFlush T _, ?_⟩
    have e := oPlace T ⟨n.val / 8, lt_of_lt_of_eq (by omega : n.val / 8 < 16) N_1.symm⟩ ⟨n.val % 8, by omega⟩ j
    have en : (⟨8 * (n.val / 8) + n.val % 8, by omega⟩ : Fin 128) = n := Fin.ext (by show 8 * (n.val / 8) + n.val % 8 = n.val; omega)
    have e' := e.trans (congrArg (fun n => (ix2 n j : S128x1024.Idx)) en)
    exact e' ▸ View.emb_mem_set _ _
end

end Cert.KernelIdeal.Gen

end
-- ==== Proof.MemRegion.lean ====
/- The first call as a pipeline: what each grid point leaves, and the body's obligation at every point. -/
module

public import proofs.«01_k».proof.Proof.MemCover
public import proofs.«01_k».proof.Proof.MemTable
public import Idealize.ShloMosaic.Lib.Pipeline.Frame
public import Idealize.ShloMosaic.Lib.Pipeline.TableIdle
public import Idealize.ShloMosaic.Lib.Pipeline.RegionArraysTS

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × Counters) ℕ

variable (V : Dev nD → Valuation τ sig (Elt F)) (T : S512.Idx → Elt F .i32) (hT : ∀ j, TokWord (T j))

/-- The call's table at contents `T`. -/
def tab0 (T : S512.Idx → Elt F .i32) : (pcfg0 (F := F)).Adm := ⟨fun | ⟨0, _⟩ => T | ⟨_ + 1, h⟩ => absurd h (Nat.not_lt.2 (Nat.le_add_left _ _)), trivial⟩

/-- The pipeline at that table. -/
abbrev cfgM : Cfg sig Λ₀ := cfg0 (F := F) (tab0 T)

/-- The grid coordinates of point `t`. -/
abbrev crdM (t : Fin (cfgM T).N) : grid0.Coords := (cfgM T).grid.coords t

abbrev ms0_0 (t : Fin (cfgM T).N) : Memref sig .tc .vmem S8x137216 .f32 := spec0_0.stage ((cfgM T).slots t (0 : Fin 8))
abbrev hs0_0 (t : Fin (cfgM T).N) : (ms0_0 T t).IsWhole := hstage0_0 (((cfgM T).slots t (0 : Fin 8)).cast nbuf0_0)
abbrev ms0_1 (t : Fin (cfgM T).N) : Memref sig .tc .vmem S128x2048 .f32 := spec0_1.stage ((cfgM T).slots t (1 : Fin 8))
abbrev hs0_1 (t : Fin (cfgM T).N) : (ms0_1 T t).IsWhole := hstage0_1 (((cfgM T).slots t (1 : Fin 8)).cast nbuf0_1)
abbrev ms0_2 (t : Fin (cfgM T).N) : Memref sig .tc .vmem S128x8 .f32 := spec0_2.stage ((cfgM T).slots t (2 : Fin 8))
abbrev hs0_2 (t : Fin (cfgM T).N) : (ms0_2 T t).IsWhole := hstage0_2 (((cfgM T).slots t (2 : Fin 8)).cast nbuf0_2)
abbrev ms0_3 (t : Fin (cfgM T).N) : Memref sig .tc .vmem S128x8 .f32 := spec0_3.stage ((cfgM T).slots t (3 : Fin 8))
abbrev hs0_3 (t : Fin (cfgM T).N) : (ms0_3 T t).IsWhole := hstage0_3 (((cfgM T).slots t (3 : Fin 8)).cast nbuf0_3)
abbrev ms0_4 (t : Fin (cfgM T).N) : Memref sig .tc .vmem S1x8 .f32 := spec0_4.stage ((cfgM T).slots t (4 : Fin 8))
abbrev hs0_4 (t : Fin (cfgM T).N) : (ms0_4 T t).IsWhole := hstage0_4 (((cfgM T).slots t (4 : Fin 8)).cast nbuf0_4)
abbrev ms0_5 (t : Fin (cfgM T).N) : Memref sig .tc .vmem S1x8 .f32 := spec0_5.stage ((cfgM T).slots t (5 : Fin 8))
abbrev hs0_5 (t : Fin (cfgM T).N) : (ms0_5 T t).IsWhole := hstage0_5 (((cfgM T).slots t (5 : Fin 8)).cast nbuf0_5)
abbrev ms0_6 (t : Fin (cfgM T).N) : Memref sig .tc .vmem S4x2048 .f32 := spec0_6.stage ((cfgM T).slots t (6 : Fin 8))
abbrev hs0_6 (t : Fin (cfgM T).N) : (ms0_6 T t).IsWhole := hstage0_6 (((cfgM T).slots t (6 : Fin 8)).cast nbuf0_6)
abbrev ms0_7 (t : Fin (cfgM T).N) : Memref sig .tc .vmem S8x137216 .f32 := spec0_7.stage ((cfgM T).slots t (7 : Fin 8))
abbrev hs0_7 (t : Fin (cfgM T).N) : (ms0_7 T t).IsWhole := hstage0_7 (((cfgM T).slots t (7 : Fin 8)).cast nbuf0_7)

/-- Window `w`'s block at point `t`, read off its array at the region's entry. -/
def blkM (c : Dev nD) (w : Fin (cfgM T).W) (t : Fin (cfgM T).N) : (((cfgM T).win w).xblock (crdM T t)).Idx → Elt F ((cfgM T).win w).elt :=
  (((cfgM T).win w).blk t).view.read (Elt F) (V c (Proc.devRef .tc (Pipeline.arrRef spec0 w)))

theorem memPath (i : grid0.Coords) : (MemIdle T i ∧ ¬ MemBusy T i) ∨ (¬ MemIdle T i ∧ MemBusy T i) := mem_paths _ _ _ _ _ _ _ _

theorem memBusy_of (i : grid0.Coords) (h : ¬ MemIdle T i) : MemBusy T i := ((memPath T i).resolve_left fun h' => h h'.1).2

theorem memNotBusy_of (i : grid0.Coords) (h : MemIdle T i) : ¬ MemBusy T i := ((memPath T i).resolve_right fun h' => h'.1 h).2

theorem idleM (w : Fin 8) (i : grid0.Coords) : (cfgM T).idle w i = false := idle0_false _ w i

include hT

theorem tokWord_at (i : grid0.Coords) (r : Fin 8) : TokWord (tokAt T i r) := hT _

theorem memOk_of (i : grid0.Coords) : MemOk T i :=
  mem_ok (tokWord_at T hT i 0) (tokWord_at T hT i 1) (tokWord_at T hT i 2) (tokWord_at T hT i 3) (tokWord_at T hT i 4) (tokWord_at T hT i 5) (tokWord_at T hT i 6) (tokWord_at T hT i 7)

/-- What the body leaves in the output block at point `t`. -/
def memOut (c : Dev nD) (t : Fin (cfgM T).N) : S8x137216.Idx → Elt F .f32 :=
  if h : MemIdle T (crdM T t) then
    View.canon (memRunIdle c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memNotBusy_of T (crdM T t) h)).1
  else
    View.canon (memRunBusy c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memBusy_of T (crdM T t) h)).1

theorem memOut_idle (c : Dev nD) (t : Fin (cfgM T).N) (h : MemIdle T (crdM T t)) (f : (ms0_7 T t).view.ty.Contents (Elt F)) :
    (ms0_7 T t).view.read (Elt F) ((ms0_7 T t).view.writes (Elt F) f (memRunIdle c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memNotBusy_of T (crdM T t) h)).1) = memOut V T hT c t := by
  rw [View.read_writes_eq_canon _ _ _ (memIdle_cover c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memNotBusy_of T (crdM T t) h))]; unfold memOut; rw [dif_pos h]

theorem memOut_busy (c : Dev nD) (t : Fin (cfgM T).N) (h : ¬ MemIdle T (crdM T t)) (f : (ms0_7 T t).view.ty.Contents (Elt F)) :
    (ms0_7 T t).view.read (Elt F) ((ms0_7 T t).view.writes (Elt F) f (memRunBusy c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memBusy_of T (crdM T t) h)).1) = memOut V T hT c t := by
  rw [View.read_writes_eq_canon _ _ _ (memBusy_cover c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memBusy_of T (crdM T t) h))]; unfold memOut; rw [dif_neg h]

/-- What rides along beside the body: the other half of the table and the scoped buffers that stage nothing here. -/
abbrev restM (c : Dev nD) : sProp 𝕄 :=
  iprop((tokM.view.loc (c : Thread nD τ) ↦{fullShare.left} T) ∗ Pipeline.scopedRest (Ix := Unit) (Name := ℕ) (U := UR sig nD τ × Counters) (Lvl := ℕ) (Val := Elt F) spec0 c)

/-- The proof data of the call: its inputs hold their blocks, its output what the body leaves; the body holds its share of the table. -/
def datM (c : Dev nD) : Dat τ (Elt F) Unit ℕ (UR sig nD τ × Counters) ℕ (cfgM T) c where
  A w := V c (Proc.devRef .tc (Pipeline.arrRef spec0 w))
  after w t := match w with
    | ⟨0, _⟩ => blkM V T c (0 : Fin 8) t
    | ⟨1, _⟩ => blkM V T c (1 : Fin 8) t
    | ⟨2, _⟩ => blkM V T c (2 : Fin 8) t
    | ⟨3, _⟩ => blkM V T c (3 : Fin 8) t
    | ⟨4, _⟩ => blkM V T c (4 : Fin 8) t
    | ⟨5, _⟩ => blkM V T c (5 : Fin 8) t
    | ⟨6, _⟩ => blkM V T c (6 : Fin 8) t
    | ⟨7, _⟩ => memOut V T hT c t
  Φ _ := iprop((tokM.view.loc (c : Thread nD τ) ↦{fullShare.right} T) ∗ restM T c)
  q _ := fullShare
  owed _ := 0

theorem datM_before0 (c : Dev nD) (t : Fin (cfgM T).N) (d) : (datM V T hT c).before (0 : Fin 8) t d = blkM V T c (0 : Fin 8) t :=
  ((datM V T hT c).before_in_eq_fetched (0 : Fin 8) rfl (fun _ => rfl) (fun _ _ _ => rfl) (fun t => by unfold Dat.blockOf; rfl) t d).trans
    (by unfold Dat.fetched Dat.blockOf blkM; rfl)
theorem datM_before1 (c : Dev nD) (t : Fin (cfgM T).N) (d) : (datM V T hT c).before (1 : Fin 8) t d = blkM V T c (1 : Fin 8) t :=
  ((datM V T hT c).before_in_eq_fetched (1 : Fin 8) rfl (fun _ => rfl) (fun _ _ _ => rfl) (fun t => by unfold Dat.blockOf; rfl) t d).trans
    (by unfold Dat.fetched Dat.blockOf blkM; rfl)
theorem datM_before2 (c : Dev nD) (t : Fin (cfgM T).N) (d) : (datM V T hT c).before (2 : Fin 8) t d = blkM V T c (2 : Fin 8) t :=
  ((datM V T hT c).before_in_eq_fetched (2 : Fin 8) rfl (fun _ => rfl) (fun _ _ _ => rfl) (fun t => by unfold Dat.blockOf; rfl) t d).trans
    (by unfold Dat.fetched Dat.blockOf blkM; rfl)
theorem datM_before3 (c : Dev nD) (t : Fin (cfgM T).N) (d) : (datM V T hT c).before (3 : Fin 8) t d = blkM V T c (3 : Fin 8) t :=
  ((datM V T hT c).before_in_eq_fetched (3 : Fin 8) rfl (fun _ => rfl) (fun _ _ _ => rfl) (fun t => by unfold Dat.blockOf; rfl) t d).trans
    (by unfold Dat.fetched Dat.blockOf blkM; rfl)
theorem datM_before4 (c : Dev nD) (t : Fin (cfgM T).N) (d) : (datM V T hT c).before (4 : Fin 8) t d = blkM V T c (4 : Fin 8) t :=
  ((datM V T hT c).before_in_eq_fetched (4 : Fin 8) rfl (fun _ => rfl) (fun _ _ _ => rfl) (fun t => by unfold Dat.blockOf; rfl) t d).trans
    (by unfold Dat.fetched Dat.blockOf blkM; rfl)
theorem datM_before5 (c : Dev nD) (t : Fin (cfgM T).N) (d) : (datM V T hT c).before (5 : Fin 8) t d = blkM V T c (5 : Fin 8) t :=
  ((datM V T hT c).before_in_eq_fetched (5 : Fin 8) rfl (fun _ => rfl) (fun _ _ _ => rfl) (fun t => by unfold Dat.blockOf; rfl) t d).trans
    (by unfold Dat.fetched Dat.blockOf blkM; rfl)
theorem datM_before6 (c : Dev nD) (t : Fin (cfgM T).N) (d) : (datM V T hT c).before (6 : Fin 8) t d = blkM V T c (6 : Fin 8) t :=
  ((datM V T hT c).before_in_eq_fetched (6 : Fin 8) rfl (fun _ => rfl) (fun _ _ _ => rfl) (fun t => by unfold Dat.blockOf; rfl) t d).trans
    (by unfold Dat.fetched Dat.blockOf blkM; rfl)

/-- The body at point `t`, as the pipeline calls it. -/
abbrev bodyM (t : Fin (cfgM T).N) : Prog (TpuEff nD τ sig (Elt F) Λ₀ .tc) PUnit :=
  cc0__mem_kernel (crdM T t) tokM (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t)

/-- The body's obligation at point `t`, the eight windows named. -/
theorem memBody (c : Dev nD) (t : Fin (cfgM T).N) :
    iprop((datM V T hT c).Φ t.castSucc ∗ (datM V T hT c).owesAt () t.castSucc
        ∗ (∃ d, owns (c : Thread nD τ) (ms0_0 T t) fullShare ((datM V T hT c).before (0 : Fin 8) t d))
        ∗ (∃ d, owns (c : Thread nD τ) (ms0_1 T t) fullShare ((datM V T hT c).before (1 : Fin 8) t d))
        ∗ (∃ d, owns (c : Thread nD τ) (ms0_2 T t) fullShare ((datM V T hT c).before (2 : Fin 8) t d))
        ∗ (∃ d, owns (c : Thread nD τ) (ms0_3 T t) fullShare ((datM V T hT c).before (3 : Fin 8) t d))
        ∗ (∃ d, owns (c : Thread nD τ) (ms0_4 T t) fullShare ((datM V T hT c).before (4 : Fin 8) t d))
        ∗ (∃ d, owns (c : Thread nD τ) (ms0_5 T t) fullShare ((datM V T hT c).before (5 : Fin 8) t d))
        ∗ (∃ d, owns (c : Thread nD τ) (ms0_6 T t) fullShare ((datM V T hT c).before (6 : Fin 8) t d))
        ∗ (∃ d, owns (c : Thread nD τ) (ms0_7 T t) fullShare ((datM V T hT c).before (7 : Fin 8) t d)))
      ⊢ wp frame (wpE (defs₀ (F := F)) Variants.none c none) Set.univ (bodyM T t) fun _ =>
          iprop((datM V T hT c).Φ t.succ ∗ (datM V T hT c).owesAt () t.succ
            ∗ owns (c : Thread nD τ) (ms0_0 T t) fullShare (blkM V T c (0 : Fin 8) t)
            ∗ owns (c : Thread nD τ) (ms0_1 T t) fullShare (blkM V T c (1 : Fin 8) t)
            ∗ owns (c : Thread nD τ) (ms0_2 T t) fullShare (blkM V T c (2 : Fin 8) t)
            ∗ owns (c : Thread nD τ) (ms0_3 T t) fullShare (blkM V T c (3 : Fin 8) t)
            ∗ owns (c : Thread nD τ) (ms0_4 T t) fullShare (blkM V T c (4 : Fin 8) t)
            ∗ owns (c : Thread nD τ) (ms0_5 T t) fullShare (blkM V T c (5 : Fin 8) t)
            ∗ owns (c : Thread nD τ) (ms0_6 T t) fullShare (blkM V T c (6 : Fin 8) t)
            ∗ owns (c : Thread nD τ) (ms0_7 T t) fullShare (memOut V T hT c t)) := by
  simp only [datM_before0, datM_before1, datM_before2, datM_before3, datM_before4, datM_before5, datM_before6]
  rewrite [show (datM V T hT c).Φ t.succ = iprop((tokM.view.loc (c : Thread nD τ) ↦{fullShare.right} T) ∗ restM T c) from rfl,
    show (datM V T hT c).Φ t.castSucc = iprop((tokM.view.loc (c : Thread nD τ) ↦{fullShare.right} T) ∗ restM T c) from rfl,
    show (datM V T hT c).owesAt () t.succ = (datM V T hT c).owesAt () t.castSucc from rfl]
  iintro ⟨⟨HT0, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : MemIdle T (crdM T t)
  · iapply (memRunIdle c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memNotBusy_of T (crdM T t) h)).2
    isplitl [H0 H1 H2 H3 H4 H5 H6 HT0]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      iexact HT0
    isplitl [H7]; · iexists _; iexact H7
    iintro ⟨⟨H0, H1, H2, H3, H4, H5, H6, HT0⟩, ⟨%e7, H7⟩⟩
    isplitl [HT0 HR]
    · isplitl [HT0]; · iexact HT0
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr
    · ipureintro
      exact memOut_idle V T hT c t h e7
    · iexact H7
  · iapply (memRunBusy c (crdM T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (memOk_of T hT (crdM T t)) h (memBusy_of T (crdM T t) h)).2
    isplitl [H0 H1 H2 H3 H4 H5 H6 HT0]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      iexact HT0
    isplitl [H7]; · iexists _; iexact H7
    iintro ⟨⟨H0, H1, H2, H3, H4, H5, H6, HT0⟩, ⟨%e7, H7⟩⟩
    isplitl [HT0 HR]
    · isplitl [HT0]; · iexact HT0
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    unfold owns; iexists _; isplitr
    · ipureintro
      exact memOut_busy V T hT c t h e7
    · iexact H7

/-- The body's obligation. -/
theorem memObligation (c : Dev nD) : BodyObligation (datM V T hT c) (defs₀ (F := F)) Variants.none () Set.univ := fun t => by
  rw [bigSep_W0, bigSep_W0]
  simp only [idleM]
  rw [idle0_false]
  exact memBody V T hT c t

end Cert.KernelIdeal.Gen

end
-- ==== Proof.MemOut.lean ====
/- What the first call leaves in a block, with and without tokens. -/
module

public import proofs.«01_k».proof.Proof.MemValue
public import proofs.«01_k».proof.Proof.MemRegion

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

set_option synthInstance.maxSize 4096 in
set_option synthInstance.maxHeartbeats 400000 in
/-- The first condition says that no word is at least zero. -/
theorem cond_words (a b c d e f g h : BitVec 32) (H : k0_cond1 a b c d e f g h = 1#1) :
    Scalar.cmpi .sge a 0#32 = 0#1 ∧ Scalar.cmpi .sge b 0#32 = 0#1 ∧ Scalar.cmpi .sge c 0#32 = 0#1 ∧ Scalar.cmpi .sge d 0#32 = 0#1
      ∧ Scalar.cmpi .sge e 0#32 = 0#1 ∧ Scalar.cmpi .sge f 0#32 = 0#1 ∧ Scalar.cmpi .sge g 0#32 = 0#1 ∧ Scalar.cmpi .sge h 0#32 = 0#1 := by
  revert H
  unfold k0_cond1
  dsimp only
  generalize Scalar.cmpi .sge a 0#32 = p1
  generalize Scalar.cmpi .sge b 0#32 = p2
  generalize Scalar.cmpi .sge c 0#32 = p3
  generalize Scalar.cmpi .sge d 0#32 = p4
  generalize Scalar.cmpi .sge e 0#32 = p5
  generalize Scalar.cmpi .sge f 0#32 = p6
  generalize Scalar.cmpi .sge g 0#32 = p7
  generalize Scalar.cmpi .sge h 0#32 = p8
  revert p1 p2 p3 p4 p5 p6 p7 p8
  decide +kernel

/-- A point whose tokens all miss has no flag set. -/
theorem idle_words (i : grid0.Coords) (T : S512.Idx → Elt Ideal .i32) (h : MemIdle T i) (r : Fin 8) : IntOp.cmpi CmpIPredicate.sge (tokAt T i r) 0#32 = 0#1 := by
  obtain ⟨h0, h1, h2, h3, h4, h5, h6, h7⟩ := cond_words _ _ _ _ _ _ _ _ h
  match r with
  | 0 => exact h0
  | 1 => exact h1
  | 2 => exact h2
  | 3 => exact h3
  | 4 => exact h4
  | 5 => exact h5
  | 6 => exact h6
  | 7 => exact h7

theorem flag_off (i : grid0.Coords) (T : S512.Idx → Elt Ideal .i32) (h : MemIdle T i) (r : Fin 8) : flag (tokAt T i r) = 0 := by
  unfold flag
  rw [idle_words i T h r]
  exact (by simp : (((0#32 : BitVec 32).toInt : ℝ) : EReal) = 0)

/-- A row with no token keeps its contents. -/
theorem memRowR_off (s : Fin 137216 → EReal) (u : Fin 2048 → EReal) (w : Fin 4 → Fin 2048 → EReal) (g b : Fin 8 → EReal) (j : Fin 137216) :
    memRowR s u w 0 (fun hh => 0 * g hh + (1 - 0)) (fun hh => b hh * 0) j = s j := by
  unfold memRowR
  split
  · unfold newR deltaR stateR
    simp only [zero_mul, mul_zero, zero_add, sub_zero, mul_one, add_zero]
    exact congrArg s (Fin.ext (by show 16384 * (j.val / 16384) + 128 * (j.val % 16384 / 128) + j.val % 128 = j.val; omega))
  · split <;> simp

theorem memIdle_value (c : Dev nD) (i : grid0.Coords)
  (arg2 : Memref sig .tc .vmem S8x137216 .f32) (harg2 : arg2.IsWhole) (arg3 : Memref sig .tc .vmem S128x2048 .f32) (harg3 : arg3.IsWhole)
  (arg4 : Memref sig .tc .vmem S128x8 .f32) (harg4 : arg4.IsWhole) (arg5 : Memref sig .tc .vmem S128x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x137216 .f32) (harg9 : arg9.IsWhole)
  (T : S512.Idx → Elt Ideal .i32) (x0 : S8x137216.Idx → Elt Ideal .f32) (x1 : S128x2048.Idx → Elt Ideal .f32) (x2 : S128x8.Idx → Elt Ideal .f32)
  (x3 : S128x8.Idx → Elt Ideal .f32) (x4 : S1x8.Idx → Elt Ideal .f32) (x5 : S1x8.Idx → Elt Ideal .f32) (x6 : S4x2048.Idx → Elt Ideal .f32)
  (hW : ∀ r, TokWord (tokAt T i r)) (hok : MemOk T i) (h1 : MemIdle T i) (h2 : ¬ MemBusy T i) (r : Fin 8) (j : Fin 137216) :
    View.canon (memRunIdle c i arg2 harg2 arg3 harg3 arg4 harg4 arg5 harg5 arg6 harg6 arg7 harg7 arg8 harg8 arg9 harg9 T x0 x1 x2 x3 x4 x5 x6 hok h1 h2).1 (ix2 r j)
      = memBlock i T x0 x1 x2 x3 x4 x5 x6 hW r j := by
  have e : memBlock i T x0 x1 x2 x3 x4 x5 x6 hW r j = x0 (ix2 r j) := by
    unfold memBlock
    rw [flag_off i T h1 r]
    exact memRowR_off _ _ _ _ _ j
  rw [e]
  refine View.canon_apply_of_pieces (fun y => x0 y) _ ?_ (ix2 r j)
    (memIdle_cover c i arg2 harg2 arg3 harg3 arg4 harg4 arg5 harg5 arg6 harg6 arg7 harg7 arg8 harg8 arg9 harg9 T x0 x1 x2 x3 x4 x5 x6 hok h1 h2 _)
  intro p hp
  replace hp : p ∈ [(⟨Rect.unit ![0,0] S8x137216.size _, View.readAt (Elt Ideal) arg2.view (Rect.unit ![0,0] S8x137216.size inb_S8x137216_S8x137216_0_0).toLoadRect (arg2.view.rep x0)⟩ : View.Piece (Elt Ideal) S8x137216 .f32)] := hp
  rw [List.mem_singleton] at hp
  subst hp
  intro x
  exact load_apply arg2.view x0 inb_S8x137216_S8x137216_0_0 x _ (fun a => by show (![0, 0] : Fin 2 → ℕ) a + 1 * (x a).val = (![0, 0] : Fin 2 → ℕ) a + (x a).val; rw [Nat.one_mul])

variable (V : Dev nD → Valuation τ sig (Elt Ideal)) (T : S512.Idx → Elt Ideal .i32) (hT : ∀ j, TokWord (T j))

theorem memOut_value (c : Dev nD) (t : Fin (cfgM T).N) (r : Fin 8) (j : Fin 137216) :
    memOut V T hT c t (ix2 r j) = memBlock (crdM T t) T (blkM V T c (0 : Fin 8) t) (blkM V T c (1 : Fin 8) t) (blkM V T c (2 : Fin 8) t) (blkM V T c (3 : Fin 8) t) (blkM V T c (4 : Fin 8) t) (blkM V T c (5 : Fin 8) t) (blkM V T c (6 : Fin 8) t) (fun r => tokWord_at T hT _ r) r j := by
  unfold memOut
  split
  · exact memIdle_value ..
  · exact memBusy_value ..

end Cert.KernelIdeal.Gen

end
-- ==== Proof.MemArr.lean ====
/- The first call's result as a whole array, on the exact numbers. -/
module

public import proofs.«01_k».proof.Proof.MemOut
public import Idealize.ShloMosaic.Lib.Pipeline.ValueKit.Geometry

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem row_block0 : ∀ t : Fin grid0.N, cc0_transform_0 (grid0.coords t) 0 = t.val := by decide +kernel
theorem row_block7 : ∀ t : Fin grid0.N, cc0_transform_7 (grid0.coords t) 0 = t.val := by decide +kernel

/-! ### The input blocks of the first call -/

section
variable (V : Dev nD → Valuation τ sig (Elt Ideal)) (T : S512.Idx → Elt Ideal .i32) (c : Dev nD) (t : Fin (cfgM T).N)

theorem rowM_lt (r : Fin 8) : 8 * t.val + r.val < 512 := by
  have h : t.val < 64 := lt_of_lt_of_eq t.isLt N_0
  omega

theorem blkM0 (r : Fin 8) (l : Fin 137216) : blkM V T c (0 : Fin 8) t (ix2 r l) = V c (Proc.devRef .tc main_arg3) (ix2 ⟨8 * t.val + r.val, rowM_lt T t r⟩ l) := by
  refine congrArg (V c (Proc.devRef .tc main_arg3)) (funext (two (Fin.ext ?_) (Fin.ext ?_)))
  · refine (((cfgM T).win (0 : Fin 8)).rect_emb_val t (ix2 r l) 0).trans ?_
    show cc0_transform_0 (grid0.coords t) 0 * 8 + r.val = 8 * t.val + r.val
    rw [row_block0 t, Nat.mul_comm]
  · refine (((cfgM T).win (0 : Fin 8)).rect_emb_val t (ix2 r l) 1).trans ?_
    show 0 * 137216 + l.val = l.val
    omega

theorem blkM1 (r : Fin 128) (l : Fin 2048) : blkM V T c (1 : Fin 8) t (ix2 r l) = V c (Proc.devRef .tc main_arg0) (ix2 r l) :=
  congrArg (V c (Proc.devRef .tc main_arg0)) (funext (two
    (Fin.ext ((((cfgM T).win (1 : Fin 8)).rect_emb_val t (ix2 r l) 0).trans (by show 0 * 128 + r.val = r.val; omega)))
    (Fin.ext ((((cfgM T).win (1 : Fin 8)).rect_emb_val t (ix2 r l) 1).trans (by show 0 * 2048 + l.val = l.val; omega)))))

theorem blkM2 (r : Fin 128) (l : Fin 8) : blkM V T c (2 : Fin 8) t (ix2 r l) = V c (Proc.devRef .tc main_arg1) (ix2 r l) :=
  congrArg (V c (Proc.devRef .tc main_arg1)) (funext (two
    (Fin.ext ((((cfgM T).win (2 : Fin 8)).rect_emb_val t (ix2 r l) 0).trans (by show 0 * 128 + r.val = r.val; omega)))
    (Fin.ext ((((cfgM T).win (2 : Fin 8)).rect_emb_val t (ix2 r l) 1).trans (by show 0 * 8 + l.val = l.val; omega)))))

theorem blkM3 (r : Fin 128) (l : Fin 8) : blkM V T c (3 : Fin 8) t (ix2 r l) = V c (Proc.devRef .tc main_arg2) (ix2 r l) :=
  congrArg (V c (Proc.devRef .tc main_arg2)) (funext (two
    (Fin.ext ((((cfgM T).win (3 : Fin 8)).rect_emb_val t (ix2 r l) 0).trans (by show 0 * 128 + r.val = r.val; omega)))
    (Fin.ext ((((cfgM T).win (3 : Fin 8)).rect_emb_val t (ix2 r l) 1).trans (by show 0 * 8 + l.val = l.val; omega)))))

theorem blkM4 (r : Fin 1) (l : Fin 8) : blkM V T c (4 : Fin 8) t (ix2 r l) = V c (Proc.devRef .tc main_v1) (ix2 r l) :=
  congrArg (V c (Proc.devRef .tc main_v1)) (funext (two
    (Fin.ext ((((cfgM T).win (4 : Fin 8)).rect_emb_val t (ix2 r l) 0).trans (by show 0 * 1 + r.val = r.val; omega)))
    (Fin.ext ((((cfgM T).win (4 : Fin 8)).rect_emb_val t (ix2 r l) 1).trans (by show 0 * 8 + l.val = l.val; omega)))))

theorem blkM5 (r : Fin 1) (l : Fin 8) : blkM V T c (5 : Fin 8) t (ix2 r l) = V c (Proc.devRef .tc main_v2) (ix2 r l) :=
  congrArg (V c (Proc.devRef .tc main_v2)) (funext (two
    (Fin.ext ((((cfgM T).win (5 : Fin 8)).rect_emb_val t (ix2 r l) 0).trans (by show 0 * 1 + r.val = r.val; omega)))
    (Fin.ext ((((cfgM T).win (5 : Fin 8)).rect_emb_val t (ix2 r l) 1).trans (by show 0 * 8 + l.val = l.val; omega)))))

theorem blkM6 (r : Fin 4) (l : Fin 2048) : blkM V T c (6 : Fin 8) t (ix2 r l) = V c (Proc.devRef .tc main_v0) (ix2 r l) :=
  congrArg (V c (Proc.devRef .tc main_v0)) (funext (two
    (Fin.ext ((((cfgM T).win (6 : Fin 8)).rect_emb_val t (ix2 r l) 0).trans (by show 0 * 4 + r.val = r.val; omega)))
    (Fin.ext ((((cfgM T).win (6 : Fin 8)).rect_emb_val t (ix2 r l) 1).trans (by show 0 * 2048 + l.val = l.val; omega)))))

theorem tok_place : ∀ (i : grid0.Coords) (r : Fin 8), k0_off1 i (BitVec.ofNat 32 r.val) 0 = 8 * (i 0).val + r.val := by decide +kernel
theorem crdM_val : ∀ t : Fin grid0.N, ((grid0.coords t) 0).val = t.val := by decide +kernel

theorem tokAt_eq (r : Fin 8) : tokAt T (crdM T t) r = T (Idealize.ShloMosaic.ix1 (n0 := 512) ⟨8 * t.val + r.val, rowM_lt T t r⟩) := by
  refine congrArg T (funext fun a => match a with | 0 => Fin.ext ?_)
  show k0_off1 (crdM T t) (BitVec.ofNat 32 r.val) 0 + 1 * 0 = 8 * t.val + r.val
  rw [tok_place, Nat.mul_zero, Nat.add_zero]
  exact congrArg (8 * · + r.val) (crdM_val t)
end

/-! ### The first call's result -/

/-- Row `n` of the new memory at column `j`, from the arrays and the table's word for that row. -/
def memVal (A0 : S128x2048.Idx → EReal) (A1 A2 : S128x8.Idx → EReal) (A3 : S512x137216.Idx → EReal) (cw : Fin 4 → Fin 2048 → EReal)
    (dtb al : Fin 8 → EReal) (w : BitVec 32) (hw : TokWord w) (n : Fin 512) (j : Fin 137216) : EReal :=
  memRowR (fun l => A3 (ix2 n l)) (fun l => A0 (ix2 ⟨rowNo w, rowNo_lt hw⟩ l)) cw (flag w)
    (fun hh => flag w * Ideal.exp (gateR (A2 (ix2 ⟨rowNo w, rowNo_lt hw⟩ hh)) (dtb hh) (al hh)) + (1 - flag w))
    (fun hh => sigR (A1 (ix2 ⟨rowNo w, rowNo_lt hw⟩ hh)) * flag w) j

theorem memVal_word (A0 : S128x2048.Idx → EReal) (A1 A2 : S128x8.Idx → EReal) (A3 : S512x137216.Idx → EReal) (cw : Fin 4 → Fin 2048 → EReal)
    (dtb al : Fin 8 → EReal) {w w' : BitVec 32} (e : w = w') (hw : TokWord w) (hw' : TokWord w') (n : Fin 512) (j : Fin 137216) :
    memVal A0 A1 A2 A3 cw dtb al w hw n j = memVal A0 A1 A2 A3 cw dtb al w' hw' n j := by
  subst e; rfl

section
variable (V : Dev nD → Valuation τ sig (Elt Ideal)) (T : S512.Idx → Elt Ideal .i32) (hT : ∀ j, TokWord (T j)) (c : Dev nD)

theorem memOut_eq (t : Fin (cfgM T).N) (r : Fin 8) (j : Fin 137216) :
    memOut V T hT c t (ix2 r j) = memVal (V c (Proc.devRef .tc main_arg0)) (V c (Proc.devRef .tc main_arg1)) (V c (Proc.devRef .tc main_arg2)) (V c (Proc.devRef .tc main_arg3))
      (fun k l => V c (Proc.devRef .tc main_v0) (ix2 k l)) (fun hh => V c (Proc.devRef .tc main_v1) (ix2 0 hh)) (fun hh => V c (Proc.devRef .tc main_v2) (ix2 0 hh))
      (T (Idealize.ShloMosaic.ix1 (n0 := 512) ⟨8 * t.val + r.val, rowM_lt T t r⟩)) (hT _) ⟨8 * t.val + r.val, rowM_lt T t r⟩ j := by
  rw [memOut_value, memVal_word _ _ _ _ _ _ _ (tokAt_eq T t r).symm (hT _) (tokWord_at T hT _ r)]
  unfold memBlock memVal tokRow
  simp only [blkM0, blkM1, blkM2, blkM3, blkM4, blkM5, blkM6]

theorem memPlace (t : Fin (cfgM T).N) (r : Fin 8) (j : Fin 137216) :
    (((cfgM T).win (7 : Fin 8)).blk t).view.emb (ix2 r j) = (ix2 ⟨8 * t.val + r.val, rowM_lt T t r⟩ j : S512x137216.Idx) := by
  refine funext (two (Fin.ext ?_) (Fin.ext ?_))
  · refine (((cfgM T).win (7 : Fin 8)).rect_emb_val t (ix2 r j) 0).trans ?_
    show cc0_transform_7 (grid0.coords t) 0 * 8 + r.val = 8 * t.val + r.val
    rw [row_block7 t, Nat.mul_comm]
  · refine (((cfgM T).win (7 : Fin 8)).rect_emb_val t (ix2 r j) 1).trans ?_
    show 0 * 137216 + j.val = j.val
    omega

/-- Every point writes its block back: the block index is the point's number. -/
theorem memFlush (t : Fin (cfgM T).N) : ((cfgM T).win (7 : Fin 8)).flush t = true := by
  unfold Pipeline.Window.flush
  refine Bool.and_eq_true_iff.2 ⟨rfl, Bool.or_eq_true_iff.2 ?_⟩
  by_cases h : t.val + 1 < grid0.N
  · refine .inr (decide_eq_true ⟨h, fun e => ?_⟩)
    have e0 : cc0_transform_7 (grid0.coords ⟨t.val + 1, h⟩) 0 = cc0_transform_7 (grid0.coords t) 0 := congrFun e 0
    rw [row_block7, row_block7 t] at e0
    exact Nat.succ_ne_self _ e0
  · have h' : t.val < grid0.N := t.isLt
    exact .inl (decide_eq_true (by show t.val + 1 = grid0.N; omega))

theorem memArr_eq : (datM V T hT c).arrAt (7 : Fin 8) (cfgM T).N
    = fun y : S512x137216.Idx => memVal (V c (Proc.devRef .tc main_arg0)) (V c (Proc.devRef .tc main_arg1)) (V c (Proc.devRef .tc main_arg2)) (V c (Proc.devRef .tc main_arg3))
      (fun k l => V c (Proc.devRef .tc main_v0) (ix2 k l)) (fun hh => V c (Proc.devRef .tc main_v1) (ix2 0 hh)) (fun hh => V c (Proc.devRef .tc main_v2) (ix2 0 hh))
      (T (Idealize.ShloMosaic.ix1 (n0 := 512) (y 0))) (hT _) (y 0) (y 1) := by
  refine (datM V T hT c).arrAt_eq_of_emb (7 : Fin 8) _ (fun t hf y => ?_) (fun i => ?_)
  · obtain ⟨r, j, rfl⟩ : ∃ (r : Fin 8) (j : Fin 137216), y = ix2 r j := ⟨y 0, y 1, funext (two rfl rfl)⟩
    rw [memPlace]
    exact memOut_eq V T hT c t r j
  · obtain ⟨n, j, rfl⟩ : ∃ (n : Fin 512) (j : Fin 137216), i = ix2 n j := ⟨i 0, i 1, funext (two rfl rfl)⟩
    refine ⟨⟨n.val / 8, lt_of_lt_of_eq (by omega : n.val / 8 < 64) N_0.symm⟩, memFlush T _, ?_⟩
    have e := memPlace T ⟨n.val / 8, lt_of_lt_of_eq (by omega : n.val / 8 < 64) N_0.symm⟩ ⟨n.val % 8, by omega⟩ j
    have en : (⟨8 * (n.val / 8) + n.val % 8, by omega⟩ : Fin 512) = n := Fin.ext (by show 8 * (n.val / 8) + n.val % 8 = n.val; omega)
    have e' := e.trans (congrArg (fun n => (ix2 n j : S512x137216.Idx)) en)
    exact e' ▸ View.emb_mem_set _ _
end

end Cert.KernelIdeal.Gen

end
-- ==== Proof.Regs.lean ====
/- The program's run: its two calls as regions between the host operations. -/
module

public import proofs.«01_k».proof.Proof.Gen.KernelIdeal.Regions
public import proofs.«01_k».proof.Proof.MemRegion
public import proofs.«01_k».proof.Proof.ORegion
public import Idealize.ShloMosaic.Lib.Pipeline.FrameTail

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × Counters) ℕ

/-- No core owes another anything: no level is assigned. -/
abbrev noL : GSem nD τ sig → Finset Unit := fun _ => ∅
abbrev noLv : GSem nD τ sig → Unit → ℕ := fun _ _ => 0

/-- What rides beside the buffers: the core's account of what it owes. -/
abbrev owing (c : Dev nD) : sProp 𝕄 := iprop(∃ W, owes (c : Thread nD τ) (0 : CellTallies nD τ sig Unit) W)

section Region

variable (a : (p : Fin 2) → (pcfgs (F := F) p).Adm)
  (pdats : (p : Fin 2) → (c : Dev nD) → Dat τ (Elt F) Unit ℕ (UR sig nD τ × Counters) ℕ (Pipeline.pin (pcfgs (F := F)) a p) c)

set_option backward.isDefEq.respectTransparency.types false in
/-- A call as a region over all the unscoped buffers: it takes its arrays, its tables and the buffers `B` its body reads by itself out of
    them, and leaves them at what the pipeline computes. -/
def regionOf (p : Fin 2) (kit : Pipeline.PLaunchFacts (nD := nD) (τ := τ) (pcfgs (F := F)) p) {K : Type} [Fintype K] (osem : K → SemLoc sig)
    (ho : Pipeline.OwnSemFacts (pcfgs (F := F) p).spec osem)
    (hbody : ∀ c, BodyObligationLoose (pdats p c) defs₀ Variants.none () Set.univ)
    (howed : ∀ c t, (pdats p c).owed t = 0) (hrec : ∀ c, (pdats p c).recorded 0 = Set.univ)
    (hshare : ∀ c w, (pdats p c).share w = fullShare)
    (B : Finset (DevRef τ sig))
    (hB : B ⊆ (Pipeline.ucRefs τ sig \ Pipeline.arrRefs (pcfgs (F := F) p).spec) \ Pipeline.tblRefs (pcfgs (F := F) p).pre)
    (W : Dev nD → Valuation τ sig (Elt F))
    (hW : ∀ c w, (pdats p c).arrAt w 0 = W c (Proc.devRef .tc (Pipeline.arrRef (pcfgs (F := F) p).spec w)))
    (hT : ∀ c k, (a p).1 k = W c (Proc.devRef .tc ((pcfgs (F := F) p).pre.ref k)))
    (hin : ∀ c : Dev nD, iprop((StableHlo.held (c : Thread nD τ) B (W c) ∗ Pipeline.ownSems0 osem c) ∗ Pipeline.tablesAt (pcfgs (F := F)) a p c
      ∗ Pipeline.scopedRest (pcfgs (F := F) p).spec c) ⊢ (pdats p c).Φ 0)
    (hout : ∀ c : Dev nD, (pdats p c).Φ (Fin.last (Pipeline.pin (pcfgs (F := F)) a p).N)
      ⊢ iprop((StableHlo.held (c : Thread nD τ) B (W c) ∗ Pipeline.tablesAt (pcfgs (F := F)) a p c) ∗ Pipeline.ownSems0 osem c
        ∗ Pipeline.scopedRest (pcfgs (F := F) p).spec c)) :
    Pipeline.RegionSeg (pcfgs (F := F)) a pdats () defs₀ Variants.none noL noLv p where
  win := kit.win.to₀
  block_pos := kit.block_pos
  stage_whole := kit.stage_whole
  K := K
  osem := osem
  ho := ho
  hbody := hbody
  hwaits := Pipeline.hwaits_of_owed_zero _ _ _ _ noL noLv p howed
  pre c := iprop(StableHlo.held (c : Thread nD τ) (Pipeline.ucRefs τ sig) (W c) ∗ owing c)
  post c := iprop(StableHlo.held (c : Thread nD τ) (Pipeline.ucRefs τ sig) (Pipeline.afterRegion (pdats p c) (W c)) ∗ owing c)
  X c := iprop(StableHlo.held (c : Thread nD τ) B (W c) ∗ Pipeline.ownSems0 osem c)
  Y c := iprop(StableHlo.held (c : Thread nD τ) B (W c) ∗ Pipeline.tablesAt (pcfgs (F := F)) a p c)
  Z c := StableHlo.held (c : Thread nD τ) (((Pipeline.ucRefs τ sig \ Pipeline.arrRefs (pcfgs (F := F) p).spec) \ Pipeline.tblRefs (pcfgs (F := F) p).pre) \ B) (W c)
  hentry c := by
    rw [StableHlo.held_sub_split (c : Thread nD τ) (Pipeline.arrRefs_sub_ucRefs (pcfgs (F := F) p).spec kit.win.arr_unscoped) (W c),
      StableHlo.held_sub_split (c : Thread nD τ) (Pipeline.tblRefs_sub_ucRefs_sdiff (pcfgs (F := F) p).spec (pcfgs (F := F) p).pre kit.pre.unscoped kit.pre.disj) (W c),
      StableHlo.held_sub_split (c : Thread nD τ) hB (W c),
      ← Pipeline.arrays_held (pcfgs (F := F)) a pdats p kit c (hshare c) ((pdats p c).arrAt · 0) (W c) (hW c),
      ← Pipeline.prefHeld_held (pcfgs (F := F) p).pre kit.pre.inj c (a p).1 (W c) (hT c)]
    iintro ⟨⟨⟨Ha, Ht, HB, HZ⟩, HO⟩, Hos, -⟩
    imodintro
    isplitl [Ha]; · iexact Ha
    isplitl [Ht]; · iexact Ht
    isplitl [HO]
    · unfold Dat.owesAt Pipeline.owesWithin Dat.bound
      rw [howed c 0, hrec c]
      icases HO with ⟨%W', HO⟩; iexists W'; isplitr; · ipureintro; exact fun _ _ => Or.inl trivial
      iexact HO
    isplitl [HB Hos]
    · isplitl [HB]; · iexact HB
      iexact Hos
    iexact HZ
  hin c := hin c
  hout c := hout c
  hexit c := by
    rw [StableHlo.held_sub_split (c : Thread nD τ) (Pipeline.arrRefs_sub_ucRefs (pcfgs (F := F) p).spec kit.win.arr_unscoped) (Pipeline.afterRegion (pdats p c) (W c)),
      ← Pipeline.arrays_held (pcfgs (F := F)) a pdats p kit c (hshare c) ((pdats p c).arrAt · (Pipeline.pin (pcfgs (F := F)) a p).N) (Pipeline.afterRegion (pdats p c) (W c))
        (fun w => (Pipeline.afterRegion_arr (pdats p c) (W c) kit.win.arr_inj w).symm),
      StableHlo.held_congr (c : Thread nD τ) (Pipeline.afterRegion_off (pdats p c) (W c) (Pipeline.ucRefs τ sig)),
      StableHlo.held_sub_split (c : Thread nD τ) (Pipeline.tblRefs_sub_ucRefs_sdiff (pcfgs (F := F) p).spec (pcfgs (F := F) p).pre kit.pre.unscoped kit.pre.disj) (W c),
      StableHlo.held_sub_split (c : Thread nD τ) hB (W c),
      ← Pipeline.prefHeld_held (pcfgs (F := F) p).pre kit.pre.inj c (a p).1 (W c) (hT c)]
    iintro ⟨Ha, HO, ⟨HB, Ht⟩, HZ⟩
    imodintro
    isplitr [HO]
    · isplitl [Ha]; · iexact Ha
      isplitl [Ht]; · iexact Ht
      isplitl [HB]; · iexact HB
      iexact HZ
    · unfold Dat.owesAt Pipeline.owesWithin
      rw [howed c (Fin.last _)]
      icases HO with ⟨%W', -, HO⟩; iexists W'; iexact HO

end Region

/-! What the two invariants take at the first point and give back at the last. -/

theorem halves0 (c : Dev nD) (T : S512.Idx → Elt F .i32) :
    (tokM.view.loc (c : Thread nD τ) ↦{fullShare} T : sProp 𝕄)
      ⊣⊢ iprop((tokM.view.loc (c : Thread nD τ) ↦{fullShare.left} T) ∗ (tokM.view.loc (c : Thread nD τ) ↦{fullShare.right} T)) :=
  pointsTo_share (PosShare.mem_left_op_right fullShare)

theorem table0_eq (c : Dev nD) (T : S512.Idx → Elt F .i32) :
    (Pipeline.prefHeld pre0 c (fun _ => fullShare) (tab0 T).1 : sProp 𝕄) = iprop(tokM.view.loc (c : Thread nD τ) ↦{fullShare} T) := by
  unfold Pipeline.prefHeld
  rw [show (Finset.univ : Finset (Fin 1)) = {(0 : Fin 1)} from by decide, bigSep_singleton]
  rfl

theorem halves1 (c : Dev nD) (T : S128.Idx → Elt F .i32) :
    (idxM.view.loc (c : Thread nD τ) ↦{fullShare} T : sProp 𝕄)
      ⊣⊢ iprop((idxM.view.loc (c : Thread nD τ) ↦{fullShare.left} T) ∗ (idxM.view.loc (c : Thread nD τ) ↦{fullShare.right} T)) :=
  pointsTo_share (PosShare.mem_left_op_right fullShare)

theorem table1_eq (c : Dev nD) (T : S128.Idx → Elt F .i32) :
    (Pipeline.prefHeld pre1 c (fun _ => fullShare) (tab1 T).1 : sProp 𝕄) = iprop(idxM.view.loc (c : Thread nD τ) ↦{fullShare} T) := by
  unfold Pipeline.prefHeld
  rw [show (Finset.univ : Finset (Fin 1)) = {(0 : Fin 1)} from by decide, bigSep_singleton]
  rfl

/-- The buffer the second call's body copies out of by itself. -/
abbrev kvSet : Finset (DevRef τ sig) := {Proc.devRef .tc main_arg3}

theorem kvHeld_eq (c : Dev nD) (W : Valuation τ sig (Elt F)) :
    (StableHlo.held (c : Thread nD τ) kvSet W : sProp 𝕄) = iprop(kvM.view.loc (c : Thread nD τ) ↦{fullShare} W (Proc.devRef .tc main_arg3)) := by
  unfold StableHlo.held
  rw [bigSep_singleton]

theorem sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- That buffer's contents held whole are what is left after sixteen read shares, and the shares. -/
theorem kvShares (c : Dev nD) (KV : S512x137216.Idx → Elt F .f32) :
    (kvM.view.loc (c : Thread nD τ) ↦{fullShare} KV : sProp 𝕄)
      ⊣⊢ iprop((kvM.view.loc (c : Thread nD τ) ↦{Transfers.shareDrop fullShare 16} KV)
        ∗ eight (fun r => kvTok c (qA r) KV) ∗ eight (fun r => kvTok c (qB r) KV)) := by
  have h := Transfers.pointsTo_toks (ℓ := kvM.view.loc (c : Thread nD τ)) (S := Finset.univ) (f := KV) (Ix := Unit) (Name := ℕ) (U := UR sig nD τ × Counters) (Lvl := ℕ) fullShare 16
  rw [sixteen] at h
  constructor
  · refine h.1.trans ?_
    iintro ⟨HD, H0, H1, H2, H3, H4, H5, H6, H7, HB⟩
    isplitl [HD]; · iexact HD
    isplitr [HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HB
  · refine BIBase.Entails.trans ?_ h.2
    iintro ⟨HD, ⟨H0, H1, H2, H3, H4, H5, H6, H7⟩, HB⟩
    isplitl [HD]; · iexact HD
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HB

/-- The sixteen cells of the second call's own copies. -/
def ownCells (k : Fin 16) : SemLoc sig :=
  if h : k.val < 8 then .dma (semR cc1_scratch2 ⟨k.val, h⟩) else .dma (semR cc1_scratch3 ⟨k.val - 8, by have := k.isLt; omega⟩)

theorem ownCells_facts : Pipeline.OwnSemFacts spec1 ownCells := by decide

theorem ownCells_split (c : Dev nD) :
    (Pipeline.ownSems0 ownCells c : sProp 𝕄) ⊣⊢ iprop(eight (fun r => cellIdle c cc1_scratch2 r) ∗ eight (fun r => cellIdle c cc1_scratch3 r)) := by
  unfold Pipeline.ownSems0
  rw [sixteen]
  constructor
  · iintro ⟨H0, H1, H2, H3, H4, H5, H6, H7, HB⟩
    isplitr [HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HB
  · iintro ⟨⟨H0, H1, H2, H3, H4, H5, H6, H7⟩, HB⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HB

theorem in0 (V : Dev nD → Valuation τ sig (Elt F)) (T : S512.Idx → Elt F .i32) (hT : ∀ j, TokWord (T j)) (W : Valuation τ sig (Elt F)) (c : Dev nD) :
    iprop((StableHlo.held (c : Thread nD τ) ∅ W ∗ Pipeline.ownSems0 (fun k : PEmpty => k.elim) c)
      ∗ Pipeline.prefHeld pre0 c (fun _ => fullShare) (tab0 T).1 ∗ Pipeline.scopedRest spec0 c) ⊢ (datM V T hT c).Φ 0 := by
  rw [table0_eq, show (datM V T hT c).Φ 0 = iprop((tokM.view.loc (c : Thread nD τ) ↦{fullShare.right} T) ∗ restM T c) from rfl]
  iintro ⟨-, HT, HR⟩
  ihave H := (halves0 c T).1 $$ HT
  icases H with ⟨HL, HT⟩
  isplitl [HT]; · iexact HT
  isplitl [HL]; · iexact HL
  iexact HR

theorem out0 (V : Dev nD → Valuation τ sig (Elt F)) (T : S512.Idx → Elt F .i32) (hT : ∀ j, TokWord (T j)) (W : Valuation τ sig (Elt F)) (c : Dev nD) :
    (datM V T hT c).Φ (Fin.last (cfgM T).N) ⊢ iprop((StableHlo.held (c : Thread nD τ) ∅ W ∗ Pipeline.prefHeld pre0 c (fun _ => fullShare) (tab0 T).1)
      ∗ Pipeline.ownSems0 (fun k : PEmpty => k.elim) c ∗ Pipeline.scopedRest spec0 c) := by
  rw [table0_eq, Pipeline.ownSems0_none, show (datM V T hT c).Φ (Fin.last (cfgM T).N) = iprop((tokM.view.loc (c : Thread nD τ) ↦{fullShare.right} T) ∗ restM T c) from rfl,
    show StableHlo.held (c : Thread nD τ) ∅ W = (BI.emp : sProp 𝕄) from bigSep_empty]
  iintro ⟨HT, HL, HR⟩
  isplitl [HT HL]
  · isplitr; · iempintro
    iapply (halves0 c T).2
    isplitl [HL]; · iexact HL
    iexact HT
  isplitr; · iempintro
  iexact HR

theorem in1 (V : Dev nD → Valuation τ sig (Elt F)) (T : S128.Idx → Elt F .i32) (hT : ∀ j, (T j).toNat < 512) (c : Dev nD) :
    iprop((StableHlo.held (c : Thread nD τ) kvSet (V c) ∗ Pipeline.ownSems0 ownCells c)
      ∗ Pipeline.prefHeld pre1 c (fun _ => fullShare) (tab1 T).1 ∗ Pipeline.scopedRest spec1 c) ⊢ (datO V T hT c).Φ 0 := by
  rw [table1_eq, kvHeld_eq, scopedRest1_eq, show (datO V T hT c).Φ 0 = iprop((idxM.view.loc (c : Thread nD τ) ↦{fullShare.right} T) ∗ copies c T (kvO V c) 0 ∗ restO V T c) from rfl,
    copies_none T c (kvO V c) (Or.inl rfl)]
  iintro ⟨⟨HK, Hs⟩, HT, S0, S1, S2, S3, S4, S5, S6, S7, S8, S9, SA, SB⟩
  ihave H := (halves1 c T).1 $$ HT
  icases H with ⟨HL, HT⟩
  ihave H := (kvShares c (kvO V c)).1 $$ HK
  icases H with ⟨HD, KA, KB⟩
  ihave H := (ownCells_split c).1 $$ Hs
  icases H with ⟨CA, CB⟩
  isplitl [HT]; · iexact HT
  isplitl [KA KB CA CB SA SB]
  · isplitl [SA KA CA]
    · isplitl [SA]; · iexact SA
      isplitl [KA]; · iexact KA
      iexact CA
    · isplitl [SB]; · iexact SB
      isplitl [KB]; · iexact KB
      iexact CB
  isplitl [HL]; · iexact HL
  isplitl [HD]; · iexact HD
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

theorem out1 (V : Dev nD → Valuation τ sig (Elt F)) (T : S128.Idx → Elt F .i32) (hT : ∀ j, (T j).toNat < 512) (c : Dev nD) :
    (datO V T hT c).Φ (Fin.last (cfgO T).N) ⊢ iprop((StableHlo.held (c : Thread nD τ) kvSet (V c) ∗ Pipeline.prefHeld pre1 c (fun _ => fullShare) (tab1 T).1)
      ∗ Pipeline.ownSems0 ownCells c ∗ Pipeline.scopedRest spec1 c) := by
  rw [table1_eq, kvHeld_eq, scopedRest1_eq, show (datO V T hT c).Φ (Fin.last (cfgO T).N) = iprop((idxM.view.loc (c : Thread nD τ) ↦{fullShare.right} T) ∗ copies c T (kvO V c) (cfgO T).N ∗ restO V T c) from rfl,
    copies_none T c (kvO V c) (Or.inr (le_of_eq N_1.symm))]
  iintro ⟨HT, ⟨⟨SA, KA, CA⟩, ⟨SB, KB, CB⟩⟩, HL, HD, S0, S1, S2, S3, S4, S5, S6, S7, S8, S9⟩
  isplitl [HT HL HD KA KB]
  · isplitl [HD KA KB]
    · iapply (kvShares c (kvO V c)).2
      isplitl [HD]; · iexact HD
      isplitl [KA]; · iexact KA
      iexact KB
    · iapply (halves1 c T).2
      isplitl [HL]; · iexact HL
      iexact HT
  isplitl [CA CB]
  · iapply (ownCells_split c).2
    isplitl [CA]; · iexact CA
    iexact CB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [SA]; · iexact SA
  iexact SB

end Cert.KernelIdeal.Gen

end
-- ==== Proof.Run.lean ====
/- The whole program's run, at any float values: what every buffer holds at the end. -/
module

public import proofs.«01_k».proof.Proof.Regs

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × Counters) ℕ

variable (m : (ℓ : Loc nD τ sig) → Buf (Elt F) ℓ)

/-- The first call's table, as the host operations leave it. -/
abbrev tokTable : S512.Idx → Elt F .i32 := V1 m 0 (Proc.devRef .tc main_v11)
/-- The second call's table: the block of every token. -/
abbrev blkTable : S128.Idx → Elt F .i32 := V1 m 0 (Proc.devRef .tc main_arg7)

variable (h0 : ∀ j, TokWord (tokTable m j)) (h1 : ∀ j, (blkTable m j).toNat < 512)

/-- What the first call leaves in its output array. -/
def memResult (c : Dev nD) : S512x137216.Idx → Elt F .f32 := (datM (V1 m) (tokTable m) h0 c).arrAt (7 : Fin 8) (cfgM (tokTable m)).N

/-- The buffers between the two calls. -/
def mid (c : Dev nD) : Valuation τ sig (Elt F) := Function.update (V1 m c) (Proc.devRef .tc main_v12) (memResult m h0 c)

/-- What the second call leaves in its output array. -/
def oResult (c : Dev nD) : S128x1024.Idx → Elt F .f32 := (datO (mid m h0) (blkTable m) h1 c).arrAt (6 : Fin 7) (cfgO (blkTable m)).N

/-- The two calls' outputs, as the launch theorem indexes them. -/
def results : Outs (F := F) := fun n r c =>
  if n = 2 then mid m h0 c (Proc.devRef .tc r)
  else Function.update (mid m h0 c) (Proc.devRef .tc main_v13) (oResult m h0 h1 c) (Proc.devRef .tc r)

theorem results_mem (c : Dev nD) : results m h0 h1 2 main_v12 c = memResult m h0 c := by
  unfold results mid; rw [if_pos rfl]; exact Function.update_self _ _ _
theorem results_o (c : Dev nD) : results m h0 h1 3 main_v13 c = oResult m h0 h1 c := by
  unfold results; rw [if_neg (by decide)]; exact Function.update_self _ _ _
theorem V2_results (c : Dev nD) : V2 m (results m h0 h1) c = mid m h0 c := by
  unfold mid; rw [← results_mem m h0 h1 c]

/-- The tables of the two calls. -/
def tabs : (p : Fin 2) → (pcfgs (F := F) p).Adm
  | ⟨0, _⟩ => tab0 (tokTable m)
  | ⟨1, _⟩ => tab1 (blkTable m)

/-- The proof data of the two calls. -/
def pdat : (p : Fin 2) → (c : Dev nD) → Dat τ (Elt F) Unit ℕ (UR sig nD τ × Counters) ℕ (Pipeline.pin (pcfgs (F := F)) (tabs m) p) c
  | ⟨0, _⟩ => fun c => datM (V1 m) (tokTable m) h0 c
  | ⟨1, _⟩ => fun c => datO (mid m h0) (blkTable m) h1 c

theorem dev_eq (c : Dev nD) : c = 0 := Subsingleton.elim (α := Fin 1) _ _

theorem tab0_at (A : Valuation τ sig (Elt F)) (k : Fin 1) : (tab0 (A (Proc.devRef .tc main_v11))).1 k = A (Proc.devRef .tc (pre0.ref k)) :=
  match k with
  | ⟨0, _⟩ => rfl

theorem tab1_at (A : Valuation τ sig (Elt F)) (k : Fin 1) : (tab1 (A (Proc.devRef .tc main_arg7))).1 k = A (Proc.devRef .tc (pre1.ref k)) :=
  match k with
  | ⟨0, _⟩ => rfl

theorem mid_arg7 (c : Dev nD) : mid m h0 c (Proc.devRef .tc main_arg7) = V1 m c (Proc.devRef .tc main_arg7) := by
  unfold mid
  have e : Proc.devRef (τ := τ) .tc main_arg7 ≠ Proc.devRef .tc main_v12 := fun e => absurd (Proc.devRef_injective _ e) (by decide)
  rw [Function.update_of_ne e]

theorem tab0_read (c : Dev nD) (k : Fin 1) : (tab0 (tokTable m)).1 k = V1 m c (Proc.devRef .tc (pre0.ref k)) := by
  rw [dev_eq c]; exact tab0_at (V1 m 0) k

theorem tab1_read (c : Dev nD) (k : Fin 1) : (tab1 (blkTable m)).1 k = mid m h0 c (Proc.devRef .tc (pre1.ref k)) := by
  rw [dev_eq c, ← tab1_at (mid m h0 0) k, mid_arg7]

theorem share0 (c : Dev nD) (w : Fin 8) : (datM (V1 m) (tokTable m) h0 c).share w = fullShare := by unfold Dat.share; split <;> rfl
theorem share1 (c : Dev nD) (w : Fin 7) : (datO (mid m h0) (blkTable m) h1 c).share w = fullShare := by unfold Dat.share; split <;> rfl

set_option backward.isDefEq.respectTransparency.types false in
/-- The first call's region. -/
def reg0 : Pipeline.RegionSeg (pcfgs (F := F)) (tabs m) (pdat m h0 h1) () defs₀ Variants.none noL noLv 0 :=
  regionOf (tabs m) (pdat m h0 h1) 0 launch0 (fun k : PEmpty => k.elim) (Pipeline.OwnSemFacts.none _)
    (fun c => (memObligation (V1 m) (tokTable m) h0 c).loose) (fun _ _ => rfl) (fun _ => rfl) (share0 m h0)
    ∅ (Finset.empty_subset _) (V1 m) (fun _ _ => rfl) (tab0_read m)
    (fun c => in0 (V1 m) (tokTable m) h0 (V1 m c) c) (fun c => out0 (V1 m) (tokTable m) h0 (V1 m c) c)

set_option backward.isDefEq.respectTransparency.types false in
/-- The second call's region. -/
def reg1 : Pipeline.RegionSeg (pcfgs (F := F)) (tabs m) (pdat m h0 h1) () defs₀ Variants.none noL noLv 1 :=
  regionOf (tabs m) (pdat m h0 h1) 1 launch1 ownCells ownCells_facts
    (fun c => (oObligation (mid m h0) (blkTable m) h1 c).loose) (fun _ _ => rfl) (fun _ => rfl) (share1 m h0 h1)
    kvSet (show kvSet ⊆ (Pipeline.ucRefs τ sig \ Pipeline.arrRefs spec1) \ Pipeline.tblRefs pre1 from by decide) (mid m h0) (fun _ _ => rfl) (tab1_read m h0)
    (fun c => in1 (mid m h0) (blkTable m) h1 c) (fun c => out1 (mid m h0) (blkTable m) h1 c)

omit [FloatOps F] in
/-- A buffer valuation updated at one place and read at another. -/
theorem update_at {A : Valuation τ sig (Elt F)} {q r : Ref sig .tc} {v : (Proc.devRef (τ := τ) .tc q).ty.Contents (Elt F)} (h : r ≠ q) :
    Function.update A (Proc.devRef .tc q) v (Proc.devRef .tc r) = A (Proc.devRef .tc r) :=
  Function.update_of_ne (fun e => h (Proc.devRef_injective _ e)) _ _

omit [FloatOps F] in
/-- A buffer valuation read at the updated place. -/
theorem update_own (A : Valuation τ sig (Elt F)) (q : Ref sig .tc) (v : (Proc.devRef (τ := τ) .tc q).ty.Contents (Elt F)) :
    Function.update A (Proc.devRef .tc q) v (Proc.devRef .tc q) = v := Function.update_self _ _ _

/-- After the first call the buffers are as before it but for its output array. -/
theorem after_mem (V : Dev nD → Valuation τ sig (Elt F)) (T : S512.Idx → BitVec 32) (hT : ∀ j, TokWord (T j)) (c : Dev nD) :
    ∀ b ∈ Pipeline.ucRefs τ sig, Pipeline.afterRegion (datM V T hT c) (V c) b
      = Function.update (V c) (Proc.devRef .tc main_v12) ((datM V T hT c).arrAt 7 (cfgM (F := F) T).N) b := by
  intro b hb
  obtain ⟨r, -, rfl⟩ := Finset.mem_map.mp (Finset.mem_filter.mp hb).1
  show Pipeline.afterRegion (datM V T hT c) (V c) (Proc.devRef .tc r) = Function.update (V c) (Proc.devRef .tc main_v12) _ (Proc.devRef .tc r)
  by_cases hr : r = main_v12
  · subst hr
    exact (Pipeline.afterRegion_arr (datM V T hT c) (V c) winFacts0.arr_inj (7 : Fin 8)).trans (update_own (V c) main_v12 _).symm
  · refine Eq.trans ?_ (update_at hr).symm
    refine Pipeline.afterRegion_keeps (datM V T hT c) (V c) winFacts0.arr_inj (fun _ => rfl) r (fun w e => ?_)
    exact (show ∀ w : Fin 8, Pipeline.arrRef spec0 w = r → (spec0 w).isOut = false from by
      intro w e
      match w with
      | ⟨0, _⟩ | ⟨1, _⟩ | ⟨2, _⟩ | ⟨3, _⟩ | ⟨4, _⟩ | ⟨5, _⟩ | ⟨6, _⟩ => rfl
      | ⟨7, _⟩ => exact absurd e.symm hr) w e

/-- And so for the second. -/
theorem after_o (V : Dev nD → Valuation τ sig (Elt F)) (T : S128.Idx → BitVec 32) (hT : ∀ j, (T j).toNat < 512) (c : Dev nD) :
    ∀ b ∈ Pipeline.ucRefs τ sig, Pipeline.afterRegion (datO V T hT c) (V c) b
      = Function.update (V c) (Proc.devRef .tc main_v13) ((datO V T hT c).arrAt 6 (cfgO (F := F) T).N) b := by
  intro b hb
  obtain ⟨r, -, rfl⟩ := Finset.mem_map.mp (Finset.mem_filter.mp hb).1
  show Pipeline.afterRegion (datO V T hT c) (V c) (Proc.devRef .tc r) = Function.update (V c) (Proc.devRef .tc main_v13) _ (Proc.devRef .tc r)
  by_cases hr : r = main_v13
  · subst hr
    exact (Pipeline.afterRegion_arr (datO V T hT c) (V c) winFacts1.arr_inj (6 : Fin 7)).trans (update_own (V c) main_v13 _).symm
  · refine Eq.trans ?_ (update_at hr).symm
    refine Pipeline.afterRegion_keeps (datO V T hT c) (V c) winFacts1.arr_inj (fun _ => rfl) r (fun w e => ?_)
    exact (show ∀ w : Fin 7, Pipeline.arrRef spec1 w = r → (spec1 w).isOut = false from by
      intro w e
      match w with
      | ⟨0, _⟩ | ⟨1, _⟩ | ⟨2, _⟩ | ⟨3, _⟩ | ⟨4, _⟩ | ⟨5, _⟩ => rfl
      | ⟨6, _⟩ => exact absurd e.symm hr) w e

theorem after0 (c : Dev nD) : ∀ b ∈ Pipeline.ucRefs τ sig, Pipeline.afterRegion (datM (V1 m) (tokTable m) h0 c) (V1 m c) b = mid m h0 c b :=
  after_mem (V1 m) (tokTable m) h0 c

theorem after1 (c : Dev nD) : ∀ b ∈ Pipeline.ucRefs τ sig, Pipeline.afterRegion (datO (mid m h0) (blkTable m) h1 c) (mid m h0 c) b
    = Function.update (mid m h0 c) (Proc.devRef .tc main_v13) (oResult m h0 h1 c) b :=
  after_o (mid m h0) (blkTable m) h1 c

theorem V3_results (c : Dev nD) : V3 m (results m h0 h1) c = Function.update (mid m h0 c) (Proc.devRef .tc main_v13) (oResult m h0 h1 c) := by
  unfold V3; rw [V2_results, results_o]

theorem pre0_eq (c : Dev nD) : (reg0 m h0 h1).pre c = iprop(StableHlo.held (c : Thread nD τ) (Pipeline.ucRefs τ sig) (V1 m c) ∗ owing c) := rfl
theorem post0_eq (c : Dev nD) : (reg0 m h0 h1).post c
    = iprop(StableHlo.held (c : Thread nD τ) (Pipeline.ucRefs τ sig) (Pipeline.afterRegion (datM (V1 m) (tokTable m) h0 c) (V1 m c)) ∗ owing c) := rfl
theorem pre1_eq (c : Dev nD) : (reg1 m h0 h1).pre c = iprop(StableHlo.held (c : Thread nD τ) (Pipeline.ucRefs τ sig) (mid m h0 c) ∗ owing c) := rfl
theorem post1_eq (c : Dev nD) : (reg1 m h0 h1).post c
    = iprop(StableHlo.held (c : Thread nD τ) (Pipeline.ucRefs τ sig) (Pipeline.afterRegion (datO (mid m h0) (blkTable m) h1 c) (mid m h0 c)) ∗ owing c) := rfl

/-- The launch's element of the algebra. -/
def seed : UR sig nD τ × Counters :=
  (initOf (Pipeline.cells (Pipeline.pin (pcfgs (F := F)) (tabs m)) (cellOf_inj (tabs m)))
    (Pipeline.launchToks (Pipeline.pin (pcfgs (F := F)) (tabs m)) (cellOf_inj (tabs m))), 1)

/-- Where the pipeline's rounds live in it. -/
abbrev rounds : Emb (UR sig nD τ) 𝕄 := embL

set_option backward.isDefEq.respectTransparency.types false in
/-- From any memory with zero counters whose two tables are in range, every weakly fair execution of the program terminates, with every
    unscoped buffer at the contents computed and every semaphore counter at zero. -/
theorem run_main (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = V4 m (results m h0 h1) c b)
      ∧ r.2.sem = fun _ => 0) := by
  refine Pipeline.θ_run_regions_kit_dev_sems (pcfgs (F := F)) (tabs m) (pdat m h0 h1) () (cellOf_inj (tabs m)) rounds defs₀ Variants.none noL noLv m ρ main
    (segs m (results m h0 h1) Variants.none noL noLv (fun _ => owing) () (tabs m) (pdat m h0 h1) (reg0 m h0 h1) (reg1 m h0 h1))
    (fun c Q => by
      rewrite [main_chain c, Pipeline.Seg.run_eq_chain,
        show (segs m (results m h0 h1) Variants.none noL noLv (fun _ => owing) () (tabs m) (pdat m h0 h1) (reg0 m h0 h1) (reg1 m h0 h1) c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl)
    (fun _ => iprop(emp)) (seed m) ?_
    (T₀ := fun c => iprop(StableHlo.held (c : Thread nD τ) (Pipeline.ucRefs τ sig) (V0 m c) ∗ owing c))
    (Tₙ := fun c => StableHlo.held (c : Thread nD τ) (Pipeline.ucRefs τ sig) (V4 m (results m h0 h1) c))
    (hch := fun c => ⟨.rfl, .rfl,
      (by
        show (reg0 m h0 h1).post c ⊢ (reg1 m h0 h1).pre c
        rw [post0_eq, pre1_eq, StableHlo.held_congr (c : Thread nD τ) (after0 m h0 c)]),
      (by
        show (reg1 m h0 h1).post c ⊢ _
        rw [post1_eq, StableHlo.held_congr (c : Thread nD τ) (after1 m h0 h1 c), ← V3_results]; exact .rfl), .rfl⟩)
    (hinit := ?_) (QY := fun c s => ∀ b : Ref sig .tc, b.isScoped = false → s.mem ((c.tc : Thread nD τ).loc b) = V4 m (results m h0 h1) c b)
    (hfin := fun c s' => ?_) (hQ := fun _ h hz => ⟨h, funext fun g => hz g (.inr (regions_no_unscoped g.2))⟩)
  · unfold seed
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach noL noLv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (results m h0 h1) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

/-- The same, with what the statement asks for read off: the arguments unchanged, and the two results. -/
theorem run_read (ρ : Dev nD → PrngReg) :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ (∀ c : Dev nD, r.2.mem ((c.tc : Thread nD τ).loc main_v12) = memResult m h0 c
        ∧ r.2.mem ((c.tc : Thread nD τ).loc main_v14) = V4 m (results m h0 h1) c main_v14)
      ∧ r.2.sem = fun _ => 0) :=
  (θ_run defs _ _).mono (fun r h => ⟨fun c =>
    ⟨(h.1 c main_arg0 rfl).trans (V4_main_arg0 m _ c), (h.1 c main_arg1 rfl).trans (V4_main_arg1 m _ c), (h.1 c main_arg2 rfl).trans (V4_main_arg2 m _ c),
      (h.1 c main_arg3 rfl).trans (V4_main_arg3 m _ c), (h.1 c main_arg4 rfl).trans (V4_main_arg4 m _ c), (h.1 c main_arg5 rfl).trans (V4_main_arg5 m _ c),
      (h.1 c main_arg6 rfl).trans (V4_main_arg6 m _ c), (h.1 c main_arg7 rfl).trans (V4_main_arg7 m _ c)⟩,
    fun c => ⟨(h.1 c main_v12 rfl).trans (((V4_of m _ c main_v12 (by decide)).trans (V3_of m _ c main_v12 (by decide))).trans
      (((congrFun (V2_results m h0 h1 c) _)).trans (Function.update_self _ _ _))), h.1 c main_v14 rfl⟩, h.2⟩) (run_main m h0 h1 ρ)

end Cert.KernelIdeal.Gen

end
-- ==== Proof.Table.lean ====
/- The two tables the calls read.  The first is written by the host: a scatter of 0..127 over an
   array of minus ones.  The second is the block indices as given. -/
module

public import proofs.«01_k».proof.Proof.Run
public import Idealize.ShloMosaic.Lib.Routing.OpsOrder
public import Idealize.ShloMosaic.Lib.StableHlo.RunRead

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × Counters) ℕ

variable (m : (ℓ : Loc nD τ sig) → Buf (Elt F) ℓ)

/-- The block indices. -/
abbrev blocks : S128.Idx → BitVec 32 := V0 m 0 main_arg7

/-- The places the host scatters to. -/
def places (b : S128.Idx → BitVec 32) : S128x1.Idx → BitVec 32 :=
  broadcastInDim S128x1 ![0] bcast_S128_S128x1_0
    (select (cmpi .slt b (broadcastInDim S128 ![] bcast_S_S128 (constantI S_ 32 0#32))) (addi b (broadcastInDim S128 ![] bcast_S_S128 (constantI S_ 32 512#32))) b)

/-- The table the host makes of the block indices. -/
def tokens (b : S128.Idx → BitVec 32) : S512.Idx → BitVec 32 :=
  Host.scatter scatter_S512_S128x1_S128_n_0_0_1 (fun _ b => b) (broadcastInDim S512 ![] bcast_S_S512 (constantI S_ 32 4294967295#32)) (places b) (iotaInDim S128 32 0)

theorem tokTable_eq : tokTable m = tokens (blocks m) := by
  show StableHlo.after hostOps0 (V0 m 0) (Proc.devRef .tc main_v11) = _
  after_reads_simp
  rfl

theorem blkTable_eq : blkTable m = blocks m := V1_of m 0 main_arg7 (by decide)

/-- Every word of the first table is −1 or a token's number. -/
theorem tokens_word (b : S128.Idx → BitVec 32) (j : S512.Idx) : TokWord (tokens b j) := by
  unfold tokens
  rw [← Routing.scatterIn_finRange]
  refine Routing.scatterIn_forall _ _ _ TokWord (fun _ _ _ h => h) _ _ _ (fun i => ?_) (fun i => ?_) j
  · show (4294967295#32).toInt < 128; decide
  · show (BitVec.ofNat 32 (i 0).val).toInt < 128
    have h : (i 0).val < 128 := (i 0).isLt
    rw [BitVec.toInt_eq_toNat_cond, BitVec.toNat_ofNat, Nat.mod_eq_of_lt (by omega), if_pos (by omega)]
    omega

/-- The whole run, of any memory whose block indices are below 512. -/
theorem blocks_run (hb : ∀ j, (blocks m j).toNat < 512) :
    (∀ j, TokWord (tokTable m j)) ∧ ∀ j, (blkTable m j).toNat < 512 :=
  ⟨fun j => by rw [tokTable_eq]; exact tokens_word _ j, fun j => by rw [blkTable_eq]; exact hb j⟩

end Cert.KernelIdeal.Gen

end
-- ==== Proof.Values.lean ====
/- The whole run's two results at an index, from the arguments. -/
module

public import proofs.«01_k».proof.Proof.OArr
public import proofs.«01_k».proof.Proof.MemArr
public import proofs.«01_k».proof.Proof.Table
public import Idealize.ShloMosaic.Lib.Pointwise
public import Idealize.ShloMosaic.Lib.Pipeline.ValueKit.Geometry

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- An argument's array as the run finds it. -/
abbrev arg (c : Dev nD) (r : Ref sig .tc) : (Proc.devRef (τ := τ) .tc r).ty.Contents (Elt Ideal) := V0 m c (Proc.devRef .tc r)

/-! ### What the host leaves for the calls -/

theorem V1_weights (c : Dev nD) (k : Fin 4) (l : Fin 2048) :
    V1 m c (Proc.devRef .tc main_v0) (ix2 k l) = arg m c main_arg4 (ix2 l k) := by
  have e : V1 m c (Proc.devRef .tc main_v0) = transpose S4x2048 [1, 0] (arg m c main_arg4) transposes_S2048x4_S4x2048_1_0 := by
    show StableHlo.after hostOps0 (V0 m c) (Proc.devRef .tc main_v0) = _
    after_reads_simp
  rw [e]
  pointwise

theorem V1_bias (c : Dev nD) (hh : Fin 8) :
    V1 m c (Proc.devRef .tc main_v1) (ix2 0 hh) = arg m c main_arg5 (Idealize.ShloMosaic.ix1 (n0 := 8) hh) := by
  have e : V1 m c (Proc.devRef .tc main_v1) = shapeCast S1x8 (arg m c main_arg5) shapeCasts_S8_S1x8 := by
    show StableHlo.after hostOps0 (V0 m c) (Proc.devRef .tc main_v1) = _
    after_reads_simp
    rfl
  rw [e]
  pointwise

theorem V1_alog (c : Dev nD) (hh : Fin 8) :
    V1 m c (Proc.devRef .tc main_v2) (ix2 0 hh) = arg m c main_arg6 (Idealize.ShloMosaic.ix1 (n0 := 8) hh) := by
  have e : V1 m c (Proc.devRef .tc main_v2) = shapeCast S1x8 (arg m c main_arg6) shapeCasts_S8_S1x8 := by
    show StableHlo.after hostOps0 (V0 m c) (Proc.devRef .tc main_v2) = _
    after_reads_simp
    rfl
  rw [e]
  pointwise

variable (h0 : ∀ j, TokWord (tokTable m j)) (h1 : ∀ j, (blkTable m j).toNat < 512)

theorem mid_at (c : Dev nD) (r : Ref sig .tc) (h : r ≠ main_v12) : mid m h0 c (Proc.devRef .tc r) = V1 m c (Proc.devRef .tc r) := by
  unfold mid
  exact update_at h

/-! ### The two results -/

theorem memVal_arrays {A0 B0 : S128x2048.Idx → EReal} {A1 B1 A2 B2 : S128x8.Idx → EReal} {A3 B3 : S512x137216.Idx → EReal} {cw cw' : Fin 4 → Fin 2048 → EReal}
    {dtb dtb' al al' : Fin 8 → EReal} (e0 : A0 = B0) (e1 : A1 = B1) (e2 : A2 = B2) (e3 : A3 = B3) (e4 : cw = cw') (e5 : dtb = dtb') (e6 : al = al')
    {w w' : BitVec 32} (e : w = w') (hw : TokWord w) (hw' : TokWord w') (n : Fin 512) (j : Fin 137216) :
    memVal A0 A1 A2 A3 cw dtb al w hw n j = memVal B0 B1 B2 B3 cw' dtb' al' w' hw' n j := by
  subst e0 e1 e2 e3 e4 e5 e6 e; rfl

theorem oVal_arrays {A0 B0 : S128x2048.Idx → EReal} {A1 B1 A2 B2 : S128x8.Idx → EReal} {A3 B3 : S512x137216.Idx → EReal} {cw cw' : Fin 4 → Fin 2048 → EReal}
    {dtb dtb' al al' : Fin 8 → EReal} (e0 : A0 = B0) (e1 : A1 = B1) (e2 : A2 = B2) (e3 : A3 = B3) (e4 : cw = cw') (e5 : dtb = dtb') (e6 : al = al')
    {w w' : BitVec 32} (e : w = w') (b : Fin 128) (q : Fin 1024) :
    oVal A0 A1 A2 A3 cw dtb al ⟨w.toNat % 512, Nat.mod_lt _ (by decide)⟩ b q = oVal B0 B1 B2 B3 cw' dtb' al' ⟨w'.toNat % 512, Nat.mod_lt _ (by decide)⟩ b q := by
  subst e0 e1 e2 e3 e4 e5 e6 e; rfl

theorem mem_at (c : Dev nD) (n : Fin 512) (j : Fin 137216) :
    memResult m h0 c (ix2 n j)
      = memVal (arg m c main_arg0) (arg m c main_arg1) (arg m c main_arg2) (arg m c main_arg3) (fun k l => arg m c main_arg4 (ix2 l k))
          (fun hh => arg m c main_arg5 (Idealize.ShloMosaic.ix1 (n0 := 8) hh)) (fun hh => arg m c main_arg6 (Idealize.ShloMosaic.ix1 (n0 := 8) hh))
          (tokens (blocks m) (Idealize.ShloMosaic.ix1 (n0 := 512) n)) (tokens_word _ _) n j := by
  unfold memResult
  rw [memArr_eq]
  exact memVal_arrays (V1_of m c main_arg0 (by decide)) (V1_of m c main_arg1 (by decide)) (V1_of m c main_arg2 (by decide)) (V1_of m c main_arg3 (by decide))
    (funext fun k => funext fun l => V1_weights m c k l) (funext fun hh => V1_bias m c hh) (funext fun hh => V1_alog m c hh)
    (congrFun (tokTable_eq m) (Idealize.ShloMosaic.ix1 (n0 := 512) n)) _ _ n j

theorem o_flat (c : Dev nD) (b : Fin 128) (q : Fin 1024) :
    oResult m h0 h1 c (ix2 b q)
      = oVal (arg m c main_arg0) (arg m c main_arg1) (arg m c main_arg2) (arg m c main_arg3) (fun k l => arg m c main_arg4 (ix2 l k))
          (fun hh => arg m c main_arg5 (Idealize.ShloMosaic.ix1 (n0 := 8) hh)) (fun hh => arg m c main_arg6 (Idealize.ShloMosaic.ix1 (n0 := 8) hh))
          ⟨(blocks m (Idealize.ShloMosaic.ix1 (n0 := 128) b)).toNat % 512, Nat.mod_lt _ (by decide)⟩ b q := by
  unfold oResult
  rw [oArr_eq]
  exact oVal_arrays ((mid_at m h0 c main_arg0 (by decide)).trans (V1_of m c main_arg0 (by decide))) ((mid_at m h0 c main_arg1 (by decide)).trans (V1_of m c main_arg1 (by decide)))
    ((mid_at m h0 c main_arg2 (by decide)).trans (V1_of m c main_arg2 (by decide))) ((mid_at m h0 c main_arg3 (by decide)).trans (V1_of m c main_arg3 (by decide)))
    (funext fun k => funext fun l => (congrFun (mid_at m h0 c main_v0 (by decide)) _).trans (V1_weights m c k l))
    (funext fun hh => (congrFun (mid_at m h0 c main_v1 (by decide)) _).trans (V1_bias m c hh))
    (funext fun hh => (congrFun (mid_at m h0 c main_v2 (by decide)) _).trans (V1_alog m c hh))
    (congrFun (blkTable_eq m) (Idealize.ShloMosaic.ix1 (n0 := 128) b)) b q

theorem o_at (c : Dev nD) (b : Fin 128) (hh : Fin 8) (v : Fin 128) :
    V4 m (results m h0 h1) c (Proc.devRef .tc main_v14) (ix3 b hh v)
      = oVal (arg m c main_arg0) (arg m c main_arg1) (arg m c main_arg2) (arg m c main_arg3) (fun k l => arg m c main_arg4 (ix2 l k))
          (fun hh => arg m c main_arg5 (Idealize.ShloMosaic.ix1 (n0 := 8) hh)) (fun hh => arg m c main_arg6 (Idealize.ShloMosaic.ix1 (n0 := 8) hh))
          ⟨(blocks m (Idealize.ShloMosaic.ix1 (n0 := 128) b)).toNat % 512, Nat.mod_lt _ (by decide)⟩ b ⟨128 * hh.val + v.val, by omega⟩ := by
  have e : V4 m (results m h0 h1) c (Proc.devRef .tc main_v14) = shapeCast S128x8x128 (oResult m h0 h1 c) shapeCasts_S128x1024_S128x8x128 := by
    show StableHlo.after hostOps2 (V3 m (results m h0 h1) c) (Proc.devRef .tc main_v14) = _
    rw [V3_results]
    after_reads_simp
    rw [update_own]
    rfl
  rw [e, ← o_flat m h0 h1]
  refine congrArg (oResult m h0 h1 c) ?_
  pointwise
  exact congrArg (ix2 (n0 := 128) (n1 := 1024) b) (Fin.ext (by show hh.val * 128 + v.val = 128 * hh.val + v.val; omega))

end Cert.KernelIdeal.Gen

end
-- ==== Proof.Algebra.lean ====
/- The algebra between the two forms of a head: finite rows make every quantity of a head a real number. -/
module

public import proofs.«01_k».proof.Proof.OOut
public import proofs.«01_k».proof.Proof.MemValue
public import Idealize.ShloMosaic.PureOps.Ideal.Laws
import Mathlib.Tactic.Ring
import Mathlib.Tactic.NormNum
import Mathlib.Tactic.Positivity

@[expose] public section

set_option Elab.async false

noncomputable section

namespace Cert.Match

open Cert.KernelIdeal Cert.KernelIdeal.Gen
open Idealize.ShloMosaic

/-- An extended real that is a real number. -/
def IsReal (x : EReal) : Prop := ∃ r : ℝ, x = r

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem lift {ι : Type} {f : ι → EReal} (h : ∀ i, IsReal (f i)) : ∃ g : ι → ℝ, f = fun i => (g i : EReal) :=
  ⟨fun i => (h i).choose, funext fun i => (h i).choose_spec⟩

theorem fin_mul {x y : EReal} (hx : IsReal x) (hy : IsReal y) : IsReal (x * y) := by
  obtain ⟨a, rfl⟩ := hx; obtain ⟨b, rfl⟩ := hy; exact ⟨a * b, (EReal.coe_mul a b).symm⟩
theorem fin_add {x y : EReal} (hx : IsReal x) (hy : IsReal y) : IsReal (x + y) := by
  obtain ⟨a, rfl⟩ := hx; obtain ⟨b, rfl⟩ := hy; exact ⟨a + b, (EReal.coe_add a b).symm⟩

theorem fin_sub {x y : EReal} (hx : IsReal x) (hy : IsReal y) : IsReal (x - y) := by
  obtain ⟨a, rfl⟩ := hx; obtain ⟨b, rfl⟩ := hy; exact ⟨a - b, (EReal.coe_sub a b).symm⟩
theorem fin_sum {ι : Type} [Fintype ι] {f : ι → EReal} (h : ∀ i, IsReal (f i)) : IsReal (∑ i, f i) := by
  obtain ⟨g, rfl⟩ := lift h; exact ⟨_, (coe_sum _ g).symm⟩

/-! ### The two constants -/

theorem eps_pos : ∃ r : ℝ, 0 < r ∧ eps = r := by
  refine ⟨(8796093 : ℝ) * 2 ^ (-43 : ℤ), by positivity, ?_⟩
  unfold eps
  simp [Ideal.ofBits, Ideal.ieee, -EReal.coe_mul]

theorem scale_fin : IsReal (Ideal.ofBits .f32 0x3DB504F3#32) := by
  refine ⟨(11863283 : ℝ) * 2 ^ (-27 : ℤ), ?_⟩
  simp [Ideal.ofBits, Ideal.ieee, -EReal.coe_mul]

/-! ### The scalar functions -/

theorem sig_fin (z : EReal) : IsReal (sigR z) := by
  unfold sigR
  induction z with
  | bot => exact ⟨0, by
      rw [EReal.sub_bot EReal.zero_ne_bot, Ideal.exp_top]
      show Ideal.div 1 (((1 : ℝ) : EReal) + ⊤) = _
      rw [EReal.coe_add_top, Ideal.div, if_neg (by simp), EReal.inv_top, mul_zero]; rfl⟩
  | top => exact ⟨1, by
      rw [EReal.sub_top, Ideal.exp_bot, add_zero]
      show Ideal.div 1 ((1 : ℝ) : EReal) = _
      rw [Ideal.div_coe one_ne_zero, one_div, inv_one, one_mul]⟩
  | coe r =>
    have e : (1 : EReal) + Ideal.exp (0 - (r : EReal)) = ((1 + Real.exp (-r) : ℝ) : EReal) := by
      rw [zero_sub, ← EReal.coe_neg, Ideal.exp_coe, EReal.coe_add]; rfl
    rw [e, Ideal.div_coe (by positivity), one_mul]
    exact ⟨_, rfl⟩

theorem log_nonneg (x : EReal) : 0 ≤ Ideal.log (1 + Ideal.exp x) := by
  induction x with
  | bot =>
    rw [Ideal.exp_bot, add_zero]
    show 0 ≤ Ideal.log ((1 : ℝ) : EReal)
    rw [Ideal.log_coe, if_neg (by norm_num), Real.log_one]; rfl
  | top => rw [Ideal.exp_top]; show 0 ≤ Ideal.log (((1 : ℝ) : EReal) + ⊤); rw [EReal.coe_add_top, Ideal.log_top]; exact le_top
  | coe r =>
    have e : (1 : EReal) + Ideal.exp (r : EReal) = ((1 + Real.exp r : ℝ) : EReal) := by
      rw [Ideal.exp_coe, EReal.coe_add]; rfl
    have hp := Real.exp_pos r
    rw [e, Ideal.log_coe, if_neg (by linarith)]
    exact EReal.coe_nonneg.2 (Real.log_nonneg (by linarith))

theorem exp_nonneg (x : EReal) : 0 ≤ Ideal.exp x := by
  induction x with
  | bot => exact le_refl _
  | top => exact le_top
  | coe r => exact EReal.coe_nonneg.2 (Real.exp_pos r).le

theorem decay_fin (a dtb al : EReal) : IsReal (Ideal.exp (gateR a dtb al)) := by
  have hle : gateR a dtb al ≤ 0 := by
    unfold gateR
    rw [zero_sub, EReal.neg_mul]
    exact EReal.neg_le_zero.2 (mul_nonneg (exp_nonneg _) (add_nonneg (le_max_right _ _) (log_nonneg _)))
  generalize gateR a dtb al = g at hle
  induction g with
  | bot => exact ⟨0, rfl⟩
  | top => exact absurd hle (by simp)
  | coe r => exact ⟨_, rfl⟩

/-! ### The rows -/

theorem mix_fin {s : Fin 137216 → EReal} {u : Fin 2048 → EReal} {w : Fin 4 → Fin 2048 → EReal} (hs : ∀ i, IsReal (s i)) (hu : ∀ i, IsReal (u i))
    (hw : ∀ k i, IsReal (w k i)) (j : Fin 2048) : IsReal (mixR s u w j) :=
  fin_mul (fin_add (fin_add (fin_add (fin_mul (hs _) (hw _ _)) (fin_mul (hs _) (hw _ _))) (fin_mul (hs _) (hw _ _))) (fin_mul (hu _) (hw _ _))) (sig_fin _)

/-- Dividing by the root is scaling by the inverse root. -/
theorem unit_eq {y : Fin 2048 → EReal} (hy : ∀ j, IsReal (y j)) (o : ℕ) (ho : o ≤ 1920) (d : Fin 128) :
    Ideal.div (y ⟨o + d.val, by omega⟩) (Ideal.sqrt ((∑ k : Fin 128, y ⟨o + k.val, by omega⟩ * y ⟨o + k.val, by omega⟩) + eps)) = unitR y o ho d
      ∧ IsReal (unitR y o ho d) := by
  obtain ⟨g, rfl⟩ := lift hy
  obtain ⟨r, hr, he⟩ := eps_pos
  unfold unitR
  have e : (∑ k : Fin 128, (g ⟨o + k.val, by omega⟩ : EReal) * (g ⟨o + k.val, by omega⟩ : EReal)) + eps
      = ((∑ k : Fin 128, g ⟨o + k.val, by omega⟩ * g ⟨o + k.val, by omega⟩ + r : ℝ) : EReal) := by
    rw [he, EReal.coe_add, coe_sum]
    simp only [EReal.coe_mul]
  have hp : 0 < ∑ k : Fin 128, g ⟨o + k.val, by omega⟩ * g ⟨o + k.val, by omega⟩ + r :=
    add_pos_of_nonneg_of_pos (Finset.sum_nonneg fun k _ => mul_self_nonneg _) hr
  have hq := Real.sqrt_pos.2 hp
  rw [e, Ideal.sqrt_coe, Ideal.rsqrt_coe, if_neg hp.le.not_gt, if_neg hp.le.not_gt, if_neg hp.ne', Ideal.div_coe hq.ne', one_div]
  exact ⟨rfl, _, (EReal.coe_mul _ _).symm⟩

theorem key_fin {y : Fin 2048 → EReal} (hy : ∀ j, IsReal (y j)) (hh : Fin 8) (d : Fin 128) : IsReal (keyR y hh d) := (unit_eq hy _ _ d).2
theorem query_fin {y : Fin 2048 → EReal} (hy : ∀ j, IsReal (y j)) (hh : Fin 8) (d : Fin 128) : IsReal (queryR y hh d) := fin_mul (unit_eq hy _ _ d).2 scale_fin

/-! ### A head -/

theorem predict {σ κ : Fin 128 → EReal} {e : EReal} (hσ : ∀ d, IsReal (σ d)) (hκ : ∀ d, IsReal (κ d)) (he : IsReal e) :
    ∑ d, σ d * e * κ d = (∑ d, σ d * κ d) * e := by
  obtain ⟨s, rfl⟩ := lift hσ; obtain ⟨k, rfl⟩ := lift hκ; obtain ⟨e, rfl⟩ := he
  simp only [← EReal.coe_mul, ← coe_sum]
  refine congrArg _ ?_
  rw [Finset.sum_mul]
  exact Finset.sum_congr rfl fun d _ => by ring

/-- The output read off the new state. -/
theorem read_out {σ κ q : Fin 128 → EReal} {e c b : EReal} (hσ : ∀ d, IsReal (σ d)) (hκ : ∀ d, IsReal (κ d)) (hq : ∀ d, IsReal (q d)) (he : IsReal e) (hc : IsReal c) (hb : IsReal b) :
    ∑ d, (σ d * e + c * b * κ d) * q d = (∑ d, σ d * e * q d) + c * b * ∑ d, κ d * q d := by
  obtain ⟨s, rfl⟩ := lift hσ; obtain ⟨k, rfl⟩ := lift hκ; obtain ⟨q, rfl⟩ := lift hq; obtain ⟨e, rfl⟩ := he; obtain ⟨c, rfl⟩ := hc; obtain ⟨b, rfl⟩ := hb
  simp only [← EReal.coe_mul, ← coe_sum, ← EReal.coe_add]
  refine congrArg _ ?_
  rw [Finset.mul_sum, ← Finset.sum_add_distrib]
  exact Finset.sum_congr rfl fun d _ => by ring

end Cert.Match

end
-- ==== Proof.RefRun.lean ====
/- The run of the reference: its operations as two lists, one after the other, and what every
   buffer holds at the end. -/
module

public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

set_option maxHeartbeats 4000000
set_option maxRecDepth 65536
set_option Elab.async false

noncomputable section

namespace Cert.Ref

open Cert.ReferenceIdeal Cert.ReferenceIdeal.Gen
open Idealize.ShloMosaic Idealize.ShloMosaic.TcCoe Idealize.SL.Sem

variable {F : FTy → Type} [FloatOps F]

/-- The first half of the operations. -/
abbrev ops0 : List (HloOp τ sig (Elt F)) :=
  [ StableHlo.nullary main_call0_c (constantI S_ 32 0#32),
    StableHlo.unary main_call0_c main_call0_v0 (broadcastInDim S128 ![] bcast_S_S128),
    StableHlo.binary main_arg7 main_call0_v0 main_call0_v1 (cmpi .slt),
    StableHlo.nullary main_call0_c_0 (constantI S_ 32 512#32),
    StableHlo.unary main_call0_c_0 main_call0_v2 (broadcastInDim S128 ![] bcast_S_S128),
    StableHlo.binary main_arg7 main_call0_v2 main_call0_v3 addi,
    StableHlo.ternary main_call0_v1 main_call0_v3 main_arg7 main_call0_v4 select,
    StableHlo.unary main_call0_v4 main_call0_v5 (broadcastInDim S128x1 ![0] bcast_S128_S128x1_0),
    StableHlo.nullary main_call0_c_1 (constantI S1 32 511#32),
    StableHlo.nullary main_call0_c_2 (constantI S_ 32 0#32),
    StableHlo.unary main_call0_c_2 main_call0_v6 (broadcastInDim S128x1 ![] bcast_S_S128x1),
    StableHlo.binary main_call0_v5 main_call0_v6 main_call0_v7 (cmpi .sge),
    StableHlo.unary main_call0_c_1 main_call0_v8 (broadcastInDim S1x1 ![1] bcast_S1_S1x1_1),
    StableHlo.unary main_call0_v8 main_call0_v9 (broadcastInDim S128x1 ![0, 1] bcast_S1x1_S128x1_0_1),
    StableHlo.binary main_call0_v5 main_call0_v9 main_call0_v10 (cmpi .sle),
    StableHlo.binary main_call0_v7 main_call0_v10 main_call0_v11 andi,
    StableHlo.nullary main_call0_c_3 (constantI S_ 1 1#1),
    StableHlo.binary main_call0_v11 main_call0_c_3 main_call0_v12 (fun x v => Host.reduce IntOp.andi x v reducesTo_S128x1_S128_d1 h_S_),
    StableHlo.binary main_arg3 main_call0_v5 main_call0_v13 (fun x i => Host.gather gather_S512x137216_S128x1_S128x137216_1_0_n_n_0_1_1137216 x i),
    StableHlo.unary main_call0_v12 main_call0_v14 (broadcastInDim S128x137216 ![0] bcast_S128_S128x137216_0),
    StableHlo.nullary main_call0_cst (constant S_ .f32 0x7FC00000#32),
    StableHlo.unary main_call0_cst main_call0_v15 (broadcastInDim S128x137216 ![] bcast_S_S128x137216),
    StableHlo.ternary main_call0_v14 main_call0_v13 main_call0_v15 main_v0 select,
    StableHlo.unary main_v0 main_v1 ((extractStridedSlice S128x131072 ![0, 0] · slices_S128x137216_S128x131072_0_0) : (⟨S128x137216, .f32⟩ : BufTy).Contents (Elt F) → (⟨S128x131072, .f32⟩ : BufTy).Contents (Elt F)),
    StableHlo.reshape main_v1 main_v2 (rfl : (.f32 : EltTy) = .f32) shapeCasts_S128x131072_S128x8x128x128,
    StableHlo.unary main_v0 main_v3 ((extractStridedSlice S128x6144 ![0, 131072] · slices_S128x137216_S128x6144_0_131072) : (⟨S128x137216, .f32⟩ : BufTy).Contents (Elt F) → (⟨S128x6144, .f32⟩ : BufTy).Contents (Elt F)),
    StableHlo.reshape main_v3 main_v4 (rfl : (.f32 : EltTy) = .f32) shapeCasts_S128x6144_S128x3x2048,
    StableHlo.unary main_arg0 main_v5 (broadcastInDim S128x1x2048 ![0, 2] bcast_S128x2048_S128x1x2048_0_2 : (⟨S128x2048, .f32⟩ : BufTy).Contents (Elt F) → (⟨S128x1x2048, .f32⟩ : BufTy).Contents (Elt F)),
    StableHlo.binary main_v4 main_v5 main_v6 ((fun a b => concatenate S128x4x2048 1 [⟨S128x3x2048, a⟩, ⟨S128x1x2048, b⟩] concatenates_S128x3x2048_S128x1x2048_S128x4x2048_d1) : (⟨S128x3x2048, .f32⟩ : BufTy).Contents (Elt F) → (⟨S128x1x2048, .f32⟩ : BufTy).Contents (Elt F) → (⟨S128x4x2048, .f32⟩ : BufTy).Contents (Elt F)),
    StableHlo.binary main_arg4 main_v6 main_v7 ((fun l r => Host.dotGeneral dot_S2048x4_S128x4x2048_S2048x128_1_1_n_0_0_2 none l r) : (⟨S2048x4, .f32⟩ : BufTy).Contents (Elt F) → (⟨S128x4x2048, .f32⟩ : BufTy).Contents (Elt F) → (⟨S2048x128, .f32⟩ : BufTy).Contents (Elt F)),
    StableHlo.unary main_v7 main_v8 ((transpose S128x2048 [1, 0] · transposes_S2048x128_S128x2048_1_0) : (⟨S2048x128, .f32⟩ : BufTy).Contents (Elt F) → (⟨S128x2048, .f32⟩ : BufTy).Contents (Elt F)),
    StableHlo.unary main_v8 main_v9 (Host.negf : (⟨S128x2048, .f32⟩ : BufTy).Contents (Elt F) → (⟨S128x2048, .f32⟩ : BufTy).Contents (Elt F)),
    StableHlo.unary main_v9 main_v10 (Host.exp : (⟨S128x2048, .f32⟩ : BufTy).Contents (Elt F) → (⟨S128x2048, .f32⟩ : BufTy).Contents (Elt F)),
    StableHlo.nullary main_cst (constant S_ .f32 0x3F800000#32),
    StableHlo.unary main_cst main_v11 (broadcastInDim S128x2048 ![] bcast_S_S128x2048 : (⟨S_, .f32⟩ : BufTy).Contents (Elt F) → (⟨S128x2048, .f32⟩ : BufTy).Contents (Elt F)),
    StableHlo.binary main_v11 main_v10 main_v12 (addf : (⟨S128x2048, .f32⟩ : BufTy).Contents (Elt F) → (⟨S128x2048, .f32⟩ : BufTy).Contents (Elt F) → (⟨S128x2048, .f32⟩ : BufTy).Contents (Elt F)),
    StableHlo.nullary main_cst_0 (constant S_ .f32 0x3F800000#32),
    StableHlo.unary main_cst_0 main_v13 (broadcastInDim S128x2048 ![] bcast_S_S128x2048 : (⟨S_, .f32⟩ : BufTy).Contents (Elt F) → (⟨S128x2048, .f32⟩ : BufTy).Contents (Elt F)),
    StableHlo.binary main_v13 main_v12 main_v14 (Host.divf : (⟨S128x2048, .f32⟩ : BufTy).Contents (Elt F) → (⟨S128x2048, .f32⟩ : BufTy).Contents (Elt F) → (⟨S128x2048, .f32⟩ : BufTy).Contents (Elt F)),
    StableHlo.binary main_v8 main_v14 main_v15 (mulf : (⟨S128x2048, .f32⟩ : BufTy).Contents (Elt F) → (⟨S128x2048, .f32⟩ : BufTy).Contents (Elt F) → (⟨S128x2048, .f32⟩ : BufTy).Contents (Elt F)),
    StableHlo.unary main_v6 main_v16 ((extractStridedSlice S128x3x2048 ![0, 1, 0] · slices_S128x4x2048_S128x3x2048_0_1_0) : (⟨S128x4x2048, .f32⟩ : BufTy).Contents (Elt F) → (⟨S128x3x2048, .f32⟩ : BufTy).Contents (Elt F)),
    StableHlo.reshape main_v15 main_v17 (rfl : (.f32 : EltTy) = .f32) shapeCasts_S128x2048_S128x16x128,
    StableHlo.unary main_v17 main_v18 ((extractStridedSlice S128x4x128 ![0, 0, 0] · slices_S128x16x128_S128x4x128_0_0_0) : (⟨S128x16x128, .f32⟩ : BufTy).Contents (Elt F) → (⟨S128x4x128, .f32⟩ : BufTy).Contents (Elt F)),
    StableHlo.unary main_v17 main_v19 ((extractStridedSlice S128x4x128 ![0, 4, 0] · slices_S128x16x128_S128x4x128_0_4_0) : (⟨S128x16x128, .f32⟩ : BufTy).Contents (Elt F) → (⟨S128x4x128, .f32⟩ : BufTy).Contents (Elt F)),
    StableHlo.unary main_v17 main_v20 ((extractStridedSlice S128x8x128 ![0, 8, 0] · slices_S128x16x128_S128x8x128_0_8_0) : (⟨S128x16x128, .f32⟩ : BufTy).Contents (Elt F) → (⟨S128x8x128, .f32⟩ : BufTy).Contents (Elt F)),
    StableHlo.unary main_arg6 main_v21 (Host.exp : (⟨S8, .f32⟩ : BufTy).Contents (Elt F) → (⟨S8, .f32⟩ : BufTy).Contents (Elt F)),
    StableHlo.unary main_v21 main_v22 (broadcastInDim S1x8 ![1] bcast_S8_S1x8_1 : (⟨S8, .f32⟩ : BufTy).Contents (Elt F) → (⟨S1x8, .f32⟩ : BufTy).Contents (Elt F)),
    StableHlo.unary main_v22 main_v23 (Host.negf : (⟨S1x8, .f32⟩ : BufTy).Contents (Elt F) → (⟨S1x8, .f32⟩ : BufTy).Contents (Elt F)),
    StableHlo.unary main_arg5 main_v24 (broadcastInDim S1x8 ![1] bcast_S8_S1x8_1 : (⟨S8, .f32⟩ : BufTy).Contents (Elt F) → (⟨S1x8, .f32⟩ : BufTy).Contents (Elt F)),
    StableHlo.unary main_v24 main_v25 (broadcastInDim S128x8 ![0, 1] bcast_S1x8_S128x8_0_1 : (⟨S1x8, .f32⟩ : BufTy).Contents (Elt F) → (⟨S128x8, .f32⟩ : BufTy).Contents (Elt F)),
    StableHlo.binary main_arg2 main_v25 main_v26 (addf : (⟨S128x8, .f32⟩ : BufTy).Contents (Elt F) → (⟨S128x8, .f32⟩ : BufTy).Contents (Elt F) → (⟨S128x8, .f32⟩ : BufTy).Contents (Elt F)),
    StableHlo.nullary main_call1_cst (constant S_ .f32 0x00000000#32),
    StableHlo.unary main_call1_cst main_call1_v0 (broadcastInDim S128x8 ![] bcast_S_S128x8),
    StableHlo.binary main_v26 main_call1_v0 main_call1_v1 maximumf,
    StableHlo.unary main_call1_cst main_call1_v2 (broadcastInDim S128x8 ![] bcast_S_S128x8),
    StableHlo.binary main_v26 main_call1_v2 main_call1_v3 subf,
    StableHlo.binary main_call1_v3 main_call1_v3 main_call1_v4 (cmpf .une),
    StableHlo.unary main_call1_cst main_call1_v5 (broadcastInDim S128x8 ![] bcast_S_S128x8),
    StableHlo.binary main_v26 main_call1_v5 main_call1_v6 addf,
    StableHlo.unary main_call1_v3 main_call1_v7 Host.absf,
    StableHlo.unary main_call1_v7 main_call1_v8 Host.negf,
    StableHlo.unary main_call1_v8 main_call1_v9 Host.exp,
    StableHlo.unary main_call1_v9 main_call1_v10 Host.log1p,
    StableHlo.binary main_call1_v1 main_call1_v10 main_call1_v11 addf,
    StableHlo.ternary main_call1_v4 main_call1_v6 main_call1_v11 main_v27 select,
    StableHlo.unary main_v23 main_v28 (broadcastInDim S128x8 ![0, 1] bcast_S1x8_S128x8_0_1 : (⟨S1x8, .f32⟩ : BufTy).Contents (Elt F) → (⟨S128x8, .f32⟩ : BufTy).Contents (Elt F)),
    StableHlo.binary main_v28 main_v27 main_v29 (mulf : (⟨S128x8, .f32⟩ : BufTy).Contents (Elt F) → (⟨S128x8, .f32⟩ : BufTy).Contents (Elt F) → (⟨S128x8, .f32⟩ : BufTy).Contents (Elt F)),
    StableHlo.unary main_arg1 main_v30 (Host.negf : (⟨S128x8, .f32⟩ : BufTy).Contents (Elt F) → (⟨S128x8, .f32⟩ : BufTy).Contents (Elt F)),
    StableHlo.unary main_v30 main_v31 (Host.exp : (⟨S128x8, .f32⟩ : BufTy).Contents (Elt F) → (⟨S128x8, .f32⟩ : BufTy).Contents (Elt F)),
    StableHlo.nullary main_cst_1 (constant S_ .f32 0x3F800000#32),
    StableHlo.unary main_cst_1 main_v32 (broadcastInDim S128x8 ![] bcast_S_S128x8 : (⟨S_, .f32⟩ : BufTy).Contents (Elt F) → (⟨S128x8, .f32⟩ : BufTy).Contents (Elt F)),
    StableHlo.binary main_v32 main_v31 main_v33 (addf : (⟨S128x8, .f32⟩ : BufTy).Contents (Elt F) → (⟨S128x8, .f32⟩ : BufTy).Contents (Elt F) → (⟨S128x8, .f32⟩ : BufTy).Contents (Elt F)),
    StableHlo.nullary main_cst_2 (constant S_ .f32 0x3F800000#32),
    StableHlo.unary main_cst_2 main_v34 (broadcastInDim S128x8 ![] bcast_S_S128x8 : (⟨S_, .f32⟩ : BufTy).Contents (Elt F) → (⟨S128x8, .f32⟩ : BufTy).Contents (Elt F)),
    StableHlo.binary main_v34 main_v33 main_v35 (Host.divf : (⟨S128x8, .f32⟩ : BufTy).Contents (Elt F) → (⟨S128x8, .f32⟩ : BufTy).Contents (Elt F) → (⟨S128x8, .f32⟩ : BufTy).Contents (Elt F)),
    StableHlo.unary main_v18 main_v36 (broadcastInDim S128x4x2x128 ![0, 1, 3] bcast_S128x4x128_S128x4x2x128_0_1_3 : (⟨S128x4x128, .f32⟩ : BufTy).Contents (Elt F) → (⟨S128x4x2x128, .f32⟩ : BufTy).Contents (Elt F)),
    StableHlo.reshape main_v36 main_v37 (rfl : (.f32 : EltTy) = .f32) shapeCasts_S128x4x2x128_S128x8x128,
    StableHlo.unary main_v19 main_v38 (broadcastInDim S128x4x2x128 ![0, 1, 3] bcast_S128x4x128_S128x4x2x128_0_1_3 : (⟨S128x4x128, .f32⟩ : BufTy).Contents (Elt F) → (⟨S128x4x2x128, .f32⟩ : BufTy).Contents (Elt F)),
    StableHlo.reshape main_v38 main_v39 (rfl : (.f32 : EltTy) = .f32) shapeCasts_S128x4x2x128_S128x8x128,
    StableHlo.binary main_v37 main_v37 main_v40 (mulf : (⟨S128x8x128, .f32⟩ : BufTy).Contents (Elt F) → (⟨S128x8x128, .f32⟩ : BufTy).Contents (Elt F) → (⟨S128x8x128, .f32⟩ : BufTy).Contents (Elt F)),
    StableHlo.nullary main_cst_3 (constant S_ .f32 0x00000000#32),
    StableHlo.binary main_v40 main_cst_3 main_v41 ((fun x v => Host.reduceAdd x v reducesTo_S128x8x128_S128x8_d2 h_S_) : (⟨S128x8x128, .f32⟩ : BufTy).Contents (Elt F) → (⟨S_, .f32⟩ : BufTy).Contents (Elt F) → (⟨S128x8, .f32⟩ : BufTy).Contents (Elt F)),
    StableHlo.unary main_v41 main_v42 (broadcastInDim S128x8x1 ![0, 1] bcast_S128x8_S128x8x1_0_1 : (⟨S128x8, .f32⟩ : BufTy).Contents (Elt F) → (⟨S128x8x1, .f32⟩ : BufTy).Contents (Elt F)),
    StableHlo.nullary main_cst_4 (constant S_ .f32 0x358637BD#32),
    StableHlo.unary main_cst_4 main_v43 (broadcastInDim S128x8x1 ![] bcast_S_S128x8x1 : (⟨S_, .f32⟩ : BufTy).Contents (Elt F) → (⟨S128x8x1, .f32⟩ : BufTy).Contents (Elt F)),
    StableHlo.binary main_v42 main_v43 main_v44 (addf : (⟨S128x8x1, .f32⟩ : BufTy).Contents (Elt F) → (⟨S128x8x1, .f32⟩ : BufTy).Contents (Elt F) → (⟨S128x8x1, .f32⟩ : BufTy).Contents (Elt F)),
    StableHlo.unary main_v44 main_v45 (Host.sqrt : (⟨S128x8x1, .f32⟩ : BufTy).Contents (Elt F) → (⟨S128x8x1, .f32⟩ : BufTy).Contents (Elt F)),
    StableHlo.unary main_v45 main_v46 (broadcastInDim S128x8x128 ![0, 1, 2] bcast_S128x8x1_S128x8x128_0_1_2 : (⟨S128x8x1, .f32⟩ : BufTy).Contents (Elt F) → (⟨S128x8x128, .f32⟩ : BufTy).Contents (Elt F)),
    StableHlo.binary main_v37 main_v46 main_v47 (Host.divf : (⟨S128x8x128, .f32⟩ : BufTy).Contents (Elt F) → (⟨S128x8x128, .f32⟩ : BufTy).Contents (Elt F) → (⟨S128x8x128, .f32⟩ : BufTy).Contents (Elt F)),
    StableHlo.nullary main_cst_5 (constant S_ .f32 0x3DB504F3#32),
    StableHlo.unary main_cst_5 main_v48 (broadcastInDim S128x8x128 ![] bcast_S_S128x8x128 : (⟨S_, .f32⟩ : BufTy).Contents (Elt F) → (⟨S128x8x128, .f32⟩ : BufTy).Contents (Elt F)),
    StableHlo.binary main_v47 main_v48 main_v49 (mulf : (⟨S128x8x128, .f32⟩ : BufTy).Contents (Elt F) → (⟨S128x8x128, .f32⟩ : BufTy).Contents (Elt F) → (⟨S128x8x128, .f32⟩ : BufTy).Contents (Elt F)),
    StableHlo.binary main_v39 main_v39 main_v50 (mulf : (⟨S128x8x128, .f32⟩ : BufTy).Contents (Elt F) → (⟨S128x8x128, .f32⟩ : BufTy).Contents (Elt F) → (⟨S128x8x128, .f32⟩ : BufTy).Contents (Elt F)),
    StableHlo.nullary main_cst_6 (constant S_ .f32 0x00000000#32),
    StableHlo.binary main_v50 main_cst_6 main_v51 ((fun x v => Host.reduceAdd x v reducesTo_S128x8x128_S128x8_d2 h_S_) : (⟨S128x8x128, .f32⟩ : BufTy).Contents (Elt F) → (⟨S_, .f32⟩ : BufTy).Contents (Elt F) → (⟨S128x8, .f32⟩ : BufTy).Contents (Elt F)) ]

/-- The second half of the operations. -/
abbrev ops1 : List (HloOp τ sig (Elt F)) :=
  [ StableHlo.unary main_v51 main_v52 (broadcastInDim S128x8x1 ![0, 1] bcast_S128x8_S128x8x1_0_1 : (⟨S128x8, .f32⟩ : BufTy).Contents (Elt F) → (⟨S128x8x1, .f32⟩ : BufTy).Contents (Elt F)),
    StableHlo.nullary main_cst_7 (constant S_ .f32 0x358637BD#32),
    StableHlo.unary main_cst_7 main_v53 (broadcastInDim S128x8x1 ![] bcast_S_S128x8x1 : (⟨S_, .f32⟩ : BufTy).Contents (Elt F) → (⟨S128x8x1, .f32⟩ : BufTy).Contents (Elt F)),
    StableHlo.binary main_v52 main_v53 main_v54 (addf : (⟨S128x8x1, .f32⟩ : BufTy).Contents (Elt F) → (⟨S128x8x1, .f32⟩ : BufTy).Contents (Elt F) → (⟨S128x8x1, .f32⟩ : BufTy).Contents (Elt F)),
    StableHlo.unary main_v54 main_v55 (Host.sqrt : (⟨S128x8x1, .f32⟩ : BufTy).Contents (Elt F) → (⟨S128x8x1, .f32⟩ : BufTy).Contents (Elt F)),
    StableHlo.unary main_v55 main_v56 (broadcastInDim S128x8x128 ![0, 1, 2] bcast_S128x8x1_S128x8x128_0_1_2 : (⟨S128x8x1, .f32⟩ : BufTy).Contents (Elt F) → (⟨S128x8x128, .f32⟩ : BufTy).Contents (Elt F)),
    StableHlo.binary main_v39 main_v56 main_v57 (Host.divf : (⟨S128x8x128, .f32⟩ : BufTy).Contents (Elt F) → (⟨S128x8x128, .f32⟩ : BufTy).Contents (Elt F) → (⟨S128x8x128, .f32⟩ : BufTy).Contents (Elt F)),
    StableHlo.unary main_v29 main_v58 (Host.exp : (⟨S128x8, .f32⟩ : BufTy).Contents (Elt F) → (⟨S128x8, .f32⟩ : BufTy).Contents (Elt F)),
    StableHlo.unary main_v58 main_v59 (broadcastInDim S128x8x1x1 ![0, 1] bcast_S128x8_S128x8x1x1_0_1 : (⟨S128x8, .f32⟩ : BufTy).Contents (Elt F) → (⟨S128x8x1x1, .f32⟩ : BufTy).Contents (Elt F)),
    StableHlo.unary main_v59 main_v60 (broadcastInDim S128x8x128x128 ![0, 1, 2, 3] bcast_S128x8x1x1_S128x8x128x128_0_1_2_3 : (⟨S128x8x1x1, .f32⟩ : BufTy).Contents (Elt F) → (⟨S128x8x128x128, .f32⟩ : BufTy).Contents (Elt F)),
    StableHlo.binary main_v2 main_v60 main_v61 (mulf : (⟨S128x8x128x128, .f32⟩ : BufTy).Contents (Elt F) → (⟨S128x8x128x128, .f32⟩ : BufTy).Contents (Elt F) → (⟨S128x8x128x128, .f32⟩ : BufTy).Contents (Elt F)),
    StableHlo.binary main_v61 main_v57 main_v62 ((fun l r => Host.dotGeneral dot_S128x8x128x128_S128x8x128_S128x8x128_3_2_2_n_01_01 none l r) : (⟨S128x8x128x128, .f32⟩ : BufTy).Contents (Elt F) → (⟨S128x8x128, .f32⟩ : BufTy).Contents (Elt F) → (⟨S128x8x128, .f32⟩ : BufTy).Contents (Elt F)),
    StableHlo.binary main_v20 main_v62 main_v63 (subf : (⟨S128x8x128, .f32⟩ : BufTy).Contents (Elt F) → (⟨S128x8x128, .f32⟩ : BufTy).Contents (Elt F) → (⟨S128x8x128, .f32⟩ : BufTy).Contents (Elt F)),
    StableHlo.unary main_v35 main_v64 (broadcastInDim S128x8x1 ![0, 1] bcast_S128x8_S128x8x1_0_1 : (⟨S128x8, .f32⟩ : BufTy).Contents (Elt F) → (⟨S128x8x1, .f32⟩ : BufTy).Contents (Elt F)),
    StableHlo.unary main_v64 main_v65 (broadcastInDim S128x8x128 ![0, 1, 2] bcast_S128x8x1_S128x8x128_0_1_2 : (⟨S128x8x1, .f32⟩ : BufTy).Contents (Elt F) → (⟨S128x8x128, .f32⟩ : BufTy).Contents (Elt F)),
    StableHlo.binary main_v63 main_v65 main_v66 (mulf : (⟨S128x8x128, .f32⟩ : BufTy).Contents (Elt F) → (⟨S128x8x128, .f32⟩ : BufTy).Contents (Elt F) → (⟨S128x8x128, .f32⟩ : BufTy).Contents (Elt F)),
    StableHlo.unary main_v66 main_v67 (broadcastInDim S128x8x128x1 ![0, 1, 2] bcast_S128x8x128_S128x8x128x1_0_1_2 : (⟨S128x8x128, .f32⟩ : BufTy).Contents (Elt F) → (⟨S128x8x128x1, .f32⟩ : BufTy).Contents (Elt F)),
    StableHlo.unary main_v57 main_v68 (broadcastInDim S128x8x1x128 ![0, 1, 3] bcast_S128x8x128_S128x8x1x128_0_1_3 : (⟨S128x8x128, .f32⟩ : BufTy).Contents (Elt F) → (⟨S128x8x1x128, .f32⟩ : BufTy).Contents (Elt F)),
    StableHlo.unary main_v67 main_v69 (broadcastInDim S128x8x128x128 ![0, 1, 2, 3] bcast_S128x8x128x1_S128x8x128x128_0_1_2_3 : (⟨S128x8x128x1, .f32⟩ : BufTy).Contents (Elt F) → (⟨S128x8x128x128, .f32⟩ : BufTy).Contents (Elt F)),
    StableHlo.unary main_v68 main_v70 (broadcastInDim S128x8x128x128 ![0, 1, 2, 3] bcast_S128x8x1x128_S128x8x128x128_0_1_2_3 : (⟨S128x8x1x128, .f32⟩ : BufTy).Contents (Elt F) → (⟨S128x8x128x128, .f32⟩ : BufTy).Contents (Elt F)),
    StableHlo.binary main_v69 main_v70 main_v71 (mulf : (⟨S128x8x128x128, .f32⟩ : BufTy).Contents (Elt F) → (⟨S128x8x128x128, .f32⟩ : BufTy).Contents (Elt F) → (⟨S128x8x128x128, .f32⟩ : BufTy).Contents (Elt F)),
    StableHlo.binary main_v61 main_v71 main_v72 (addf : (⟨S128x8x128x128, .f32⟩ : BufTy).Contents (Elt F) → (⟨S128x8x128x128, .f32⟩ : BufTy).Contents (Elt F) → (⟨S128x8x128x128, .f32⟩ : BufTy).Contents (Elt F)),
    StableHlo.binary main_v72 main_v49 main_v73 ((fun l r => Host.dotGeneral dot_S128x8x128x128_S128x8x128_S128x8x128_3_2_2_n_01_01 none l r) : (⟨S128x8x128x128, .f32⟩ : BufTy).Contents (Elt F) → (⟨S128x8x128, .f32⟩ : BufTy).Contents (Elt F) → (⟨S128x8x128, .f32⟩ : BufTy).Contents (Elt F)),
    StableHlo.reshape main_v72 main_v74 (rfl : (.f32 : EltTy) = .f32) shapeCasts_S128x8x128x128_S128x131072,
    StableHlo.reshape main_v16 main_v75 (rfl : (.f32 : EltTy) = .f32) shapeCasts_S128x3x2048_S128x6144,
    StableHlo.binary main_v74 main_v75 main_v76 ((fun a b => concatenate S128x137216 1 [⟨S128x131072, a⟩, ⟨S128x6144, b⟩] concatenates_S128x131072_S128x6144_S128x137216_d1) : (⟨S128x131072, .f32⟩ : BufTy).Contents (Elt F) → (⟨S128x6144, .f32⟩ : BufTy).Contents (Elt F) → (⟨S128x137216, .f32⟩ : BufTy).Contents (Elt F)),
    StableHlo.nullary main_c (constantI S_ 32 0#32),
    StableHlo.unary main_c main_v77 (broadcastInDim S128 ![] bcast_S_S128 : (⟨S_, .i32⟩ : BufTy).Contents (Elt F) → (⟨S128, .i32⟩ : BufTy).Contents (Elt F)),
    StableHlo.binary main_arg7 main_v77 main_v78 (cmpi .slt : (⟨S128, .i32⟩ : BufTy).Contents (Elt F) → (⟨S128, .i32⟩ : BufTy).Contents (Elt F) → (⟨S128, .i1⟩ : BufTy).Contents (Elt F)),
    StableHlo.nullary main_c_8 (constantI S_ 32 512#32),
    StableHlo.unary main_c_8 main_v79 (broadcastInDim S128 ![] bcast_S_S128 : (⟨S_, .i32⟩ : BufTy).Contents (Elt F) → (⟨S128, .i32⟩ : BufTy).Contents (Elt F)),
    StableHlo.binary main_arg7 main_v79 main_v80 (addi : (⟨S128, .i32⟩ : BufTy).Contents (Elt F) → (⟨S128, .i32⟩ : BufTy).Contents (Elt F) → (⟨S128, .i32⟩ : BufTy).Contents (Elt F)),
    StableHlo.ternary main_v78 main_v80 main_arg7 main_v81 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v81 main_v82 (broadcastInDim S128x1 ![0] bcast_S128_S128x1_0 : (⟨S128, .i32⟩ : BufTy).Contents (Elt F) → (⟨S128x1, .i32⟩ : BufTy).Contents (Elt F)),
    StableHlo.ternary main_arg3 main_v82 main_v76 main_v83 ((fun x i u => Host.scatter scatter_S512x137216_S128x1_S128x137216_1_0_0_1 (fun _ b => b) x i u) : (⟨S512x137216, .f32⟩ : BufTy).Contents (Elt F) → (⟨S128x1, .i32⟩ : BufTy).Contents (Elt F) → (⟨S128x137216, .f32⟩ : BufTy).Contents (Elt F) → (⟨S512x137216, .f32⟩ : BufTy).Contents (Elt F)) ]

theorem part0_eq (c : Dev nD) : main_part0 (F := F) c = StableHlo.seq ops0 := rfl
theorem part1_eq (c : Dev nD) : main_part1 (F := F) c = StableHlo.seq ops1 := rfl

theorem main_eq (c : Dev nD) : main (F := F) c = StableHlo.seq (ops0 ++ ops1) := by
  rw [StableHlo.seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub ..⟩
theorem ops1_sub : (ops1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.reshape_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- What the buffers hold at the end. -/
def final (V : Valuation τ sig (Elt F)) : Valuation τ sig (Elt F) := StableHlo.after ops1 (StableHlo.after ops0 V)

/-- Every run ends, with every buffer at `final` and every counter zero. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = final (StableHlo.launchContents m c) (Proc.devRef .tc b) := by
  have hf : ∀ op ∈ (ops0 ++ ops1 : List (HloOp τ sig (Elt F))), op.fresh = ∅ :=
    List.forall_iff_forall_mem.mp (List.forall_append.mpr ⟨ops0_fresh, ops1_fresh⟩)
  exact (θ_run defs _ _).mono (fun _ h c b => (h c b).trans (by unfold final; rw [StableHlo.after_append]))
    (StableHlo.run_seq scopedRefs_eq scopedSems_eq defs main (fun _ => ops0 ++ ops1) main_eq
      (fun _ => List.forall_append.mpr ⟨ops0_sub, ops1_sub⟩) m ρ (fun _ => hf))

/-- No operation writes an argument. -/
theorem final_args (V : Valuation τ sig (Elt F)) : final V (Proc.devRef .tc main_arg0) = V (Proc.devRef .tc main_arg0)
    ∧ final V (Proc.devRef .tc main_arg1) = V (Proc.devRef .tc main_arg1) ∧ final V (Proc.devRef .tc main_arg2) = V (Proc.devRef .tc main_arg2)
    ∧ final V (Proc.devRef .tc main_arg3) = V (Proc.devRef .tc main_arg3) ∧ final V (Proc.devRef .tc main_arg4) = V (Proc.devRef .tc main_arg4)
    ∧ final V (Proc.devRef .tc main_arg5) = V (Proc.devRef .tc main_arg5) ∧ final V (Proc.devRef .tc main_arg6) = V (Proc.devRef .tc main_arg6)
    ∧ final V (Proc.devRef .tc main_arg7) = V (Proc.devRef .tc main_arg7) := by
  unfold final
  refine ⟨?_, ?_, ?_, ?_, ?_, ?_, ?_, ?_⟩ <;> after_reads_simp

end Cert.Ref

end
-- ==== Proof.RefVal.lean ====
/- The reference's two results as composed functions of its arguments. -/
module

public import proofs.«01_k».proof.Proof.RefRun
public import Idealize.ShloMosaic.Lib.Pointwise

@[expose] public section

set_option maxHeartbeats 1000000
set_option maxRecDepth 65536
set_option Elab.async false

noncomputable section

namespace Cert.Ref

open Cert.ReferenceIdeal Cert.ReferenceIdeal.Gen
open Idealize.ShloMosaic Idealize.ShloMosaic.TcCoe Idealize.SL.Sem

/-- The block indices, negative ones wrapped, as a column. -/
def place (b : IVec S128 32) : IVec S128x1 32 :=
  broadcastInDim S128x1 ![0] bcast_S128_S128x1_0
    (select (cmpi .slt b (broadcastInDim S128 ![] bcast_S_S128 (constantI S_ 32 0#32))) (addi b (broadcastInDim S128 ![] bcast_S_S128 (constantI S_ 32 512#32))) b)

/-- Whether every index of a row is inside the memory. -/
def inside (i : IVec S128x1 32) : IVec S128 1 :=
  Host.reduce IntOp.andi
    (andi (cmpi .sge i (broadcastInDim S128x1 ![] bcast_S_S128x1 (constantI S_ 32 0#32)))
      (cmpi .sle i (broadcastInDim S128x1 ![0, 1] bcast_S1x1_S128x1_0_1 (broadcastInDim S1x1 ![1] bcast_S1_S1x1_1 (constantI S1 32 511#32)))))
    (constantI S_ 1 1#1) reducesTo_S128x1_S128_d1 h_S_

/-- The gathered blocks. -/
def rows (M : FVec Ideal S512x137216 .f32) (b : IVec S128 32) : FVec Ideal S128x137216 .f32 :=
  select (broadcastInDim S128x137216 ![0] bcast_S128_S128x137216_0 (inside (place b)))
    (Host.gather gather_S512x137216_S128x1_S128x137216_1_0_n_n_0_1_1137216 M (place b))
    (broadcastInDim S128x137216 ![] bcast_S_S128x137216 (constant S_ .f32 0x7FC00000#32))

/-- The convolution's window: three kept rows and the new one. -/
def window (R : FVec Ideal S128x137216 .f32) (u : FVec Ideal S128x2048 .f32) : FVec Ideal S128x4x2048 .f32 :=
  concatenate S128x4x2048 1
    [⟨S128x3x2048, shapeCast S128x3x2048 (extractStridedSlice S128x6144 ![0, 131072] R slices_S128x137216_S128x6144_0_131072) shapeCasts_S128x6144_S128x3x2048⟩,
     ⟨S128x1x2048, broadcastInDim S128x1x2048 ![0, 2] bcast_S128x2048_S128x1x2048_0_2 u⟩] concatenates_S128x3x2048_S128x1x2048_S128x4x2048_d1

/-- The convolution. -/
def conv (w : FVec Ideal S2048x4 .f32) (W : FVec Ideal S128x4x2048 .f32) : FVec Ideal S128x2048 .f32 :=
  transpose S128x2048 [1, 0] (Host.dotGeneral dot_S2048x4_S128x4x2048_S2048x128_1_1_n_0_0_2 none w W) transposes_S2048x128_S128x2048_1_0

/-- The activation. -/
def silu (x : FVec Ideal S128x2048 .f32) : FVec Ideal S128x2048 .f32 :=
  mulf x (Host.divf (broadcastInDim S128x2048 ![] bcast_S_S128x2048 (constant S_ .f32 0x3F800000#32))
    (addf (broadcastInDim S128x2048 ![] bcast_S_S128x2048 (constant S_ .f32 0x3F800000#32)) (Host.exp (Host.negf x))))

/-- The state's heads. -/
def heads (R : FVec Ideal S128x137216 .f32) : FVec Ideal S128x8x128x128 .f32 :=
  shapeCast S128x8x128x128 (extractStridedSlice S128x131072 ![0, 0] R slices_S128x137216_S128x131072_0_0) shapeCasts_S128x131072_S128x8x128x128

/-- The sixteen heads of the convolved row. -/
def split (x : FVec Ideal S128x2048 .f32) : FVec Ideal S128x16x128 .f32 := shapeCast S128x16x128 x shapeCasts_S128x2048_S128x16x128

/-- Every head twice. -/
def twice (q : FVec Ideal S128x4x128 .f32) : FVec Ideal S128x8x128 .f32 :=
  shapeCast S128x8x128 (broadcastInDim S128x4x2x128 ![0, 1, 3] bcast_S128x4x128_S128x4x2x128_0_1_3 q) shapeCasts_S128x4x2x128_S128x8x128

/-- A head divided by its length. -/
def unit (q : FVec Ideal S128x8x128 .f32) : FVec Ideal S128x8x128 .f32 :=
  Host.divf q (broadcastInDim S128x8x128 ![0, 1, 2] bcast_S128x8x1_S128x8x128_0_1_2
    (Host.sqrt (addf (broadcastInDim S128x8x1 ![0, 1] bcast_S128x8_S128x8x1_0_1 (Host.reduceAdd (mulf q q) (constant S_ .f32 0x00000000#32) reducesTo_S128x8x128_S128x8_d2 h_S_))
      (broadcastInDim S128x8x1 ![] bcast_S_S128x8x1 (constant S_ .f32 0x358637BD#32)))))

/-- The scaled queries. -/
def query (x : FVec Ideal S128x2048 .f32) : FVec Ideal S128x8x128 .f32 :=
  mulf (unit (twice (extractStridedSlice S128x4x128 ![0, 0, 0] (split x) slices_S128x16x128_S128x4x128_0_0_0)))
    (broadcastInDim S128x8x128 ![] bcast_S_S128x8x128 (constant S_ .f32 0x3DB504F3#32))

/-- The keys. -/
def key (x : FVec Ideal S128x2048 .f32) : FVec Ideal S128x8x128 .f32 :=
  unit (twice (extractStridedSlice S128x4x128 ![0, 4, 0] (split x) slices_S128x16x128_S128x4x128_0_4_0))

/-- The values. -/
def value (x : FVec Ideal S128x2048 .f32) : FVec Ideal S128x8x128 .f32 := extractStridedSlice S128x8x128 ![0, 8, 0] (split x) slices_S128x16x128_S128x8x128_0_8_0

/-- The softplus. -/
def softplus (x : FVec Ideal S128x8 .f32) : FVec Ideal S128x8 .f32 :=
  select (cmpf .une (subf x (broadcastInDim S128x8 ![] bcast_S_S128x8 (constant S_ .f32 0x00000000#32))) (subf x (broadcastInDim S128x8 ![] bcast_S_S128x8 (constant S_ .f32 0x00000000#32))))
    (addf x (broadcastInDim S128x8 ![] bcast_S_S128x8 (constant S_ .f32 0x00000000#32)))
    (addf (maximumf x (broadcastInDim S128x8 ![] bcast_S_S128x8 (constant S_ .f32 0x00000000#32)))
      (Host.log1p (Host.exp (Host.negf (Host.absf (subf x (broadcastInDim S128x8 ![] bcast_S_S128x8 (constant S_ .f32 0x00000000#32))))))))

/-- The decay's exponent. -/
def gate (a : FVec Ideal S128x8 .f32) (dt al : FVec Ideal S8 .f32) : FVec Ideal S128x8 .f32 :=
  mulf (broadcastInDim S128x8 ![0, 1] bcast_S1x8_S128x8_0_1 (Host.negf (broadcastInDim S1x8 ![1] bcast_S8_S1x8_1 (Host.exp al))))
    (softplus (addf a (broadcastInDim S128x8 ![0, 1] bcast_S1x8_S128x8_0_1 (broadcastInDim S1x8 ![1] bcast_S8_S1x8_1 dt))))

/-- The step size. -/
def beta (b : FVec Ideal S128x8 .f32) : FVec Ideal S128x8 .f32 :=
  Host.divf (broadcastInDim S128x8 ![] bcast_S_S128x8 (constant S_ .f32 0x3F800000#32))
    (addf (broadcastInDim S128x8 ![] bcast_S_S128x8 (constant S_ .f32 0x3F800000#32)) (Host.exp (Host.negf b)))

/-- The decayed state. -/
def decayed (S : FVec Ideal S128x8x128x128 .f32) (g : FVec Ideal S128x8 .f32) : FVec Ideal S128x8x128x128 .f32 :=
  mulf S (broadcastInDim S128x8x128x128 ![0, 1, 2, 3] bcast_S128x8x1x1_S128x8x128x128_0_1_2_3 (broadcastInDim S128x8x1x1 ![0, 1] bcast_S128x8_S128x8x1x1_0_1 (Host.exp g)))

/-- The state read along a head. -/
def along (S : FVec Ideal S128x8x128x128 .f32) (k : FVec Ideal S128x8x128 .f32) : FVec Ideal S128x8x128 .f32 :=
  Host.dotGeneral dot_S128x8x128x128_S128x8x128_S128x8x128_3_2_2_n_01_01 none S k

/-- The correction. -/
def delta (S : FVec Ideal S128x8x128x128 .f32) (k v : FVec Ideal S128x8x128 .f32) (bt : FVec Ideal S128x8 .f32) : FVec Ideal S128x8x128 .f32 :=
  mulf (subf v (along S k)) (broadcastInDim S128x8x128 ![0, 1, 2] bcast_S128x8x1_S128x8x128_0_1_2 (broadcastInDim S128x8x1 ![0, 1] bcast_S128x8_S128x8x1_0_1 bt))

/-- The new state. -/
def state (S : FVec Ideal S128x8x128x128 .f32) (D k : FVec Ideal S128x8x128 .f32) : FVec Ideal S128x8x128x128 .f32 :=
  addf S (mulf
    (broadcastInDim S128x8x128x128 ![0, 1, 2, 3] bcast_S128x8x128x1_S128x8x128x128_0_1_2_3 (broadcastInDim S128x8x128x1 ![0, 1, 2] bcast_S128x8x128_S128x8x128x1_0_1_2 D))
    (broadcastInDim S128x8x128x128 ![0, 1, 2, 3] bcast_S128x8x1x128_S128x8x128x128_0_1_2_3 (broadcastInDim S128x8x1x128 ![0, 1, 3] bcast_S128x8x128_S128x8x1x128_0_1_3 k)))

/-- The new blocks: the states, then the window's last three rows. -/
def blocks (N : FVec Ideal S128x8x128x128 .f32) (W : FVec Ideal S128x4x2048 .f32) : FVec Ideal S128x137216 .f32 :=
  concatenate S128x137216 1
    [⟨S128x131072, shapeCast S128x131072 N shapeCasts_S128x8x128x128_S128x131072⟩,
     ⟨S128x6144, shapeCast S128x6144 (extractStridedSlice S128x3x2048 ![0, 1, 0] W slices_S128x4x2048_S128x3x2048_0_1_0) shapeCasts_S128x3x2048_S128x6144⟩]
    concatenates_S128x131072_S128x6144_S128x137216_d1

/-! ### The whole -/

section
variable (a0 : FVec Ideal S128x2048 .f32) (a1 a2 : FVec Ideal S128x8 .f32) (a3 : FVec Ideal S512x137216 .f32) (a4 : FVec Ideal S2048x4 .f32)
  (a5 a6 : FVec Ideal S8 .f32) (a7 : IVec S128 32)

/-- The convolved and activated rows. -/
def mixed : FVec Ideal S128x2048 .f32 := silu (conv a4 (window (rows a3 a7) a0))

/-- The new states. -/
def newState : FVec Ideal S128x8x128x128 .f32 :=
  state (decayed (heads (rows a3 a7)) (gate a2 a5 a6))
    (delta (decayed (heads (rows a3 a7)) (gate a2 a5 a6)) (key (mixed a0 a3 a4 a7)) (value (mixed a0 a3 a4 a7)) (beta a1)) (key (mixed a0 a3 a4 a7))

/-- The output. -/
def outO : FVec Ideal S128x8x128 .f32 := along (newState a0 a1 a2 a3 a4 a5 a6 a7) (query (mixed a0 a3 a4 a7))

/-- The new memory. -/
def outMem : FVec Ideal S512x137216 .f32 :=
  Host.scatter scatter_S512x137216_S128x1_S128x137216_1_0_0_1 (fun _ b => b) a3 (place a7)
    (blocks (newState a0 a1 a2 a3 a4 a5 a6 a7) (window (rows a3 a7) a0))
end

theorem final_o (V : Valuation τ sig (Elt Ideal)) : final V (Proc.devRef .tc main_v73)
    = outO (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  unfold final
  after_reads_simp
  rfl

/-! ### The new memory: the second half of the operations, then the first half's results -/

theorem half_cat (U : Valuation τ sig (Elt Ideal)) :
    StableHlo.after ops1 U (Proc.devRef .tc main_v76)
      = concatenate S128x137216 1
    [⟨S128x131072, StableHlo.upto ops1 U 25 (Proc.devRef .tc main_v74)⟩, ⟨S128x6144, StableHlo.upto ops1 U 25 (Proc.devRef .tc main_v75)⟩]
    concatenates_S128x131072_S128x6144_S128x137216_d1 := by
  after_reads_simp

theorem half_state (U : Valuation τ sig (Elt Ideal)) (hk : U (Proc.devRef .tc main_v51) = Host.reduceAdd (F := Ideal) (mulf (U (Proc.devRef .tc main_v39)) (U (Proc.devRef .tc main_v39))) (constant S_ .f32 0x00000000#32) reducesTo_S128x8x128_S128x8_d2 h_S_) :
    StableHlo.upto ops1 U 25 (Proc.devRef .tc main_v74)
      = shapeCast S128x131072 (state (decayed (U (Proc.devRef .tc main_v2)) (U (Proc.devRef .tc main_v29)))
      (delta (decayed (U (Proc.devRef .tc main_v2)) (U (Proc.devRef .tc main_v29))) (unit (U (Proc.devRef .tc main_v39))) (U (Proc.devRef .tc main_v20)) (U (Proc.devRef .tc main_v35))) (unit (U (Proc.devRef .tc main_v39)))) shapeCasts_S128x8x128x128_S128x131072 := by
  after_reads_simp
  rw [hk]
  rfl

theorem half_tail (U : Valuation τ sig (Elt Ideal)) :
    StableHlo.upto ops1 U 25 (Proc.devRef .tc main_v75) = shapeCast S128x6144 (U (Proc.devRef .tc main_v16)) shapeCasts_S128x3x2048_S128x6144 := by
  after_reads_simp
  rfl

theorem half_mem (U : Valuation τ sig (Elt Ideal)) :
    StableHlo.after ops1 U (Proc.devRef .tc main_v83)
      = Host.scatter scatter_S512x137216_S128x1_S128x137216_1_0_0_1 (fun _ b => b) (U (Proc.devRef .tc main_arg3)) (place (U (Proc.devRef .tc main_arg7)))
         (StableHlo.after ops1 U (Proc.devRef .tc main_v76)) := by
  after_reads_simp
  rfl

section
variable (V : Valuation τ sig (Elt Ideal))

theorem first_args : StableHlo.after ops0 V (Proc.devRef .tc main_arg3) = V (Proc.devRef .tc main_arg3) ∧ StableHlo.after ops0 V (Proc.devRef .tc main_arg7) = V (Proc.devRef .tc main_arg7) := by
  constructor <;> after_reads_simp
theorem first_heads : StableHlo.after ops0 V (Proc.devRef .tc main_v2) = heads (rows (V (Proc.devRef .tc main_arg3)) (V (Proc.devRef .tc main_arg7))) := by
  after_reads_simp; rfl
theorem first_gate : StableHlo.after ops0 V (Proc.devRef .tc main_v29) = gate (V (Proc.devRef .tc main_arg2)) (V (Proc.devRef .tc main_arg5)) (V (Proc.devRef .tc main_arg6)) := by
  after_reads_simp; rfl
theorem first_beta : StableHlo.after ops0 V (Proc.devRef .tc main_v35) = beta (V (Proc.devRef .tc main_arg1)) := by
  after_reads_simp; rfl
theorem first_value : StableHlo.after ops0 V (Proc.devRef .tc main_v20)
    = value (mixed (V (Proc.devRef .tc main_arg0)) (V (Proc.devRef .tc main_arg3)) (V (Proc.devRef .tc main_arg4)) (V (Proc.devRef .tc main_arg7))) := by
  after_reads_simp; rfl
theorem first_key : StableHlo.after ops0 V (Proc.devRef .tc main_v39)
    = twice (extractStridedSlice S128x4x128 ![0, 4, 0] (split (mixed (V (Proc.devRef .tc main_arg0)) (V (Proc.devRef .tc main_arg3)) (V (Proc.devRef .tc main_arg4)) (V (Proc.devRef .tc main_arg7)))) slices_S128x16x128_S128x4x128_0_4_0) := by
  after_reads_simp; rfl
theorem first_sum : StableHlo.after ops0 V (Proc.devRef .tc main_v51)
    = Host.reduceAdd (F := Ideal) (mulf (StableHlo.after ops0 V (Proc.devRef .tc main_v39)) (StableHlo.after ops0 V (Proc.devRef .tc main_v39))) (constant S_ .f32 0x00000000#32) reducesTo_S128x8x128_S128x8_d2 h_S_ := by
  after_reads_simp
theorem first_tail : StableHlo.after ops0 V (Proc.devRef .tc main_v16)
    = extractStridedSlice S128x3x2048 ![0, 1, 0] (window (rows (V (Proc.devRef .tc main_arg3)) (V (Proc.devRef .tc main_arg7))) (V (Proc.devRef .tc main_arg0))) slices_S128x4x2048_S128x3x2048_0_1_0 := by
  after_reads_simp; rfl

theorem final_mem : final V (Proc.devRef .tc main_v83)
    = outMem (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  unfold final
  rw [half_mem, half_cat, half_state _ (first_sum V), half_tail, first_heads, first_gate, first_beta, first_value, first_key, first_tail, (first_args V).1, (first_args V).2]
  rfl
end

end Cert.Ref

end
-- ==== Proof.RefIdx.lean ====
/- The reference's pieces read at an index, on the exact numbers. -/
module

public import proofs.«01_k».proof.Proof.RefVal
public import Idealize.ShloMosaic.Lib.Pointwise
public import Idealize.ShloMosaic.Lib.Routing.Ops
public import Idealize.ShloMosaic.Lib.Tactic.WordOmega

@[expose] public section

set_option maxRecDepth 65536
set_option Elab.async false

noncomputable section

namespace Cert.Ref

open Cert.ReferenceIdeal Cert.ReferenceIdeal.Gen
open Idealize.ShloMosaic Idealize.ShloMosaic.TcCoe Idealize.SL.Sem

theorem place_at (b : IVec S128 32) (e : Fin 128) (hb : (b (ix1 e)).toNat < 512) : place b (ix2 e 0) = b (ix1 e) := by
  pointwise [place]
  word_omega

theorem inside_at (i : IVec S128x1 32) (e : Fin 128) (hi : (i (ix2 e 0)).toNat < 512) : inside i (ix1 e) = 1#1 := by
  pointwise [inside]
  rw [Finset.univ_unique, Finset.fold_singleton]
  show IntOp.andi (IntOp.andi (IntOp.cmpi .sge (i (ix2 e 0)) 0#32) (IntOp.cmpi .sle (i (ix2 e 0)) 511#32)) 1#1 = 1#1
  generalize i (ix2 e 0) = w at hi ⊢
  have h1 : IntOp.cmpi .sge w 0#32 = 1#1 := by word_omega
  have h2 : IntOp.cmpi .sle w 511#32 = 1#1 := by word_omega
  rw [h1, h2]
  rfl

theorem heads_at (R : FVec Ideal S128x137216 .f32) (e : Fin 128) (h : Fin 8) (v d : Fin 128) :
    heads R (ix4 e h v d) = R (ix2 e ⟨16384 * h.val + 128 * v.val + d.val, by omega⟩) := by
  pointwise [heads]
  exact congrArg (fun j => R (ix2 e j)) (Fin.ext (by show h.val * 16384 + v.val * 128 + d.val = 16384 * h.val + 128 * v.val + d.val; omega))

theorem rows_at (M : FVec Ideal S512x137216 .f32) (b : IVec S128 32) (e : Fin 128) (j : Fin 137216) (hb : (b (ix1 e)).toNat < 512) :
    rows M b (ix2 e j) = M (ix2 ⟨(b (ix1 e)).toNat % 512, Nat.mod_lt _ (by decide)⟩ j) := by
  have hp := place_at b e hb
  have hi : inside (place b) (ix1 e) = 1#1 := inside_at _ e (by rw [hp]; exact hb)
  have hg := Routing.gather_row gather_S512x137216_S128x1_S128x137216_1_0_n_n_0_1_1137216 rfl rfl rfl rfl rfl M (place b) e j ⟨(b (ix1 e)).toNat % 512, Nat.mod_lt _ (by decide)⟩
    (hp.trans (BitVec.eq_of_toNat_eq (by
      show (b (ix1 e)).toNat = ((b (ix1 e)).toNat % 512) % 4294967296
      omega))) (by decide)
  refine Eq.trans ?_ hg
  pointwise [rows]
  rw [hi]
  rfl

theorem window_kept (R : FVec Ideal S128x137216 .f32) (u : FVec Ideal S128x2048 .f32) (e : Fin 128) (k : Fin 3) (l : Fin 2048) :
    window R u (ix3 e k.castSucc l) = R (ix2 e ⟨131072 + 2048 * k.val + l.val, by omega⟩) := by
  pointwise [window]
  refine (dif_pos (show k.castSucc.val < 3 from k.isLt)).trans ?_
  exact congrArg (fun j => R (ix2 e j)) (Fin.ext (by show 131072 + (k.val * 2048 + l.val) = 131072 + 2048 * k.val + l.val; omega))

theorem window_new (R : FVec Ideal S128x137216 .f32) (u : FVec Ideal S128x2048 .f32) (e : Fin 128) (l : Fin 2048) :
    window R u (ix3 e 3 l) = u (ix2 e l) := by
  pointwise [window]

theorem conv_at (w : FVec Ideal S2048x4 .f32) (W : FVec Ideal S128x4x2048 .f32) (e : Fin 128) (l : Fin 2048) :
    conv w W (ix2 e l) = ∑ k : Fin 4, w (ix2 l k) * W (ix3 e k l) := by
  pointwise [conv]

theorem silu_at (x : FVec Ideal S128x2048 .f32) (e : Fin 128) (l : Fin 2048) :
    silu x (ix2 e l) = x (ix2 e l) * Ideal.div 1 (1 + Ideal.exp (-(x (ix2 e l)))) := by
  pointwise [silu]

theorem key_pre (x : FVec Ideal S128x2048 .f32) (e : Fin 128) (h : Fin 8) (d : Fin 128) :
    twice (extractStridedSlice S128x4x128 ![0, 4, 0] (split x) slices_S128x16x128_S128x4x128_0_4_0) (ix3 e h d)
      = x (ix2 e ⟨512 + 128 * (h.val / 2) + d.val, by omega⟩) := by
  pointwise [twice, split]
  exact congrArg (fun j => x (ix2 e j)) (Fin.ext (by show (4 + h.val / 2) * 128 + d.val = 512 + 128 * (h.val / 2) + d.val; omega))

theorem query_pre (x : FVec Ideal S128x2048 .f32) (e : Fin 128) (h : Fin 8) (d : Fin 128) :
    twice (extractStridedSlice S128x4x128 ![0, 0, 0] (split x) slices_S128x16x128_S128x4x128_0_0_0) (ix3 e h d)
      = x (ix2 e ⟨128 * (h.val / 2) + d.val, by omega⟩) := by
  pointwise [twice, split]
  exact congrArg (fun j => x (ix2 e j)) (Fin.ext (by show h.val / 2 * 128 + d.val = 128 * (h.val / 2) + d.val; omega))

theorem value_at (x : FVec Ideal S128x2048 .f32) (e : Fin 128) (h : Fin 8) (d : Fin 128) :
    value x (ix3 e h d) = x (ix2 e ⟨1024 + 128 * h.val + d.val, by omega⟩) := by
  pointwise [value, split]
  exact congrArg (fun j => x (ix2 e j)) (Fin.ext (by show (8 + h.val) * 128 + d.val = 1024 + 128 * h.val + d.val; omega))

theorem unit_at (q : FVec Ideal S128x8x128 .f32) (e : Fin 128) (h : Fin 8) (d : Fin 128) :
    unit q (ix3 e h d) = Ideal.div (q (ix3 e h d)) (Ideal.sqrt ((∑ k : Fin 128, q (ix3 e h k) * q (ix3 e h k)) + Ideal.ofBits .f32 0x358637BD#32)) := by
  pointwise [unit]

theorem query_at (x : FVec Ideal S128x2048 .f32) (e : Fin 128) (h : Fin 8) (d : Fin 128) :
    query x (ix3 e h d) = unit (twice (extractStridedSlice S128x4x128 ![0, 0, 0] (split x) slices_S128x16x128_S128x4x128_0_0_0)) (ix3 e h d) * Ideal.ofBits .f32 0x3DB504F3#32 := by
  pointwise [query]

theorem softplus_at (x : FVec Ideal S128x8 .f32) (e : Fin 128) (h : Fin 8) :
    softplus x (ix2 e h) = max (x (ix2 e h)) 0 + Ideal.log (1 + Ideal.exp (-(max (x (ix2 e h)) (-(x (ix2 e h)))))) := by
  pointwise [softplus]
  rw [if_neg (fun h => h rfl)]
  rfl

theorem bias_at (a : FVec Ideal S128x8 .f32) (dt : FVec Ideal S8 .f32) (e : Fin 128) (h : Fin 8) :
    addf a (broadcastInDim S128x8 ![0, 1] bcast_S1x8_S128x8_0_1 (broadcastInDim S1x8 ![1] bcast_S8_S1x8_1 dt)) (ix2 e h) = a (ix2 e h) + dt (ix1 h) := by
  pointwise

theorem gate_at (a : FVec Ideal S128x8 .f32) (dt al : FVec Ideal S8 .f32) (e : Fin 128) (h : Fin 8) :
    gate a dt al (ix2 e h) = -(Ideal.exp (al (ix1 h))) * softplus (addf a (broadcastInDim S128x8 ![0, 1] bcast_S1x8_S128x8_0_1 (broadcastInDim S1x8 ![1] bcast_S8_S1x8_1 dt))) (ix2 e h) := by
  pointwise [gate]

theorem beta_at (b : FVec Ideal S128x8 .f32) (e : Fin 128) (h : Fin 8) :
    beta b (ix2 e h) = Ideal.div 1 (1 + Ideal.exp (-(b (ix2 e h)))) := by
  pointwise [beta]

theorem decayed_at (S : FVec Ideal S128x8x128x128 .f32) (g : FVec Ideal S128x8 .f32) (e : Fin 128) (h : Fin 8) (v d : Fin 128) :
    decayed S g (ix4 e h v d) = S (ix4 e h v d) * Ideal.exp (g (ix2 e h)) := by
  pointwise [decayed]

theorem along_at (S : FVec Ideal S128x8x128x128 .f32) (k : FVec Ideal S128x8x128 .f32) (e : Fin 128) (h : Fin 8) (v : Fin 128) :
    along S k (ix3 e h v) = ∑ d : Fin 128, S (ix4 e h v d) * k (ix3 e h d) := by
  pointwise [along]

theorem delta_at (S : FVec Ideal S128x8x128x128 .f32) (k v : FVec Ideal S128x8x128 .f32) (bt : FVec Ideal S128x8 .f32) (e : Fin 128) (h : Fin 8) (w : Fin 128) :
    delta S k v bt (ix3 e h w) = (v (ix3 e h w) - along S k (ix3 e h w)) * bt (ix2 e h) := by
  pointwise [delta]

theorem state_at (S : FVec Ideal S128x8x128x128 .f32) (D k : FVec Ideal S128x8x128 .f32) (e : Fin 128) (h : Fin 8) (v d : Fin 128) :
    state S D k (ix4 e h v d) = S (ix4 e h v d) + D (ix3 e h v) * k (ix3 e h d) := by
  pointwise [state]

theorem cat_fst (A : FVec Ideal S128x131072 .f32) (B : FVec Ideal S128x6144 .f32) (e : Fin 128) (j : Fin 131072) :
    concatenate S128x137216 1 [⟨S128x131072, A⟩, ⟨S128x6144, B⟩] concatenates_S128x131072_S128x6144_S128x137216_d1 (ix2 e ⟨j.val, by omega⟩) = A (ix2 e j) := by
  rw [concatenate_pair_apply]
  refine (dif_pos (show j.val < 131072 from j.isLt)).trans (congrArg A (funext fun a => ?_))
  match a with
  | 0 => rfl
  | 1 => rfl

theorem cat_snd (A : FVec Ideal S128x131072 .f32) (B : FVec Ideal S128x6144 .f32) (e : Fin 128) (j : Fin 6144) :
    concatenate S128x137216 1 [⟨S128x131072, A⟩, ⟨S128x6144, B⟩] concatenates_S128x131072_S128x6144_S128x137216_d1 (ix2 e ⟨131072 + j.val, by omega⟩) = B (ix2 e j) := by
  rw [concatenate_pair_apply]
  refine (dif_neg (show ¬ 131072 + j.val < 131072 by omega)).trans (congrArg B (funext fun a => ?_))
  match a with
  | 0 => rfl
  | 1 => exact Fin.ext (by show 131072 + j.val - 131072 = j.val; omega)

theorem flat_at (N : FVec Ideal S128x8x128x128 .f32) (e : Fin 128) (q : Fin 131072) :
    shapeCast S128x131072 N shapeCasts_S128x8x128x128_S128x131072 (ix2 e q)
      = N (ix4 e ⟨q.val / 16384, by omega⟩ ⟨q.val / 128 % 128, by omega⟩ ⟨q.val % 128, by omega⟩) := by
  pointwise

theorem flat_state (N : FVec Ideal S128x8x128x128 .f32) (e : Fin 128) (h : Fin 8) (v d : Fin 128) :
    shapeCast S128x131072 N shapeCasts_S128x8x128x128_S128x131072 (ix2 e ⟨16384 * h.val + 128 * v.val + d.val, by omega⟩) = N (ix4 e h v d) := by
  have e1 : (⟨(16384 * h.val + 128 * v.val + d.val) / 16384, by omega⟩ : Fin 8) = h := Fin.ext (by show (16384 * h.val + 128 * v.val + d.val) / 16384 = h.val; omega)
  have e2 : (⟨(16384 * h.val + 128 * v.val + d.val) / 128 % 128, by omega⟩ : Fin 128) = v := Fin.ext (by show (16384 * h.val + 128 * v.val + d.val) / 128 % 128 = v.val; omega)
  have e3 : (⟨(16384 * h.val + 128 * v.val + d.val) % 128, by omega⟩ : Fin 128) = d := Fin.ext (by show (16384 * h.val + 128 * v.val + d.val) % 128 = d.val; omega)
  have g := flat_at N e ⟨16384 * h.val + 128 * v.val + d.val, by omega⟩
  dsimp only at g
  rw [e1, e2, e3] at g
  exact g

theorem blocks_state (N : FVec Ideal S128x8x128x128 .f32) (W : FVec Ideal S128x4x2048 .f32) (e : Fin 128) (h : Fin 8) (v d : Fin 128) :
    blocks N W (ix2 e ⟨16384 * h.val + 128 * v.val + d.val, by omega⟩) = N (ix4 e h v d) :=
  (cat_fst _ _ e ⟨16384 * h.val + 128 * v.val + d.val, by omega⟩).trans (flat_state N e h v d)

theorem flat_tail (W : FVec Ideal S128x4x2048 .f32) (e : Fin 128) (k : Fin 3) (l : Fin 2048) :
    shapeCast S128x6144 (extractStridedSlice S128x3x2048 ![0, 1, 0] W slices_S128x4x2048_S128x3x2048_0_1_0) shapeCasts_S128x3x2048_S128x6144 (ix2 e ⟨2048 * k.val + l.val, by omega⟩)
      = W (ix3 e k.succ l) := by
  pointwise
  exact congrArg (fun k => W (ix3 e k l)) (Fin.ext (by show 1 + k.val = k.val + 1; omega))

theorem blocks_tail (N : FVec Ideal S128x8x128x128 .f32) (W : FVec Ideal S128x4x2048 .f32) (e : Fin 128) (k : Fin 3) (l : Fin 2048) (j : Fin 137216)
    (hj : j.val = 131072 + (2048 * k.val + l.val)) : blocks N W (ix2 e j) = W (ix3 e k.succ l) := by
  have e1 : j = ⟨131072 + (2048 * k.val + l.val), by omega⟩ := Fin.ext hj
  rw [e1]
  exact (cat_snd _ _ e ⟨2048 * k.val + l.val, by omega⟩).trans (flat_tail W e k l)

end Cert.Ref

end
-- ==== Proof.RefRow.lean ====
/- The reference's rows are the rows the kernel's calls compute. -/
module

public import proofs.«01_k».proof.Proof.Algebra
public import proofs.«01_k».proof.Proof.RefIdx

@[expose] public section

set_option Elab.async false

noncomputable section

namespace Cert.Match

open Cert.KernelIdeal.Gen (mixR convR sigR gateR keyR queryR valR stateR deltaR newR outR unitR memRowR memRowR_state)
open Cert.Ref
open Cert.ReferenceIdeal Cert.ReferenceIdeal.Gen
open Idealize.ShloMosaic

section
variable (a0 : FVec Ideal S128x2048 .f32) (a1 a2 : FVec Ideal S128x8 .f32) (a3 : FVec Ideal S512x137216 .f32) (a4 : FVec Ideal S2048x4 .f32)
  (a5 a6 : FVec Ideal S8 .f32) (a7 : IVec S128 32)

/-- The memory row token `e` reads. -/
def src (e : Fin 128) (l : Fin 137216) : EReal := a3 (ix2 ⟨(a7 (ix1 e)).toNat % 512, Nat.mod_lt _ (by decide)⟩ l)
/-- The convolved row of token `e`. -/
def row (e : Fin 128) (l : Fin 2048) : EReal := mixR (src a3 a7 e) (fun l => a0 (ix2 e l)) (fun k l => a4 (ix2 l k)) l

variable (hb : ∀ e : Fin 128, (a7 (ix1 e)).toNat < 512)
include hb

theorem conv_row (e : Fin 128) (l : Fin 2048) :
    conv a4 (window (rows a3 a7) a0) (ix2 e l) = convR (src a3 a7 e) (fun l => a0 (ix2 e l)) (fun k l => a4 (ix2 l k)) l := by
  rw [conv_at, Fin.sum_univ_four]
  have w0 := (window_kept (rows a3 a7) a0 e 0 l).trans (rows_at a3 a7 e _ (hb e))
  have w1 := (window_kept (rows a3 a7) a0 e 1 l).trans (rows_at a3 a7 e _ (hb e))
  have w2 := (window_kept (rows a3 a7) a0 e 2 l).trans (rows_at a3 a7 e _ (hb e))
  refine (congrArg₂ (· + ·) (congrArg₂ (· + ·) (congrArg₂ (· + ·) (congrArg (a4 (ix2 l 0) * ·) w0) (congrArg (a4 (ix2 l 1) * ·) w1))
    (congrArg (a4 (ix2 l 2) * ·) w2)) (congrArg (a4 (ix2 l 3) * ·) (window_new (rows a3 a7) a0 e l))).trans ?_
  unfold convR
  dsimp only
  rw [mul_comm (a4 (ix2 l 0)), mul_comm (a4 (ix2 l 1)), mul_comm (a4 (ix2 l 2)), mul_comm (a4 (ix2 l 3))]
  rfl

theorem mixed_row (e : Fin 128) (l : Fin 2048) : mixed a0 a3 a4 a7 (ix2 e l) = row a0 a3 a4 a7 e l := by
  unfold mixed
  rw [silu_at, conv_row a0 a3 a4 a7 hb]
  unfold row mixR sigR
  rw [zero_sub]

omit hb in
theorem gate_row (e : Fin 128) (h : Fin 8) : gate a2 a5 a6 (ix2 e h) = gateR (a2 (ix2 e h)) (a5 (ix1 h)) (a6 (ix1 h)) := by
  rw [gate_at, softplus_at, bias_at]
  unfold gateR
  rw [zero_sub, zero_sub]

omit hb in
theorem beta_row (e : Fin 128) (h : Fin 8) : beta a1 (ix2 e h) = sigR (a1 (ix2 e h)) := by
  rw [beta_at]; unfold sigR; rw [zero_sub]

theorem value_row (e : Fin 128) (h : Fin 8) (v : Fin 128) : value (mixed a0 a3 a4 a7) (ix3 e h v) = valR (row a0 a3 a4 a7 e) h v := by
  rw [value_at, mixed_row a0 a3 a4 a7 hb]; rfl

variable (h0 : ∀ i, IsReal (a0 i)) (h3 : ∀ i, IsReal (a3 i)) (h4 : ∀ i, IsReal (a4 i))
include h0 h3 h4

theorem row_fin (e : Fin 128) (l : Fin 2048) : IsReal (row a0 a3 a4 a7 e l) := mix_fin (fun _ => h3 _) (fun _ => h0 _) (fun _ _ => h4 _) l

theorem key_row (e : Fin 128) (h : Fin 8) (d : Fin 128) : key (mixed a0 a3 a4 a7) (ix3 e h d) = keyR (row a0 a3 a4 a7 e) h d := by
  unfold key
  rw [unit_at]
  simp only [key_pre, mixed_row a0 a3 a4 a7 hb]
  exact (unit_eq (row_fin a0 a3 a4 a7 hb h0 h3 h4 e) (512 + 128 * (h.val / 2)) (by omega) d).1

theorem query_row (e : Fin 128) (h : Fin 8) (d : Fin 128) : query (mixed a0 a3 a4 a7) (ix3 e h d) = queryR (row a0 a3 a4 a7 e) h d := by
  rw [query_at, unit_at]
  simp only [query_pre, mixed_row a0 a3 a4 a7 hb]
  exact congrArg (· * _) (unit_eq (row_fin a0 a3 a4 a7 hb h0 h3 h4 e) (128 * (h.val / 2)) (by omega) d).1

omit h0 h4 in
theorem decayed_row (e : Fin 128) (h : Fin 8) (v d : Fin 128) : decayed (heads (rows a3 a7)) (gate a2 a5 a6) (ix4 e h v d)
    = stateR (src a3 a7 e) h v d * Ideal.exp (gateR (a2 (ix2 e h)) (a5 (ix1 h)) (a6 (ix1 h))) := by
  rw [decayed_at, heads_at, rows_at _ _ _ _ (hb e), gate_row]; rfl

theorem newState_row (e : Fin 128) (h : Fin 8) (v d : Fin 128) : newState a0 a1 a2 a3 a4 a5 a6 a7 (ix4 e h v d)
    = stateR (src a3 a7 e) h v d * Ideal.exp (gateR (a2 (ix2 e h)) (a5 (ix1 h)) (a6 (ix1 h)))
      + (valR (row a0 a3 a4 a7 e) h v
          - ∑ k : Fin 128, stateR (src a3 a7 e) h v k * Ideal.exp (gateR (a2 (ix2 e h)) (a5 (ix1 h)) (a6 (ix1 h))) * keyR (row a0 a3 a4 a7 e) h k)
        * sigR (a1 (ix2 e h)) * keyR (row a0 a3 a4 a7 e) h d := by
  unfold newState
  rw [state_at, delta_at, along_at]
  simp only [decayed_row a2 a3 a5 a6 a7 hb h3, key_row a0 a3 a4 a7 hb h0 h3 h4, value_row a0 a3 a4 a7 hb, beta_row]

/-- The new state is the one the first call computes. -/
theorem newState_eq (e : Fin 128) (h : Fin 8) (v d : Fin 128) : newState a0 a1 a2 a3 a4 a5 a6 a7 (ix4 e h v d)
    = newR (src a3 a7 e) (row a0 a3 a4 a7 e) (Ideal.exp (gateR (a2 (ix2 e h)) (a5 (ix1 h)) (a6 (ix1 h)))) (sigR (a1 (ix2 e h))) h v d := by
  rw [newState_row a0 a1 a2 a3 a4 a5 a6 a7 hb h0 h3 h4]
  unfold newR deltaR
  have hs : ∀ k, IsReal (stateR (src a3 a7 e) h v k) := fun k => h3 _
  rw [predict hs (fun k => key_fin (row_fin a0 a3 a4 a7 hb h0 h3 h4 e) h k) (decay_fin _ _ _)]

/-- The output is the one the second call computes. -/
theorem outO_eq (e : Fin 128) (h : Fin 8) (v : Fin 128) : outO a0 a1 a2 a3 a4 a5 a6 a7 (ix3 e h v)
    = outR (src a3 a7 e) (row a0 a3 a4 a7 e) (Ideal.exp (gateR (a2 (ix2 e h)) (a5 (ix1 h)) (a6 (ix1 h)))) (sigR (a1 (ix2 e h))) h v := by
  unfold outO
  rw [along_at]
  simp only [newState_row a0 a1 a2 a3 a4 a5 a6 a7 hb h0 h3 h4, query_row a0 a3 a4 a7 hb h0 h3 h4]
  have hk : ∀ k, IsReal (keyR (row a0 a3 a4 a7 e) h k) := fun k => key_fin (row_fin a0 a3 a4 a7 hb h0 h3 h4 e) h k
  have hs : ∀ k, IsReal (stateR (src a3 a7 e) h v k) := fun k => h3 _
  have he := decay_fin (a2 (ix2 e h)) (a5 (ix1 h)) (a6 (ix1 h))
  have hv : IsReal (valR (row a0 a3 a4 a7 e) h v) := row_fin a0 a3 a4 a7 hb h0 h3 h4 e _
  exact read_out hs hk (fun k => query_fin (row_fin a0 a3 a4 a7 hb h0 h3 h4 e) h k) he (fin_sub hv (fin_sum fun k => fin_mul (fin_mul (hs k) he) (hk k))) (sig_fin _)

/-- A written block is the row the first call writes for a row with a token. -/
theorem blocks_row (e : Fin 128) (j : Fin 137216) :
    blocks (newState a0 a1 a2 a3 a4 a5 a6 a7) (window (rows a3 a7) a0) (ix2 e j)
      = memRowR (src a3 a7 e) (fun l => a0 (ix2 e l)) (fun k l => a4 (ix2 l k)) 1
          (fun hh => 1 * Ideal.exp (gateR (a2 (ix2 e hh)) (a5 (ix1 hh)) (a6 (ix1 hh))) + (1 - 1)) (fun hh => sigR (a1 (ix2 e hh)) * 1) j := by
  have z : (1 : EReal) - 1 = 0 := by
    show ((1 : ℝ) : EReal) - ((1 : ℝ) : EReal) = 0
    rw [← EReal.coe_sub, sub_self]; rfl
  by_cases hj : j.val < 131072
  · obtain ⟨h, v, d, ej⟩ : ∃ (h : Fin 8) (v d : Fin 128), j = ⟨16384 * h.val + 128 * v.val + d.val, by omega⟩ :=
      ⟨⟨j.val / 16384, by omega⟩, ⟨j.val / 128 % 128, by omega⟩, ⟨j.val % 128, by omega⟩, Fin.ext (by dsimp only; omega)⟩
    rw [ej, blocks_state, memRowR_state, newState_eq a0 a1 a2 a3 a4 a5 a6 a7 hb h0 h3 h4, z, one_mul, add_zero, mul_one]
    rfl
  · unfold memRowR
    rw [dif_neg hj]
    by_cases hk : j.val < 135168
    · rw [dif_pos hk, z, one_mul, zero_mul, add_zero]
      have e1 := blocks_tail (newState a0 a1 a2 a3 a4 a5 a6 a7) (window (rows a3 a7) a0) e
        ((⟨(j.val - 131072) / 2048, by omega⟩ : Fin 2).castSucc) ⟨(j.val - 131072) % 2048, by omega⟩ j
        (by show j.val = 131072 + (2048 * ((j.val - 131072) / 2048) + (j.val - 131072) % 2048); omega)
      have e2 := (window_kept (rows a3 a7) a0 e ((⟨(j.val - 131072) / 2048, by omega⟩ : Fin 2).succ) ⟨(j.val - 131072) % 2048, by omega⟩).trans (rows_at a3 a7 e _ (hb e))
      refine e1.trans (Eq.trans ?_ (e2.trans ?_))
      · rfl
      · exact congrArg (src a3 a7 e) (Fin.ext (by show 131072 + 2048 * ((j.val - 131072) / 2048 + 1) + (j.val - 131072) % 2048 = j.val + 2048; omega))
    · rw [dif_neg hk, z, one_mul, zero_mul, add_zero]
      have e1 := blocks_tail (newState a0 a1 a2 a3 a4 a5 a6 a7) (window (rows a3 a7) a0) e 2 ⟨j.val - 135168, by omega⟩ j
        (by show j.val = 131072 + (2048 * 2 + (j.val - 135168)); omega)
      exact e1.trans (window_new (rows a3 a7) a0 e _)
end

end Cert.Match

end
-- ==== Proof.LastHit.lean ====
/- A scatter that sets, read at an element: the last update that lands there stands. -/
module

public import proofs.«01_k».proof.Proof.RefRow
public import proofs.«01_k».proof.Proof.Table
public import proofs.«01_k».proof.Proof.MemArr
public import proofs.«01_k».proof.Proof.OArr
public import Idealize.ShloMosaic.Lib.Routing.OpsSet
public import Idealize.ShloMosaic.Lib.Routing.OpsPair

@[expose] public section

set_option Elab.async false

noncomputable section

namespace Cert.Match

open Cert.KernelIdeal.Gen (mixR convR sigR gateR memRowR memRowR_off memVal memVal_word oVal outR tokens tokens_word places rowNo rowNo_lt flag TokWord)
open Cert.Ref
open Cert.ReferenceIdeal Cert.ReferenceIdeal.Gen
open Idealize.ShloMosaic

/-- A fold over `Fin N` that takes each hit's value holds the last hit's. -/
theorem fold_last {α : Type} : ∀ (N : ℕ) (P : Fin N → Prop) [DecidablePred P] (val : Fin N → α) (a : α) (k : Fin N), P k → (∀ k', k < k' → ¬ P k') →
    (List.finRange N).foldl (fun a n => if P n then val n else a) a = val k
  | 0, _, _, _, _, k, _, _ => k.elim0
  | N + 1, P, _, val, a, k, hk, hl => by
    rw [List.finRange_succ_last, List.foldl_append, List.foldl_map]
    show (if P (Fin.last N) then val (Fin.last N) else _) = _
    by_cases e : k = Fin.last N
    · subst e; rw [if_pos hk]
    · obtain ⟨k0, rfl⟩ := Fin.exists_castSucc_eq.2 e
      rw [if_neg (hl _ (Fin.castSucc_lt_last k0))]
      exact fold_last N (fun n => P n.castSucc) (fun n => val n.castSucc) a k0 hk fun k' h => hl _ (Fin.castSucc_lt_castSucc_iff.2 h)

/-- A scatter that sets, at an element where update `k` lands and none after it: update `k`. -/
theorem scatter_last {α : Type} {s si u : Shape} {w : ℕ} (d : ScatterDims s si u) (x0 : s.Idx → α) (idx : IVec si w) (upd : u.Idx → α) (ι : s.Idx) (k : u.Idx)
    (hk : d.resultIdx? k idx = some ι) (hl : ∀ k', u.rowMajor k < u.rowMajor k' → d.resultIdx? k' idx ≠ some ι) :
    Host.scatter d (fun _ b => b) x0 idx upd ι = upd k := by
  rw [Routing.scatter_at]
  refine (fold_last u.numel (fun n => d.resultIdx? (u.rowMajor.symm n) idx = some ι) (fun n => upd (u.rowMajor.symm n)) (x0 ι) (u.rowMajor k)
    (by rw [Equiv.symm_apply_apply]; exact hk) fun n hn => hl _ (by rw [Equiv.apply_symm_apply]; exact hn)).trans ?_
  rw [Equiv.symm_apply_apply]

/-! ### Where the two scatters write -/

theorem lands_token (idx : IVec S128x1 32) (e : Fin 128) (n : Fin 512) :
    Cert.KernelIdeal.scatter_S512_S128x1_S128_n_0_0_1.resultIdx? (ix1 e) idx = some (ix1 n) ↔ (idx (ix2 e 0)).toInt = (n.val : Int) := by
  have hw : Cert.KernelIdeal.scatter_S512_S128x1_S128_n_0_0_1.window (ix1 e) 0 = 0 := by
    unfold ScatterDims.window
    rw [dif_neg (by decide)]
  have hs : Cert.KernelIdeal.scatter_S512_S128x1_S128_n_0_0_1.start (ix1 e) idx 0 = (idx (ix2 e 0)).toInt := by
    unfold ScatterDims.start
    rw [dif_pos (by decide)]
    refine congrArg (fun i => (idx i).toInt) (funext fun b => ?_)
    match b with
    | 0 => rfl
    | 1 => rfl
  refine (Routing.resultIdx?_ix1 Cert.KernelIdeal.scatter_S512_S128x1_S128_n_0_0_1 (ix1 e) idx n).trans ?_
  rw [hw, hs]
  omega

theorem lands_row (idx : IVec S128x1 32) (e : Fin 128) (c : Fin 137216) (n : Fin 512) (j : Fin 137216) :
    scatter_S512x137216_S128x1_S128x137216_1_0_0_1.resultIdx? (ix2 e c) idx = some (ix2 n j) ↔ (idx (ix2 e 0)).toInt = (n.val : Int) ∧ c = j := by
  have hw0 : scatter_S512x137216_S128x1_S128x137216_1_0_0_1.window (ix2 e c) 0 = 0 := by
    unfold ScatterDims.window
    rw [dif_neg (by decide)]
  have hw1 : scatter_S512x137216_S128x1_S128x137216_1_0_0_1.window (ix2 e c) 1 = c.val := by
    unfold ScatterDims.window
    rw [dif_pos (by decide)]
    rfl
  have hs0 : scatter_S512x137216_S128x1_S128x137216_1_0_0_1.start (ix2 e c) idx 0 = (idx (ix2 e 0)).toInt := by
    unfold ScatterDims.start
    rw [dif_pos (by decide)]
    refine congrArg (fun i => (idx i).toInt) (funext fun b => ?_)
    match b with
    | 0 => rfl
    | 1 => rfl
  have hs1 : scatter_S512x137216_S128x1_S128x137216_1_0_0_1.start (ix2 e c) idx 1 = 0 := by
    unfold ScatterDims.start
    rw [dif_neg (by decide)]
  refine (Routing.resultIdx?_ix2 scatter_S512x137216_S128x1_S128x137216_1_0_0_1 (ix2 e c) idx n j).trans ?_
  rw [hw0, hs0, hw1, hs1, Fin.ext_iff]
  omega

/-! ### The tokens of a memory row -/

section
variable (b : IVec S128 32) (hb : ∀ e : Fin 128, (b (ix1 e)).toNat < 512)
include hb

theorem place_int (e : Fin 128) (n : Fin 512) : (place b (ix2 e 0)).toInt = (n.val : Int) ↔ (b (ix1 e)).toNat = n.val := by
  rw [place_at b e (hb e), BitVec.toInt_eq_toNat_cond, if_pos (by have := hb e; omega)]
  omega

/-- No token writes the row: its word is −1. -/
theorem tokens_none (n : Fin 512) (h : ∀ e : Fin 128, (b (ix1 e)).toNat ≠ n.val) : tokens b (ix1 n) = 4294967295#32 := by
  unfold tokens
  refine (Routing.scatter_set_miss _ _ _ _ _ fun k hk => ?_).trans rfl
  rw [eq_ix1 k] at hk
  exact h _ ((place_int b hb _ n).1 ((lands_token _ _ n).1 hk))

/-- The last token that writes the row: its word is that token's number. -/
theorem tokens_last (n : Fin 512) (e : Fin 128) (he : (b (ix1 e)).toNat = n.val) (hl : ∀ e' : Fin 128, e < e' → (b (ix1 e')).toNat ≠ n.val) :
    tokens b (ix1 n) = BitVec.ofNat 32 e.val := by
  unfold tokens
  refine (scatter_last _ _ _ _ _ (ix1 e) ((lands_token _ e n).2 ((place_int b hb e n).2 he)) fun k h hk => ?_).trans rfl
  rw [eq_ix1 k] at hk h
  refine hl (k 0) ?_ ((place_int b hb _ n).1 ((lands_token _ _ n).1 hk))
  rw [Fin.lt_def, Shape.rowMajor_val_one, Shape.rowMajor_val_one] at h
  exact h

theorem memory_none (M : FVec Ideal S512x137216 .f32) (U : FVec Ideal S128x137216 .f32) (n : Fin 512) (j : Fin 137216) (h : ∀ e : Fin 128, (b (ix1 e)).toNat ≠ n.val) :
    Host.scatter scatter_S512x137216_S128x1_S128x137216_1_0_0_1 (fun _ b => b) M (place b) U (ix2 n j) = M (ix2 n j) := by
  refine Routing.scatter_set_miss _ _ _ _ _ fun k hk => ?_
  rw [eq_ix2 k] at hk
  exact h _ ((place_int b hb _ n).1 ((lands_row _ _ _ n j).1 hk).1)

theorem memory_last (M : FVec Ideal S512x137216 .f32) (U : FVec Ideal S128x137216 .f32) (n : Fin 512) (j : Fin 137216) (e : Fin 128) (he : (b (ix1 e)).toNat = n.val)
    (hl : ∀ e' : Fin 128, e < e' → (b (ix1 e')).toNat ≠ n.val) :
    Host.scatter scatter_S512x137216_S128x1_S128x137216_1_0_0_1 (fun _ b => b) M (place b) U (ix2 n j) = U (ix2 e j) := by
  refine scatter_last _ _ _ _ _ (ix2 e j) ((lands_row _ e j n j).2 ⟨(place_int b hb e n).2 he, rfl⟩) fun k h hk => ?_
  rw [eq_ix2 k] at hk h
  obtain ⟨h1, h2⟩ := (lands_row _ _ _ n j).1 hk
  refine hl (k 0) ?_ ((place_int b hb _ n).1 h1)
  rw [Fin.lt_def, Shape.rowMajor_val_two, Shape.rowMajor_val_two, h2] at h
  change e.val * 137216 + j.val < (k 0).val * 137216 + j.val at h
  show e.val < (k 0).val
  omega

omit hb in
/-- A row no token writes, or the last of those that do. -/
theorem last_token (n : Fin 512) : (∀ e : Fin 128, (b (ix1 e)).toNat ≠ n.val)
    ∨ ∃ e : Fin 128, (b (ix1 e)).toNat = n.val ∧ ∀ e' : Fin 128, e < e' → (b (ix1 e')).toNat ≠ n.val := by
  by_cases h : ∃ e : Fin 128, (b (ix1 e)).toNat = n.val
  · obtain ⟨e0, h0⟩ := h
    obtain ⟨e, he, hm⟩ := Finset.exists_max_image (Finset.univ.filter fun e : Fin 128 => (b (ix1 e)).toNat = n.val) id ⟨e0, Finset.mem_filter.2 ⟨Finset.mem_univ _, h0⟩⟩
    exact .inr ⟨e, (Finset.mem_filter.1 he).2, fun e' hlt h' => absurd (hm e' (Finset.mem_filter.2 ⟨Finset.mem_univ _, h'⟩)) (not_le.2 hlt)⟩
  · exact .inl fun e he => h ⟨e, he⟩
end

/-! ### The word of a row -/

theorem rowNo_of (e : Fin 128) : rowNo (BitVec.ofNat 32 e.val) = e.val := by
  revert e; decide +kernel

theorem word_of (e : Fin 128) : TokWord (BitVec.ofNat 32 e.val) := by
  revert e; decide +kernel

theorem flag_of (e : Fin 128) : flag (BitVec.ofNat 32 e.val) = 1 := by
  have h : IntOp.cmpi .sge (BitVec.ofNat 32 e.val) 0#32 = 1#1 := by revert e; decide +kernel
  unfold flag
  rw [h]
  exact (by simp : (((1#32 : BitVec 32).toInt : ℝ) : EReal) = 1)

theorem flag_none : flag 4294967295#32 = 0 := by
  unfold flag
  exact (by simp : (((0#32 : BitVec 32).toInt : ℝ) : EReal) = 0)

/-! ### The two results -/

section
variable (a0 : FVec Ideal S128x2048 .f32) (a1 a2 : FVec Ideal S128x8 .f32) (a3 : FVec Ideal S512x137216 .f32) (a4 : FVec Ideal S2048x4 .f32)
  (a5 a6 : FVec Ideal S8 .f32) (a7 : IVec S128 32)
  (hb : ∀ e : Fin 128, (a7 (ix1 e)).toNat < 512) (h0 : ∀ i, IsReal (a0 i)) (h3 : ∀ i, IsReal (a3 i)) (h4 : ∀ i, IsReal (a4 i))
include hb h0 h3 h4

/-- The reference's memory is the first call's. -/
theorem outMem_eq (n : Fin 512) (j : Fin 137216) : outMem a0 a1 a2 a3 a4 a5 a6 a7 (ix2 n j)
    = memVal a0 a1 a2 a3 (fun k l => a4 (ix2 l k)) (fun hh => a5 (ix1 hh)) (fun hh => a6 (ix1 hh)) (tokens a7 (ix1 n)) (tokens_word _ _) n j := by
  unfold outMem
  rcases last_token a7 n with h | ⟨e, he, hl⟩
  · rw [memory_none a7 hb _ _ n j h]
    refine Eq.trans ?_ (memVal_word _ _ _ _ _ _ _ (tokens_none a7 hb n h).symm (by decide) _ n j)
    unfold memVal
    rw [flag_none, memRowR_off]
  · rw [memory_last a7 hb _ _ n j e he hl]
    have hw : TokWord (BitVec.ofNat 32 e.val) := word_of e
    refine Eq.trans ?_ (memVal_word _ _ _ _ _ _ _ (tokens_last a7 hb n e he hl).symm hw _ n j)
    have hr : (⟨rowNo (BitVec.ofNat 32 e.val), rowNo_lt hw⟩ : Fin 128) = e := Fin.ext (rowNo_of e)
    have hsrc : src a3 a7 e = fun l => a3 (ix2 n l) := funext fun l => congrArg (fun r => a3 (ix2 r l)) (Fin.ext (by
      show (a7 (ix1 e)).toNat % 512 = n.val
      rw [he]; omega))
    unfold memVal
    rw [hr, flag_of, blocks_row a0 a1 a2 a3 a4 a5 a6 a7 hb h0 h3 h4 e j, hsrc]

/-- The reference's output is the second call's. -/
theorem outO_val (e : Fin 128) (h : Fin 8) (v : Fin 128) : outO a0 a1 a2 a3 a4 a5 a6 a7 (ix3 e h v)
    = oVal a0 a1 a2 a3 (fun k l => a4 (ix2 l k)) (fun hh => a5 (ix1 hh)) (fun hh => a6 (ix1 hh))
        ⟨(a7 (ix1 e)).toNat % 512, Nat.mod_lt _ (by decide)⟩ e ⟨128 * h.val + v.val, by omega⟩ := by
  rw [outO_eq a0 a1 a2 a3 a4 a5 a6 a7 hb h0 h3 h4]
  have e1 : (⟨(128 * h.val + v.val) / 128, by omega⟩ : Fin 8) = h := Fin.ext (by show (128 * h.val + v.val) / 128 = h.val; omega)
  have e2 : (⟨(128 * h.val + v.val) % 128, by omega⟩ : Fin 128) = v := Fin.ext (by show (128 * h.val + v.val) % 128 = v.val; omega)
  unfold oVal
  dsimp only
  rw [e1, e2]
  rfl
end

end Cert.Match

end
-- ==== Proof.Bits.OCover.lean ====
/- The second call's body writes every element of its output block, on each of its four paths. -/
module

public import proofs.«01_k».proof.Proof.Bits.OFirst
public import proofs.«01_k».proof.Proof.Bits.OEven
public import proofs.«01_k».proof.Proof.Bits.OOdd
public import proofs.«01_k».proof.Proof.Bits.OLast
public import Idealize.ShloMosaic.Lib.Pipeline.FrameBody

@[expose] public section

set_option maxRecDepth 16384
set_option Elab.async false

noncomputable section

namespace Cert.Kernel.Gen

open Cert.Kernel
open Idealize.ShloMosaic
open Idealize.ShloMosaic.TcCoe Idealize.ShloMosaic.Tactic
open Idealize.SL Idealize.SL.RA Idealize.SL.BI

variable {F : FTy → Type} [FloatOps F]

variable (c : Dev nD) (i : grid1.Coords)
  (arg3 : Memref sig .tc .vmem S8x2048 .f32) (harg3 : arg3.IsWhole)
  (arg4 : Memref sig .tc .vmem S8x8 .f32) (harg4 : arg4.IsWhole) (arg5 : Memref sig .tc .vmem S8x8 .f32) (harg5 : arg5.IsWhole)
  (arg6 : Memref sig .tc .vmem S1x8 .f32) (harg6 : arg6.IsWhole) (arg7 : Memref sig .tc .vmem S1x8 .f32) (harg7 : arg7.IsWhole)
  (arg8 : Memref sig .tc .vmem S4x2048 .f32) (harg8 : arg8.IsWhole) (arg9 : Memref sig .tc .vmem S8x1024 .f32) (harg9 : arg9.IsWhole)
  (T : S128.Idx → Elt F .i32) (KV : S512x137216.Idx → Elt F .f32)
  (x0 : S8x2048.Idx → Elt F .f32) (x1 : S8x8.Idx → Elt F .f32) (x2 : S8x8.Idx → Elt F .f32)
  (x3 : S1x8.Idx → Elt F .f32) (x4 : S1x8.Idx → Elt F .f32) (x5 : S4x2048.Idx → Elt F .f32)
  (qA qB : Fin 8 → PosShare TreeShare)

theorem oFirst_cover (hT : ∀ j, (T j).toNat < 512) (h1 : k1_cond1 i = 1#1) (h2 : k1_cond2 i = 1#1) (h3 : k1_cond3 i = 1#1) (h4 : ¬ k1_cond4 i = 1#1) (hi : (i 0).val = 0) :
    ∀ y, ∃ p ∈ (oRunFirst c i arg3 harg3 arg4 harg4 arg5 harg5 arg6 harg6 arg7 harg7 arg8 harg8 arg9 harg9 T KV x0 x1 x2 x3 x4 x5 qA qB hT h1 h2 h3 h4 hi).1, y ∈ p.1.set :=
  View.cover_of_tiledBy _ ![8, 128] (by sl_kernel_rfl)

theorem oEven_cover (hT : ∀ j, (T j).toNat < 512) (h1 : ¬ k1_cond1 i = 1#1) (h2 : k1_cond2 i = 1#1) (h3 : k1_cond3 i = 1#1) (h4 : ¬ k1_cond4 i = 1#1) (hi : (i 0).val + 1 < 16) :
    ∀ y, ∃ p ∈ (oRunEven c i arg3 harg3 arg4 harg4 arg5 harg5 arg6 harg6 arg7 harg7 arg8 harg8 arg9 harg9 T KV x0 x1 x2 x3 x4 x5 qA qB hT h1 h2 h3 h4 hi).1, y ∈ p.1.set :=
  View.cover_of_tiledBy _ ![8, 128] (by sl_kernel_rfl)

theorem oOdd_cover (hT : ∀ j, (T j).toNat < 512) (h1 : ¬ k1_cond1 i = 1#1) (h2 : ¬ k1_cond2 i = 1#1) (h4 : k1_cond4 i = 1#1) (h5 : k1_cond5 i = 1#1) (hi : (i 0).val + 1 < 16) :
    ∀ y, ∃ p ∈ (oRunOdd c i arg3 harg3 arg4 harg4 arg5 harg5 arg6 harg6 arg7 harg7 arg8 harg8 arg9 harg9 T KV x0 x1 x2 x3 x4 x5 qA qB hT h1 h2 h4 h5 hi).1, y ∈ p.1.set :=
  View.cover_of_tiledBy _ ![8, 128] (by sl_kernel_rfl)

theorem oLast_cover (hT : ∀ j, (T j).toNat < 512) (h1 : ¬ k1_cond1 i = 1#1) (h2 : ¬ k1_cond2 i = 1#1) (h4 : k1_cond4 i = 1#1) (h5 : ¬ k1_cond5 i = 1#1) :
    ∀ y, ∃ p ∈ (oRunLast c i arg3 harg3 arg4 harg4 arg5 harg5 arg6 harg6 arg7 harg7 arg8 harg8 arg9 harg9 T KV x0 x1 x2 x3 x4 x5 qB hT h1 h2 h4 h5).1, y ∈ p.1.set :=
  View.cover_of_tiledBy _ ![8, 128] (by sl_kernel_rfl)

end Cert.Kernel.Gen

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Pre
public import proofs.«01_k».proof.Proof.PreFinite
public import proofs.«01_k».proof.Proof.Values
public import proofs.«01_k».proof.Proof.LastHit
public import proofs.«01_k».proof.Proof.Run
public import proofs.«01_k».proof.Proof.Table
public import proofs.«01_k».proof.Proof.Bits.Run
public import proofs.«01_k».proof.Proof.Bits.Table
public import proofs.«01_k».proof.Proof.RefRun
public import Idealize.ShloMosaic.Lib.Quiescent

@[expose] public section

noncomputable section

namespace Cert.Proof

open Idealize.ShloMosaic Idealize.SL.Sem

/-- The kernel as printed, with block indices in range. -/
theorem kernel_frame : Cert.quiescent_Kernel (hKernel := Cert.Kernel.Gen.facts) := by
  intro m g h
  have hb : ∀ j, (Cert.Kernel.Gen.blocks m j).toNat < 512 := fun j => Cert.Pre.range (h 0) j
  have hs := Cert.Kernel.Gen.blocks_run m hb
  exact (θ_run _ _ _).mono (fun r e => ⟨e.1, e.2.2⟩) (Cert.Kernel.Gen.run_read m hs.1 hs.2 g)

/-- The idealized kernel, with block indices in range. -/
theorem ideal_frame : Cert.quiescent_KernelIdeal (hKernelIdeal := Cert.KernelIdeal.Gen.facts) := by
  intro m g h
  have hb : ∀ j, (Cert.KernelIdeal.Gen.blocks m j).toNat < 512 := fun j => Cert.Pre.range (h 0) j
  have hs := Cert.KernelIdeal.Gen.blocks_run m hb
  exact (θ_run _ _ _).mono (fun r e => ⟨e.1, e.2.2⟩) (Cert.KernelIdeal.Gen.run_read m hs.1 hs.2 g)

/-- The same with the finite arguments of the value claim. -/
theorem ideal_frame_finite : Cert.quiescent_KernelIdeal_pre_in_range_finite (hKernelIdeal := Cert.KernelIdeal.Gen.facts) := by
  intro m g h
  have hb : ∀ j, (Cert.KernelIdeal.Gen.blocks m j).toNat < 512 := fun j => (Cert.Pre.range_finite (h 0)).1 j
  have hs := Cert.KernelIdeal.Gen.blocks_run m hb
  exact (θ_run _ _ _).mono (fun r e => ⟨e.1, e.2.2⟩) (Cert.KernelIdeal.Gen.run_read m hs.1 hs.2 g)

/-- The reference, from any memory. -/
theorem reference_frame : Cert.quiescent_ReferenceIdeal (hReferenceIdeal := Cert.ReferenceIdeal.Gen.facts) := by
  intro m g _
  refine (θ_run _ _ _).mono (fun r e => ⟨fun c => ?_, sem_eq_zero_of_no_sems (by decide) r.2⟩) (Cert.Ref.run_main (F := Ideal) m g)
  obtain ⟨e0, e1, e2, e3, e4, e5, e6, e7⟩ := Cert.Ref.final_args (StableHlo.launchContents m c)
  exact ⟨(e c _).trans e0, (e c _).trans e1, (e c _).trans e2, (e c _).trans e3, (e c _).trans e4, (e c _).trans e5,
    (e c _).trans e6, (e c _).trans e7⟩

/-- The same with the finite arguments of the value claim. -/
theorem reference_frame_finite : Cert.quiescent_ReferenceIdeal_pre_in_range_finite (hReferenceIdeal := Cert.ReferenceIdeal.Gen.facts) :=
  fun m g _ => reference_frame m g trivial

section
variable (m : (ℓ : Loc Cert.KernelIdeal.nD Cert.KernelIdeal.τ Cert.KernelIdeal.sig) → Buf (Elt Ideal) ℓ)

/-- An argument of the kernel, as launched. -/
abbrev given (r : Ref Cert.KernelIdeal.sig .tc) := Cert.KernelIdeal.Gen.arg m 0 r

/-- The output, in the reference's words. -/
def output : FVec Ideal Cert.ReferenceIdeal.S128x8x128 .f32 :=
  Cert.Ref.outO (given m Cert.KernelIdeal.main_arg0) (given m Cert.KernelIdeal.main_arg1) (given m Cert.KernelIdeal.main_arg2) (given m Cert.KernelIdeal.main_arg3)
    (given m Cert.KernelIdeal.main_arg4) (given m Cert.KernelIdeal.main_arg5) (given m Cert.KernelIdeal.main_arg6) (given m Cert.KernelIdeal.main_arg7)

/-- The new memory, in the reference's words. -/
def memory : FVec Ideal Cert.ReferenceIdeal.S512x137216 .f32 :=
  Cert.Ref.outMem (given m Cert.KernelIdeal.main_arg0) (given m Cert.KernelIdeal.main_arg1) (given m Cert.KernelIdeal.main_arg2) (given m Cert.KernelIdeal.main_arg3)
    (given m Cert.KernelIdeal.main_arg4) (given m Cert.KernelIdeal.main_arg5) (given m Cert.KernelIdeal.main_arg6) (given m Cert.KernelIdeal.main_arg7)

variable (h0 : ∀ j, Cert.KernelIdeal.Gen.TokWord (Cert.KernelIdeal.Gen.tokTable m j)) (h1 : ∀ j, (Cert.KernelIdeal.Gen.blkTable m j).toNat < 512)
  (hb : ∀ e : Fin 128, (Cert.KernelIdeal.Gen.blocks m (ix1 e)).toNat < 512)
  (r0 : ∀ i, Cert.Match.IsReal (given m Cert.KernelIdeal.main_arg0 i)) (r3 : ∀ i, Cert.Match.IsReal (given m Cert.KernelIdeal.main_arg3 i))
  (r4 : ∀ i, Cert.Match.IsReal (given m Cert.KernelIdeal.main_arg4 i))
include hb r0 r3 r4

theorem output_eq (c : Dev Cert.KernelIdeal.nD) :
    Cert.KernelIdeal.Gen.V4 m (Cert.KernelIdeal.Gen.results m h0 h1) c (Proc.devRef .tc Cert.KernelIdeal.main_v14) = output m := by
  obtain rfl : c = 0 := Subsingleton.elim _ _
  funext i
  rw [eq_ix3 i]
  exact (Cert.KernelIdeal.Gen.o_at m h0 h1 0 (i 0) (i 1) (i 2)).trans
    (Cert.Match.outO_val _ _ _ _ _ _ _ _ hb r0 r3 r4 (i 0) (i 1) (i 2)).symm

theorem memory_eq (c : Dev Cert.KernelIdeal.nD) : Cert.KernelIdeal.Gen.memResult m h0 c = memory m := by
  obtain rfl : c = 0 := Subsingleton.elim _ _
  funext i
  rw [eq_ix2 i]
  exact (Cert.KernelIdeal.Gen.mem_at m h0 0 (i 0) (i 1)).trans
    (Cert.Match.outMem_eq _ _ _ _ _ _ _ _ hb r0 r3 r4 (i 0) (i 1)).symm
end

open Cert.ReferenceIdeal in
theorem outO_arrays {a0 b0 : FVec Ideal S128x2048 .f32} {a1 b1 a2 b2 : FVec Ideal S128x8 .f32} {a3 b3 : FVec Ideal S512x137216 .f32} {a4 b4 : FVec Ideal S2048x4 .f32}
    {a5 b5 a6 b6 : FVec Ideal S8 .f32} {a7 b7 : IVec S128 32} (e0 : a0 = b0) (e1 : a1 = b1) (e2 : a2 = b2) (e3 : a3 = b3) (e4 : a4 = b4) (e5 : a5 = b5) (e6 : a6 = b6)
    (e7 : a7 = b7) : Cert.Ref.outO a0 a1 a2 a3 a4 a5 a6 a7 = Cert.Ref.outO b0 b1 b2 b3 b4 b5 b6 b7 := by
  subst e0 e1 e2 e3 e4 e5 e6 e7; rfl

open Cert.ReferenceIdeal in
theorem outMem_arrays {a0 b0 : FVec Ideal S128x2048 .f32} {a1 b1 a2 b2 : FVec Ideal S128x8 .f32} {a3 b3 : FVec Ideal S512x137216 .f32} {a4 b4 : FVec Ideal S2048x4 .f32}
    {a5 b5 a6 b6 : FVec Ideal S8 .f32} {a7 b7 : IVec S128 32} (e0 : a0 = b0) (e1 : a1 = b1) (e2 : a2 = b2) (e3 : a3 = b3) (e4 : a4 = b4) (e5 : a5 = b5) (e6 : a6 = b6)
    (e7 : a7 = b7) : Cert.Ref.outMem a0 a1 a2 a3 a4 a5 a6 a7 = Cert.Ref.outMem b0 b1 b2 b3 b4 b5 b6 b7 := by
  subst e0 e1 e2 e3 e4 e5 e6 e7; rfl

/-- The two programs end with the same two results. -/
theorem algebraic : Cert.algebraic_KernelIdeal_ReferenceIdeal_pre_in_range_finite (hKernelIdeal := Cert.KernelIdeal.Gen.facts)
    (hReferenceIdeal := Cert.ReferenceIdeal.Gen.facts) := by
  intro m g m' g' h hm
  obtain ⟨hb, r0, r3, r4⟩ := Cert.Pre.range_finite (h 0)
  have hb' : ∀ j, (Cert.KernelIdeal.Gen.blocks m j).toNat < 512 := fun j => hb j
  have hs := Cert.KernelIdeal.Gen.blocks_run m hb'
  refine ⟨fun _ => output m, fun _ => memory m, ?_, ?_⟩
  · refine (θ_run _ _ _).mono (fun r e c => ⟨?_, ?_, e.1 c⟩) (Cert.KernelIdeal.Gen.run_read m hs.1 hs.2 g)
    · exact (e.2.1 c).2.trans (output_eq m hs.1 hs.2 (fun e => hb' (ix1 e)) r0 r3 r4 c)
    · exact (e.2.1 c).1.trans (memory_eq m hs.1 (fun e => hb' (ix1 e)) r0 r3 r4 c)
  · refine (θ_run _ _ _).mono (fun r e c => ?_) (Cert.Ref.run_main (F := Ideal) m' g')
    obtain rfl : c = 0 := Subsingleton.elim _ _
    obtain ⟨m0, m1, m2, m3, m4, m5, m6, m7⟩ := hm 0
    obtain ⟨e0, e1, e2, e3, e4, e5, e6, e7⟩ := Cert.Ref.final_args (StableHlo.launchContents m' 0)
    refine ⟨(e 0 _).trans ((Cert.Ref.final_o _).trans ?_), (e 0 _).trans ((Cert.Ref.final_mem _).trans ?_), (e 0 _).trans e0, (e 0 _).trans e1, (e 0 _).trans e2,
      (e 0 _).trans e3, (e 0 _).trans e4, (e 0 _).trans e5, (e 0 _).trans e6, (e 0 _).trans e7⟩
    · exact outO_arrays m0 m1 m2 m3 m4 m5 m6 m7
    · exact outMem_arrays m0 m1 m2 m3 m4 m5 m6 m7

theorem claim : Cert.Claim :=
  ⟨Cert.Kernel.Gen.facts, Cert.KernelIdeal.Gen.facts, Cert.ReferenceIdeal.Gen.facts, Cert.Pre.facts_in_range, Cert.Pre.facts_in_range_finite,
    kernel_frame, ideal_frame, ideal_frame_finite, reference_frame, reference_frame_finite, trivial, algebraic⟩

end Cert.Proof

end
